-- ==== Defs.lean ====
def Pre_Kernel [hPre_edges_in_range : Cert.Pre_edges_in_range.Facts] (m : (ℓ : Loc Cert.Kernel.nD Cert.Kernel.τ Cert.Kernel.sig) → Buf (Elt Bits) ℓ) : Prop :=
  ∀ c : Dev Cert.Kernel.nD,
    (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_KernelIdeal_graph_in_range [hPre_graph_in_range : Cert.Pre_graph_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_graph_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph_in_range [hPre_graph_in_range : Cert.Pre_graph_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_edges_in_range : Cert.Pre_edges_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_graph_in_range [hKernelIdeal : Cert.KernelIdeal.Facts] [hPre_graph_in_range : Cert.Pre_graph_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_graph_in_range [hReferenceIdeal : Cert.ReferenceIdeal.Facts] [hPre_graph_in_range : Cert.Pre_graph_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_graph_in_range [hKernelIdeal : Cert.KernelIdeal.Facts] [hReferenceIdeal : Cert.ReferenceIdeal.Facts] [hPre_graph_in_range : Cert.Pre_graph_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v62_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_edges_in_range : Cert.Pre_edges_in_range.Facts) (hPre_graph_in_range : Cert.Pre_graph_in_range.Facts),
    quiescent_Kernel (hKernel := hKernel) (hPre_edges_in_range := hPre_edges_in_range)
    ∧ quiescent_KernelIdeal (hKernelIdeal := hKernelIdeal) (hPre_edges_in_range := hPre_edges_in_range)
    ∧ quiescent_KernelIdeal_pre_graph_in_range (hKernelIdeal := hKernelIdeal) (hPre_graph_in_range := hPre_graph_in_range)
    ∧ quiescent_ReferenceIdeal (hReferenceIdeal := hReferenceIdeal)
    ∧ quiescent_ReferenceIdeal_pre_graph_in_range (hReferenceIdeal := hReferenceIdeal) (hPre_graph_in_range := hPre_graph_in_range)
    ∧ preserves_Kernel_KernelIdeal
    ∧ algebraic_KernelIdeal_ReferenceIdeal_pre_graph_in_range (hKernelIdeal := hKernelIdeal) (hReferenceIdeal := hReferenceIdeal) (hPre_graph_in_range := hPre_graph_in_range)
-- ==== Pre_edges_in_range.lean ====
abbrev S50000x3 : Shape := ⟨2, ![50000, 3]⟩
abbrev S2x800000 : Shape := ⟨2, ![2, 800000]⟩
abbrev S800000 : Shape := ⟨1, ![800000]⟩
abbrev S50000 : Shape := ⟨1, ![50000]⟩
abbrev S8x24 : Shape := ⟨2, ![8, 24]⟩
abbrev S25x24 : Shape := ⟨2, ![25, 24]⟩
abbrev S72x96 : Shape := ⟨2, ![72, 96]⟩
abbrev S3x72x96 : Shape := ⟨3, ![3, 72, 96]⟩
abbrev S96 : Shape := ⟨1, ![96]⟩
abbrev S96x96 : Shape := ⟨2, ![96, 96]⟩
abbrev S3x96x96 : Shape := ⟨3, ![3, 96, 96]⟩
abbrev S96x16 : Shape := ⟨2, ![96, 16]⟩
abbrev S16 : Shape := ⟨1, ![16]⟩
abbrev S_ : Shape := ⟨0, ![]⟩

class Facts : Prop where
  bcast_S_S2x800000 : S_.BroadcastsInDim S2x800000 (![] : Fin 0 → Fin S2x800000.rank)
  reducesTo_S2x800000_S_d0_1 : S2x800000.ReducesTo [0, 1] S_
  h_S_ : 0 < S_.numel

variable [Facts]

def fn {F : FTy → Type} [FloatOps F] (main_arg0 : IVec S50000x3 32) (main_arg1 : IVec S2x800000 32) (main_arg2 : IVec S800000 32) (main_arg3 : IVec S50000 32) (main_arg4 : FVec F S8x24 .f32) (main_arg5 : FVec F S8x24 .f32) (main_arg6 : FVec F S25x24 .f32) (main_arg7 : FVec F S72x96 .f32) (main_arg8 : FVec F S3x72x96 .f32) (main_arg9 : FVec F S96 .f32) (main_arg10 : FVec F S96x96 .f32) (main_arg11 : FVec F S3x96x96 .f32) (main_arg12 : FVec F S96 .f32) (main_arg13 : FVec F S96x16 .f32) (main_arg14 : FVec F S16 .f32) : IVec S_ 1 :=
  let main_c : IVec S_ 32 := constantI S_ 32 0#32
  let main_v0 : IVec S2x800000 32 := broadcastInDim S2x800000 ![] bcast_S_S2x800000 main_c
  let main_v1 : IVec S2x800000 1 := cmpi .sge main_arg1 main_v0
  let main_c_0 : IVec S_ 32 := constantI S_ 32 50000#32
  let main_v2 : IVec S2x800000 32 := broadcastInDim S2x800000 ![] bcast_S_S2x800000 main_c_0
  let main_v3 : IVec S2x800000 1 := cmpi .slt main_arg1 main_v2
  let main_v4 : IVec S2x800000 1 := andi main_v1 main_v3
  let main_c_1 : IVec S_ 1 := constantI S_ 1 1#1
  let main_v5 : IVec S_ 1 := (fun x v => Host.reduce IntOp.andi x v reducesTo_S2x800000_S_d0_1 h_S_) main_v4 main_c_1
  main_v5
-- ==== Pre_graph_in_range.lean ====
abbrev S50000x3 : Shape := ⟨2, ![50000, 3]⟩
abbrev S2x800000 : Shape := ⟨2, ![2, 800000]⟩
abbrev S800000 : Shape := ⟨1, ![800000]⟩
abbrev S50000 : Shape := ⟨1, ![50000]⟩
abbrev S8x24 : Shape := ⟨2, ![8, 24]⟩
abbrev S25x24 : Shape := ⟨2, ![25, 24]⟩
abbrev S72x96 : Shape := ⟨2, ![72, 96]⟩
abbrev S3x72x96 : Shape := ⟨3, ![3, 72, 96]⟩
abbrev S96 : Shape := ⟨1, ![96]⟩
abbrev S96x96 : Shape := ⟨2, ![96, 96]⟩
abbrev S3x96x96 : Shape := ⟨3, ![3, 96, 96]⟩
abbrev S96x16 : Shape := ⟨2, ![96, 16]⟩
abbrev S16 : Shape := ⟨1, ![16]⟩
abbrev S_ : Shape := ⟨0, ![]⟩

class Facts : Prop where
  bcast_S_S2x800000 : S_.BroadcastsInDim S2x800000 (![] : Fin 0 → Fin S2x800000.rank)
  reducesTo_S2x800000_S_d0_1 : S2x800000.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S8x24 : S_.BroadcastsInDim S8x24 (![] : Fin 0 → Fin S8x24.rank)
  reducesTo_S8x24_S_d0_1 : S8x24.ReducesTo [0, 1] S_
  bcast_S_S25x24 : S_.BroadcastsInDim S25x24 (![] : Fin 0 → Fin S25x24.rank)
  reducesTo_S25x24_S_d0_1 : S25x24.ReducesTo [0, 1] S_
  bcast_S_S3x72x96 : S_.BroadcastsInDim S3x72x96 (![] : Fin 0 → Fin S3x72x96.rank)
  reducesTo_S3x72x96_S_d0_1_2 : S3x72x96.ReducesTo [0, 1, 2] S_

variable [Facts]

def fn_part1 {F : FTy → Type} [FloatOps F] (main_arg5 : FVec F S8x24 .f32) (main_arg6 : FVec F S25x24 .f32) (main_arg8 : FVec F S3x72x96 .f32) (main_v12 : IVec S_ 1) (main_v15 : IVec S8x24 1) (main_c_5 : IVec S_ 1) : IVec S_ 1 :=
  let main_v16 : IVec S_ 1 := (fun x v => Host.reduce IntOp.andi x v reducesTo_S8x24_S_d0_1 h_S_) main_v15 main_c_5
  let main_v17 : IVec S_ 1 := andi main_v12 main_v16
  let main_v18 : FVec F S8x24 .f32 := Host.absf main_arg5
  let main_cst_6 : FVec F S_ .f32 := constant S_ .f32 0x7F800000#32
  let main_v19 : FVec F S8x24 .f32 := broadcastInDim S8x24 ![] bcast_S_S8x24 main_cst_6
  let main_v20 : IVec S8x24 1 := cmpf .olt main_v18 main_v19
  let main_c_7 : IVec S_ 1 := constantI S_ 1 1#1
  let main_v21 : IVec S_ 1 := (fun x v => Host.reduce IntOp.andi x v reducesTo_S8x24_S_d0_1 h_S_) main_v20 main_c_7
  let main_v22 : IVec S_ 1 := andi main_v17 main_v21
  let main_v23 : FVec F S25x24 .f32 := Host.absf main_arg6
  let main_cst_8 : FVec F S_ .f32 := constant S_ .f32 0x7F800000#32
  let main_v24 : FVec F S25x24 .f32 := broadcastInDim S25x24 ![] bcast_S_S25x24 main_cst_8
  let main_v25 : IVec S25x24 1 := cmpf .olt main_v23 main_v24
  let main_c_9 : IVec S_ 1 := constantI S_ 1 1#1
  let main_v26 : IVec S_ 1 := (fun x v => Host.reduce IntOp.andi x v reducesTo_S25x24_S_d0_1 h_S_) main_v25 main_c_9
  let main_v27 : IVec S_ 1 := andi main_v22 main_v26
  let main_v28 : FVec F S3x72x96 .f32 := Host.absf main_arg8
  let main_cst_10 : FVec F S_ .f32 := constant S_ .f32 0x7F800000#32
  let main_v29 : FVec F S3x72x96 .f32 := broadcastInDim S3x72x96 ![] bcast_S_S3x72x96 main_cst_10
  let main_v30 : IVec S3x72x96 1 := cmpf .olt main_v28 main_v29
  let main_c_11 : IVec S_ 1 := constantI S_ 1 1#1
  let main_v31 : IVec S_ 1 := (fun x v => Host.reduce IntOp.andi x v reducesTo_S3x72x96_S_d0_1_2 h_S_) main_v30 main_c_11
  let main_v32 : IVec S_ 1 := andi main_v27 main_v31
  main_v32

def fn {F : FTy → Type} [FloatOps F] (main_arg0 : IVec S50000x3 32) (main_arg1 : IVec S2x800000 32) (main_arg2 : IVec S800000 32) (main_arg3 : IVec S50000 32) (main_arg4 : FVec F S8x24 .f32) (main_arg5 : FVec F S8x24 .f32) (main_arg6 : FVec F S25x24 .f32) (main_arg7 : FVec F S72x96 .f32) (main_arg8 : FVec F S3x72x96 .f32) (main_arg9 : FVec F S96 .f32) (main_arg10 : FVec F S96x96 .f32) (main_arg11 : FVec F S3x96x96 .f32) (main_arg12 : FVec F S96 .f32) (main_arg13 : FVec F S96x16 .f32) (main_arg14 : FVec F S16 .f32) : IVec S_ 1 :=
  let main_c : IVec S_ 32 := constantI S_ 32 0#32
  let main_v0 : IVec S2x800000 32 := broadcastInDim S2x800000 ![] bcast_S_S2x800000 main_c
  let main_v1 : IVec S2x800000 1 := cmpi .sge main_arg1 main_v0
  let main_c_0 : IVec S_ 32 := constantI S_ 32 50000#32
  let main_v2 : IVec S2x800000 32 := broadcastInDim S2x800000 ![] bcast_S_S2x800000 main_c_0
  let main_v3 : IVec S2x800000 1 := cmpi .slt main_arg1 main_v2
  let main_v4 : IVec S2x800000 1 := andi main_v1 main_v3
  let main_c_1 : IVec S_ 1 := constantI S_ 1 1#1
  let main_v5 : IVec S_ 1 := (fun x v => Host.reduce IntOp.andi x v reducesTo_S2x800000_S_d0_1 h_S_) main_v4 main_c_1
  let main_c_2 : IVec S_ 32 := constantI S_ 32 0#32
  let main_v6 : IVec S50000x3 32 := broadcastInDim S50000x3 ![] bcast_S_S50000x3 main_c_2
  let main_v7 : IVec S50000x3 1 := cmpi .sge main_arg0 main_v6
  let main_c_3 : IVec S_ 32 := constantI S_ 32 8#32
  let main_v8 : IVec S50000x3 32 := broadcastInDim S50000x3 ![] bcast_S_S50000x3 main_c_3
  let main_v9 : IVec S50000x3 1 := cmpi .slt main_arg0 main_v8
  let main_v10 : IVec S50000x3 1 := andi main_v7 main_v9
  let main_c_4 : IVec S_ 1 := constantI S_ 1 1#1
  let main_v11 : IVec S_ 1 := (fun x v => Host.reduce IntOp.andi x v reducesTo_S50000x3_S_d0_1 h_S_) main_v10 main_c_4
  let main_v12 : IVec S_ 1 := andi main_v5 main_v11
  let main_v13 : FVec F S8x24 .f32 := Host.absf main_arg4
  let main_cst : FVec F S_ .f32 := constant S_ .f32 0x7F800000#32
  let main_v14 : FVec F S8x24 .f32 := broadcastInDim S8x24 ![] bcast_S_S8x24 main_cst
  let main_v15 : IVec S8x24 1 := cmpf .olt main_v13 main_v14
  let main_c_5 : IVec S_ 1 := constantI S_ 1 1#1
  fn_part1 (F := F) main_arg5 main_arg6 main_arg8 main_v12 main_v15 main_c_5
-- ==== Kernel.lean ====
abbrev S50000x3 : Shape := ⟨2, ![50000, 3]⟩
abbrev S2x800000 : Shape := ⟨2, ![2, 800000]⟩
abbrev S800000 : Shape := ⟨1, ![800000]⟩
abbrev S50000 : Shape := ⟨1, ![50000]⟩
abbrev S8x24 : Shape := ⟨2, ![8, 24]⟩
abbrev S25x24 : Shape := ⟨2, ![25, 24]⟩
abbrev S72x96 : Shape := ⟨2, ![72, 96]⟩
abbrev S3x72x96 : Shape := ⟨3, ![3, 72, 96]⟩
abbrev S96 : Shape := ⟨1, ![96]⟩
abbrev S96x96 : Shape := ⟨2, ![96, 96]⟩
abbrev S3x96x96 : Shape := ⟨3, ![3, 96, 96]⟩
abbrev S96x16 : Shape := ⟨2, ![96, 16]⟩
abbrev S16 : Shape := ⟨1, ![16]⟩
abbrev S1x800000 : Shape := ⟨2, ![1, 800000]⟩
abbrev S200x1x4000 : Shape := ⟨3, ![200, 1, 4000]⟩
abbrev S_ : Shape := ⟨0, ![]⟩
abbrev S50000x96 : Shape := ⟨2, ![50000, 96]⟩
abbrev S2000x3 : Shape := ⟨2, ![2000, 3]⟩
abbrev S2000x96 : Shape := ⟨2, ![2000, 96]⟩
abbrev S2000x1 : Shape := ⟨2, ![2000, 1]⟩
abbrev S2000 : Shape := ⟨1, ![2000]⟩
abbrev S2000x8 : Shape := ⟨2, ![2000, 8]⟩
abbrev S2000x24 : Shape := ⟨2, ![2000, 24]⟩
abbrev S2000x25 : Shape := ⟨2, ![2000, 25]⟩
abbrev S2000x23 : Shape := ⟨2, ![2000, 23]⟩
abbrev S50008x96 : Shape := ⟨2, ![50008, 96]⟩
abbrev S1x1x4000 : Shape := ⟨3, ![1, 1, 4000]⟩
abbrev S1x1x1 : Shape := ⟨3, ![1, 1, 1]⟩
abbrev S1x96 : Shape := ⟨2, ![1, 96]⟩
abbrev S50000x1 : Shape := ⟨2, ![50000, 1]⟩
abbrev S2000x72 : Shape := ⟨2, ![2000, 72]⟩
abbrev S1x72x96 : Shape := ⟨3, ![1, 72, 96]⟩
abbrev S1x96x96 : Shape := ⟨3, ![1, 96, 96]⟩
abbrev S1x16 : Shape := ⟨2, ![1, 16]⟩
abbrev S512x96 : Shape := ⟨2, ![512, 96]⟩
abbrev S512x128 : Shape := ⟨2, ![512, 128]⟩
abbrev S512x16 : Shape := ⟨2, ![512, 16]⟩
abbrev S2000x512 : Shape := ⟨2, ![2000, 512]⟩
abbrev S2000x128 : Shape := ⟨2, ![2000, 128]⟩
abbrev S512x1 : Shape := ⟨2, ![512, 1]⟩

abbrev nBuf : Space → Nat
  | .hbm => 98
  | .vmem => 58
  | .smem => 24
  | _ => 0

abbrev bufTy : (tb : Table) → Fin (tcTables nBuf tb) → BufTy
  | .hbm, ⟨0, _⟩ => ⟨S50000x3, .i32⟩
  | .hbm, ⟨1, _⟩ => ⟨S2x800000, .i32⟩
  | .hbm, ⟨2, _⟩ => ⟨S800000, .i32⟩
  | .hbm, ⟨3, _⟩ => ⟨S50000, .i32⟩
  | .hbm, ⟨4, _⟩ => ⟨S8x24, .f32⟩
  | .hbm, ⟨5, _⟩ => ⟨S8x24, .f32⟩
  | .hbm, ⟨6, _⟩ => ⟨S25x24, .f32⟩
  | .hbm, ⟨7, _⟩ => ⟨S72x96, .f32⟩
  | .hbm, ⟨8, _⟩ => ⟨S3x72x96, .f32⟩
  | .hbm, ⟨9, _⟩ => ⟨S96, .f32⟩
  | .hbm, ⟨10, _⟩ => ⟨S96x96, .f32⟩
  | .hbm, ⟨11, _⟩ => ⟨S3x96x96, .f32⟩
  | .hbm, ⟨12, _⟩ => ⟨S96, .f32⟩
  | .hbm, ⟨13, _⟩ => ⟨S96x16, .f32⟩
  | .hbm, ⟨14, _⟩ => ⟨S16, .f32⟩
  | .hbm, ⟨15, _⟩ => ⟨S1x800000, .i32⟩
  | .hbm, ⟨16, _⟩ => ⟨S800000, .i32⟩
  | .hbm, ⟨17, _⟩ => ⟨S200x1x4000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S1x800000, .i32⟩
  | .hbm, ⟨22, _⟩ => ⟨S800000, .i32⟩
  | .hbm, ⟨23, _⟩ => ⟨S_, .i32⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S200x1x4000, .i32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S1x800000, .i32⟩
  | .hbm, ⟨32, _⟩ => ⟨S800000, .i32⟩
  | .hbm, ⟨33, _⟩ => ⟨S_, .i32⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S200x1x4000, .i32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S1x800000, .i32⟩
  | .hbm, ⟨42, _⟩ => ⟨S800000, .i32⟩
  | .hbm, ⟨43, _⟩ => ⟨S_, .i32⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S200x1x4000, .i32⟩
  | .hbm, ⟨48, _⟩ => ⟨S50000x96, .f32⟩
  | .hbm, ⟨49, _⟩ => ⟨S50008x96, .f32⟩
  | .hbm, ⟨50, _⟩ => ⟨S50000x96, .f32⟩
  | .hbm, ⟨51, _⟩ => ⟨S50008x96, .f32⟩
  | .hbm, ⟨52, _⟩ => ⟨S50000x96, .f32⟩
  | .hbm, ⟨53, _⟩ => ⟨S50008x96, .f32⟩
  | .hbm, ⟨54, _⟩ => ⟨S50000x96, .f32⟩
  | .hbm, ⟨55, _⟩ => ⟨S50000x1, .f32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x1, .f32⟩
  | .hbm, ⟨81, _⟩ => ⟨S50000x1, .f32⟩
  | .hbm, ⟨82, _⟩ => ⟨S50000x3, .f32⟩
  | .hbm, ⟨83, _⟩ => ⟨S1x96, .f32⟩
  | .hbm, ⟨84, _⟩ => ⟨S50000x96, .f32⟩
  | .hbm, ⟨85, _⟩ => ⟨S50008x96, .f32⟩
  | .hbm, ⟨86, _⟩ => ⟨S50000x96, .f32⟩
  | .hbm, ⟨87, _⟩ => ⟨S50008x96, .f32⟩
  | .hbm, ⟨88, _⟩ => ⟨S50000x96, .f32⟩
  | .hbm, ⟨89, _⟩ => ⟨S50008x96, .f32⟩
  | .hbm, ⟨90, _⟩ => ⟨S50000x96, .f32⟩
  | .hbm, ⟨91, _⟩ => ⟨S1x96, .f32⟩
  | .hbm, ⟨92, _⟩ => ⟨S50000x96, .f32⟩
  | .hbm, ⟨93, _⟩ => ⟨S50000x1, .i32⟩
  | .hbm, ⟨94, _⟩ => ⟨S1x16, .f32⟩
  | .hbm, ⟨95, _⟩ => ⟨S512x96, .f32⟩
  | .hbm, ⟨96, _⟩ => ⟨S512x128, .f32⟩
  | .hbm, ⟨97, _⟩ => ⟨S512x16, .f32⟩
  | .local _ .vmem, ⟨0, _⟩ => ⟨S2000x3, .i32⟩
  | .local _ .vmem, ⟨1, _⟩ => ⟨S2000x3, .i32⟩
  | .local _ .vmem, ⟨2, _⟩ => ⟨S8x24, .f32⟩
  | .local _ .vmem, ⟨3, _⟩ => ⟨S8x24, .f32⟩
  | .local _ .vmem, ⟨4, _⟩ => ⟨S25x24, .f32⟩
  | .local _ .vmem, ⟨5, _⟩ => ⟨S2000x96, .f32⟩
  | .local _ .vmem, ⟨6, _⟩ => ⟨S2000x96, .f32⟩
  | .local _ .vmem, ⟨7, _⟩ => ⟨S50000x96, .f32⟩
  | .local _ .vmem, ⟨8, _⟩ => ⟨S50008x96, .f32⟩
  | .local _ .vmem, ⟨9, _⟩ => ⟨S50000x96, .f32⟩
  | .local _ .vmem, ⟨10, _⟩ => ⟨S50008x96, .f32⟩
  | .local _ .vmem, ⟨11, _⟩ => ⟨S50000x96, .f32⟩
  | .local _ .vmem, ⟨12, _⟩ => ⟨S50008x96, .f32⟩
  | .local _ .vmem, ⟨13, _⟩ => ⟨S2000x96, .f32⟩
  | .local _ .vmem, ⟨14, _⟩ => ⟨S2000x96, .f32⟩
  | .local _ .vmem, ⟨15, _⟩ => ⟨S2000x96, .f32⟩
  | .local _ .vmem, ⟨16, _⟩ => ⟨S2000x96, .f32⟩
  | .local _ .vmem, ⟨17, _⟩ => ⟨S2000x96, .f32⟩
  | .local _ .vmem, ⟨18, _⟩ => ⟨S2000x96, .f32⟩
  | .local _ .vmem, ⟨19, _⟩ => ⟨S2000x96, .f32⟩
  | .local _ .vmem, ⟨20, _⟩ => ⟨S2000x96, .f32⟩
  | .local _ .vmem, ⟨21, _⟩ => ⟨S2000x3, .f32⟩
  | .local _ .vmem, ⟨22, _⟩ => ⟨S2000x3, .f32⟩
  | .local _ .vmem, ⟨23, _⟩ => ⟨S72x96, .f32⟩
  | .local _ .vmem, ⟨24, _⟩ => ⟨S3x72x96, .f32⟩
  | .local _ .vmem, ⟨25, _⟩ => ⟨S1x96, .f32⟩
  | .local _ .vmem, ⟨26, _⟩ => ⟨S2000x96, .f32⟩
  | .local _ .vmem, ⟨27, _⟩ => ⟨S2000x96, .f32⟩
  | .local _ .vmem, ⟨28, _⟩ => ⟨S50000x96, .f32⟩
  | .local _ .vmem, ⟨29, _⟩ => ⟨S50008x96, .f32⟩
  | .local _ .vmem, ⟨30, _⟩ => ⟨S50000x96, .f32⟩
  | .local _ .vmem, ⟨31, _⟩ => ⟨S50008x96, .f32⟩
  | .local _ .vmem, ⟨32, _⟩ => ⟨S50000x96, .f32⟩
  | .local _ .vmem, ⟨33, _⟩ => ⟨S50008x96, .f32⟩
  | .local _ .vmem, ⟨34, _⟩ => ⟨S2000x96, .f32⟩
  | .local _ .vmem, ⟨35, _⟩ => ⟨S2000x96, .f32⟩
  | .local _ .vmem, ⟨36, _⟩ => ⟨S2000x96, .f32⟩
  | .local _ .vmem, ⟨37, _⟩ => ⟨S2000x96, .f32⟩
  | .local _ .vmem, ⟨38, _⟩ => ⟨S2000x96, .f32⟩
  | .local _ .vmem, ⟨39, _⟩ => ⟨S2000x96, .f32⟩
  | .local _ .vmem, ⟨40, _⟩ => ⟨S2000x96, .f32⟩
  | .local _ .vmem, ⟨41, _⟩ => ⟨S2000x96, .f32⟩
  | .local _ .vmem, ⟨42, _⟩ => ⟨S2000x3, .f32⟩
  | .local _ .vmem, ⟨43, _⟩ => ⟨S2000x3, .f32⟩
  | .local _ .vmem, ⟨44, _⟩ => ⟨S96x96, .f32⟩
  | .local _ .vmem, ⟨45, _⟩ => ⟨S3x96x96, .f32⟩
  | .local _ .vmem, ⟨46, _⟩ => ⟨S1x96, .f32⟩
  | .local _ .vmem, ⟨47, _⟩ => ⟨S2000x96, .f32⟩
  | .local _ .vmem, ⟨48, _⟩ => ⟨S2000x96, .f32⟩
  | .local _ .vmem, ⟨49, _⟩ => ⟨S2000x96, .f32⟩
  | .local _ .vmem, ⟨50, _⟩ => ⟨S2000x96, .f32⟩
  | .local _ .vmem, ⟨51, _⟩ => ⟨S2000x1, .i32⟩
  | .local _ .vmem, ⟨52, _⟩ => ⟨S2000x1, .i32⟩
  | .local _ .vmem, ⟨53, _⟩ => ⟨S96x16, .f32⟩
  | .local _ .vmem, ⟨54, _⟩ => ⟨S1x16, .f32⟩
  | .local _ .vmem, ⟨55, _⟩ => ⟨S512x96, .f32⟩
  | .local _ .vmem, ⟨56, _⟩ => ⟨S512x128, .f32⟩
  | .local _ .vmem, ⟨57, _⟩ => ⟨S512x16, .f32⟩
  | .local _ .smem, ⟨0, _⟩ => ⟨S1x1x4000, .i32⟩
  | .local _ .smem, ⟨1, _⟩ => ⟨S1x1x4000, .i32⟩
  | .local _ .smem, ⟨2, _⟩ => ⟨S1x1x4000, .i32⟩
  | .local _ .smem, ⟨3, _⟩ => ⟨S1x1x4000, .i32⟩
  | .local _ .smem, ⟨4, _⟩ => ⟨S1x1x4000, .i32⟩
  | .local _ .smem, ⟨5, _⟩ => ⟨S1x1x4000, .i32⟩
  | .local _ .smem, ⟨6, _⟩ => ⟨S1x1x4000, .i32⟩
  | .local _ .smem, ⟨7, _⟩ => ⟨S1x1x4000, .i32⟩
  | .local _ .smem, ⟨8, _⟩ => ⟨S1x1x4000, .i32⟩
  | .local _ .smem, ⟨9, _⟩ => ⟨S1x1x4000, .i32⟩
  | .local _ .smem, ⟨10, _⟩ => ⟨S1x1x4000, .i32⟩
  | .local _ .smem, ⟨11, _⟩ => ⟨S1x1x4000, .i32⟩
  | .local _ .smem, ⟨12, _⟩ => ⟨S1x1x4000, .i32⟩
  | .local _ .smem, ⟨13, _⟩ => ⟨S1x1x4000, .i32⟩
  | .local _ .smem, ⟨14, _⟩ => ⟨S1x1x4000, .i32⟩
  | .local _ .smem, ⟨15, _⟩ => ⟨S1x1x4000, .i32⟩
  | .local _ .smem, ⟨16, _⟩ => ⟨S1x1x4000, .i32⟩
  | .local _ .smem, ⟨17, _⟩ => ⟨S1x1x4000, .i32⟩
  | .local _ .smem, ⟨18, _⟩ => ⟨S1x1x4000, .i32⟩
  | .local _ .smem, ⟨19, _⟩ => ⟨S1x1x4000, .i32⟩
  | .local _ .smem, ⟨20, _⟩ => ⟨S1x1x4000, .i32⟩
  | .local _ .smem, ⟨21, _⟩ => ⟨S1x1x4000, .i32⟩
  | .local _ .smem, ⟨22, _⟩ => ⟨S1x1x4000, .i32⟩
  | .local _ .smem, ⟨23, _⟩ => ⟨S1x1x4000, .i32⟩
  | _, _ => ⟨S50000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | .smem, ⟨12, _⟩ => true
  | .smem, ⟨13, _⟩ => true
  | .smem, ⟨14, _⟩ => true
  | .smem, ⟨15, _⟩ => true
  | .smem, ⟨16, _⟩ => true
  | .smem, ⟨17, _⟩ => true
  | .smem, ⟨18, _⟩ => true
  | .smem, ⟨19, _⟩ => true
  | .smem, ⟨20, _⟩ => true
  | .smem, ⟨21, _⟩ => true
  | .smem, ⟨22, _⟩ => true
  | .smem, ⟨23, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_call0_v0 : Ref sig .tc := ⟨.hbm, 24, rfl⟩
abbrev main_call0_v1 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_call1_v0 : Ref sig .tc := ⟨.hbm, 34, rfl⟩
abbrev main_call1_v1 : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_call2_v0 : Ref sig .tc := ⟨.hbm, 44, rfl⟩
abbrev main_call2_v1 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst : Ref sig .tc := ⟨.hbm, 57, rfl⟩
abbrev main_v30 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_8 : Ref sig .tc := ⟨.hbm, 73, rfl⟩
abbrev main_v42 : Ref sig .tc := ⟨.hbm, 74, rfl⟩
abbrev main_v43 : Ref sig .tc := ⟨.hbm, 75, rfl⟩
abbrev main_cst_9 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62_0 : Ref sig .tc := ⟨.hbm, 95, rfl⟩
abbrev main_v62_1 : Ref sig .tc := ⟨.hbm, 96, rfl⟩
abbrev main_v62_2 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg2_0 : Ref sig .tc := ⟨.vmem, 7, rfl⟩
abbrev cc1_stg3_0 : Ref sig .tc := ⟨.vmem, 8, rfl⟩
abbrev cc2_stg2_0 : Ref sig .tc := ⟨.vmem, 9, rfl⟩
abbrev cc2_stg3_0 : Ref sig .tc := ⟨.vmem, 10, rfl⟩
abbrev cc3_stg2_0 : Ref sig .tc := ⟨.vmem, 11, rfl⟩
abbrev cc3_stg3_0 : Ref sig .tc := ⟨.vmem, 12, rfl⟩
abbrev cc4_stg0_0 : Ref sig .tc := ⟨.vmem, 13, rfl⟩
abbrev cc4_stg0_1 : Ref sig .tc := ⟨.vmem, 14, rfl⟩
abbrev cc4_stg1_0 : Ref sig .tc := ⟨.vmem, 15, rfl⟩
abbrev cc4_stg1_1 : Ref sig .tc := ⟨.vmem, 16, rfl⟩
abbrev cc4_stg2_0 : Ref sig .tc := ⟨.vmem, 17, rfl⟩
abbrev cc4_stg2_1 : Ref sig .tc := ⟨.vmem, 18, rfl⟩
abbrev cc4_stg3_0 : Ref sig .tc := ⟨.vmem, 19, rfl⟩
abbrev cc4_stg3_1 : Ref sig .tc := ⟨.vmem, 20, rfl⟩
abbrev cc4_stg4_0 : Ref sig .tc := ⟨.vmem, 21, rfl⟩
abbrev cc4_stg4_1 : Ref sig .tc := ⟨.vmem, 22, rfl⟩
abbrev cc4_stg5_0 : Ref sig .tc := ⟨.vmem, 23, rfl⟩
abbrev cc4_stg6_0 : Ref sig .tc := ⟨.vmem, 24, rfl⟩
abbrev cc4_stg7_0 : Ref sig .tc := ⟨.vmem, 25, rfl⟩
abbrev cc4_stg8_0 : Ref sig .tc := ⟨.vmem, 26, rfl⟩
abbrev cc4_stg8_1 : Ref sig .tc := ⟨.vmem, 27, rfl⟩
abbrev cc5_stg2_0 : Ref sig .tc := ⟨.vmem, 28, rfl⟩
abbrev cc5_stg3_0 : Ref sig .tc := ⟨.vmem, 29, rfl⟩
abbrev cc6_stg2_0 : Ref sig .tc := ⟨.vmem, 30, rfl⟩
abbrev cc6_stg3_0 : Ref sig .tc := ⟨.vmem, 31, rfl⟩
abbrev cc7_stg2_0 : Ref sig .tc := ⟨.vmem, 32, rfl⟩
abbrev cc7_stg3_0 : Ref sig .tc := ⟨.vmem, 33, rfl⟩
abbrev cc8_stg0_0 : Ref sig .tc := ⟨.vmem, 34, rfl⟩
abbrev cc8_stg0_1 : Ref sig .tc := ⟨.vmem, 35, rfl⟩
abbrev cc8_stg1_0 : Ref sig .tc := ⟨.vmem, 36, rfl⟩
abbrev cc8_stg1_1 : Ref sig .tc := ⟨.vmem, 37, rfl⟩
abbrev cc8_stg2_0 : Ref sig .tc := ⟨.vmem, 38, rfl⟩
abbrev cc8_stg2_1 : Ref sig .tc := ⟨.vmem, 39, rfl⟩
abbrev cc8_stg3_0 : Ref sig .tc := ⟨.vmem, 40, rfl⟩
abbrev cc8_stg3_1 : Ref sig .tc := ⟨.vmem, 41, rfl⟩
abbrev cc8_stg4_0 : Ref sig .tc := ⟨.vmem, 42, rfl⟩
abbrev cc8_stg4_1 : Ref sig .tc := ⟨.vmem, 43, rfl⟩
abbrev cc8_stg5_0 : Ref sig .tc := ⟨.vmem, 44, rfl⟩
abbrev cc8_stg6_0 : Ref sig .tc := ⟨.vmem, 45, rfl⟩
abbrev cc8_stg7_0 : Ref sig .tc := ⟨.vmem, 46, rfl⟩
abbrev cc8_stg8_0 : Ref sig .tc := ⟨.vmem, 47, rfl⟩
abbrev cc8_stg8_1 : Ref sig .tc := ⟨.vmem, 48, rfl⟩
abbrev cc9_stg0_0 : Ref sig .tc := ⟨.vmem, 49, rfl⟩
abbrev cc9_stg0_1 : Ref sig .tc := ⟨.vmem, 50, rfl⟩
abbrev cc9_stg1_0 : Ref sig .tc := ⟨.vmem, 51, rfl⟩
abbrev cc9_stg1_1 : Ref sig .tc := ⟨.vmem, 52, rfl⟩
abbrev cc9_stg2_0 : Ref sig .tc := ⟨.vmem, 53, rfl⟩
abbrev cc9_stg3_0 : Ref sig .tc := ⟨.vmem, 54, rfl⟩
abbrev cc9_stg4_0 : Ref sig .tc := ⟨.vmem, 55, rfl⟩
abbrev cc9_stg5_0 : Ref sig .tc := ⟨.vmem, 56, rfl⟩
abbrev cc9_stg6_0 : Ref sig .tc := ⟨.vmem, 57, rfl⟩
abbrev cc1_stg0_0 : Ref sig .tc := ⟨.smem, 0, rfl⟩
abbrev cc1_stg0_1 : Ref sig .tc := ⟨.smem, 1, rfl⟩
abbrev cc1_stg1_0 : Ref sig .tc := ⟨.smem, 2, rfl⟩
abbrev cc1_stg1_1 : Ref sig .tc := ⟨.smem, 3, rfl⟩
abbrev cc2_stg0_0 : Ref sig .tc := ⟨.smem, 4, rfl⟩
abbrev cc2_stg0_1 : Ref sig .tc := ⟨.smem, 5, rfl⟩
abbrev cc2_stg1_0 : Ref sig .tc := ⟨.smem, 6, rfl⟩
abbrev cc2_stg1_1 : Ref sig .tc := ⟨.smem, 7, rfl⟩
abbrev cc3_stg0_0 : Ref sig .tc := ⟨.smem, 8, rfl⟩
abbrev cc3_stg0_1 : Ref sig .tc := ⟨.smem, 9, rfl⟩
abbrev cc3_stg1_0 : Ref sig .tc := ⟨.smem, 10, rfl⟩
abbrev cc3_stg1_1 : Ref sig .tc := ⟨.smem, 11, rfl⟩
abbrev cc5_stg0_0 : Ref sig .tc := ⟨.smem, 12, rfl⟩
abbrev cc5_stg0_1 : Ref sig .tc := ⟨.smem, 13, rfl⟩
abbrev cc5_stg1_0 : Ref sig .tc := ⟨.smem, 14, rfl⟩
abbrev cc5_stg1_1 : Ref sig .tc := ⟨.smem, 15, rfl⟩
abbrev cc6_stg0_0 : Ref sig .tc := ⟨.smem, 16, rfl⟩
abbrev cc6_stg0_1 : Ref sig .tc := ⟨.smem, 17, rfl⟩
abbrev cc6_stg1_0 : Ref sig .tc := ⟨.smem, 18, rfl⟩
abbrev cc6_stg1_1 : Ref sig .tc := ⟨.smem, 19, rfl⟩
abbrev cc7_stg0_0 : Ref sig .tc := ⟨.smem, 20, rfl⟩
abbrev cc7_stg0_1 : Ref sig .tc := ⟨.smem, 21, rfl⟩
abbrev cc7_stg1_0 : Ref sig .tc := ⟨.smem, 22, rfl⟩
abbrev cc7_stg1_1 : Ref sig .tc := ⟨.smem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc4_sem4_0 : DmaSem sig := 33
abbrev cc4_sem4_1 : DmaSem sig := 34
abbrev cc4_sem5_0 : DmaSem sig := 35
abbrev cc4_sem6_0 : DmaSem sig := 36
abbrev cc4_sem7_0 : DmaSem sig := 37
abbrev cc4_sem8_0 : DmaSem sig := 38
abbrev cc4_sem8_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem3_0 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem3_0 : DmaSem sig := 57
abbrev cc8_sem0_0 : DmaSem sig := 58
abbrev cc8_sem0_1 : DmaSem sig := 59
abbrev cc8_sem1_0 : DmaSem sig := 60
abbrev cc8_sem1_1 : DmaSem sig := 61
abbrev cc8_sem2_0 : DmaSem sig := 62
abbrev cc8_sem2_1 : DmaSem sig := 63
abbrev cc8_sem3_0 : DmaSem sig := 64
abbrev cc8_sem3_1 : DmaSem sig := 65
abbrev cc8_sem4_0 : DmaSem sig := 66
abbrev cc8_sem4_1 : DmaSem sig := 67
abbrev cc8_sem5_0 : DmaSem sig := 68
abbrev cc8_sem6_0 : DmaSem sig := 69
abbrev cc8_sem7_0 : DmaSem sig := 70
abbrev cc8_sem8_0 : DmaSem sig := 71
abbrev cc8_sem8_1 : DmaSem sig := 72
abbrev cc9_sem0_0 : DmaSem sig := 73
abbrev cc9_sem0_1 : DmaSem sig := 74
abbrev cc9_sem1_0 : DmaSem sig := 75
abbrev cc9_sem1_1 : DmaSem sig := 76
abbrev cc9_sem2_0 : DmaSem sig := 77
abbrev cc9_sem3_0 : DmaSem sig := 78
abbrev cc9_sem4_0 : DmaSem sig := 79
abbrev cc9_sem5_0 : DmaSem sig := 80
abbrev cc9_sem6_0 : DmaSem sig := 81

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S25x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

@[reducible] def k1_t1_loop : Scf.Loop 32 :=
  let c0_i32_1 : BitVec 32 := 0#32
  let c4000_i32 : BitVec 32 := 4000#32
  let v3 : BitVec 32 := Scalar.addi c0_i32_1 c4000_i32
  let c1_i32 : BitVec 32 := 1#32
  ⟨c0_i32_1, v3, c1_i32⟩
def k1_off1 (k1_t1 : Fin k1_t1_loop.trips) : Fin 3 → Nat :=
  let c0 : Index := 0#32
  let c0_3 : Index := 0#32
  let c0_i32_1 : BitVec 32 := 0#32
  let c1_i32 : BitVec 32 := 1#32
  let arg5 : BitVec 32 := Scf.iv c0_i32_1 c1_i32 k1_t1
  let v4 : Index := Scalar.indexCast arg5
  ![0, 0, v4.toNat]
def k1_off2 (v7 : BitVec 32) : Fin 2 → Nat :=
  let v8 : Index := Scalar.indexCast v7
  let c0_6 : Index := 0#32
  ![v8.toNat, 0]

def k1_off3 (v5 : BitVec 32) : Fin 2 → Nat :=
  let v11 : Index := Scalar.indexCast v5
  let c0_7 : Index := 0#32
  ![v11.toNat, 0]

def k1_chk2 (v5 : BitVec 32) : Prop :=
  (∀ a, (k1_off3 v5) a + S1x96.size a ≤ S50000x96.size a)
theorem k1_off3_inb : ∀ (v5 : BitVec 32) (k1_hw2 : k1_chk2 v5), ∀ a, (k1_off3 v5) a + S1x96.size a ≤ S50000x96.size a := fun v5 k1_hw2 => k1_hw2

def k1_off4 (v7 : BitVec 32) : Fin 2 → Nat :=
  let v15 : Index := Scalar.indexCast v7
  let c0_8 : Index := 0#32
  ![v15.toNat, 0]

def k1_chk1 (v7 : BitVec 32) : Prop :=
  (∀ a, (k1_off2 v7) a + S1x96.size a ≤ S50008x96.size a) ∧
  (∀ a, (k1_off4 v7) a + S1x96.size a ≤ S50008x96.size a)
theorem k1_off2_inb : ∀ (v7 : BitVec 32) (k1_hw1 : k1_chk1 v7), ∀ a, (k1_off2 v7) a + S1x96.size a ≤ S50008x96.size a := fun v7 k1_hw1 => k1_hw1.1
theorem k1_off4_inb : ∀ (v7 : BitVec 32) (k1_hw1 : k1_chk1 v7), ∀ a, (k1_off4 v7) a + S1x96.size a ≤ S50008x96.size a := fun v7 k1_hw1 => k1_hw1.2

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .smem S1x1x4000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .smem S1x1x4000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S50000x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S50008x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![200], ![false]⟩

@[reducible] def k2_t1_loop : Scf.Loop 32 :=
  let c0_i32_1 : BitVec 32 := 0#32
  let c4000_i32 : BitVec 32 := 4000#32
  let v3 : BitVec 32 := Scalar.addi c0_i32_1 c4000_i32
  let c1_i32 : BitVec 32 := 1#32
  ⟨c0_i32_1, v3, c1_i32⟩
def k2_off1 (k2_t1 : Fin k2_t1_loop.trips) : Fin 3 → Nat :=
  let c0 : Index := 0#32
  let c0_3 : Index := 0#32
  let c0_i32_1 : BitVec 32 := 0#32
  let c1_i32 : BitVec 32 := 1#32
  let arg5 : BitVec 32 := Scf.iv c0_i32_1 c1_i32 k2_t1
  let v4 : Index := Scalar.indexCast arg5
  ![0, 0, v4.toNat]
def k2_off2 (v7 : BitVec 32) : Fin 2 → Nat :=
  let v8 : Index := Scalar.indexCast v7
  let c0_6 : Index := 0#32
  ![v8.toNat, 0]

def k2_off3 (v5 : BitVec 32) : Fin 2 → Nat :=
  let v11 : Index := Scalar.indexCast v5
  let c0_7 : Index := 0#32
  ![v11.toNat, 0]

def k2_chk2 (v5 : BitVec 32) : Prop :=
  (∀ a, (k2_off3 v5) a + S1x96.size a ≤ S50000x96.size a)
theorem k2_off3_inb : ∀ (v5 : BitVec 32) (k2_hw2 : k2_chk2 v5), ∀ a, (k2_off3 v5) a + S1x96.size a ≤ S50000x96.size a := fun v5 k2_hw2 => k2_hw2

def k2_off4 (v7 : BitVec 32) : Fin 2 → Nat :=
  let v15 : Index := Scalar.indexCast v7
  let c0_8 : Index := 0#32
  ![v15.toNat, 0]

def k2_chk1 (v7 : BitVec 32) : Prop :=
  (∀ a, (k2_off2 v7) a + S1x96.size a ≤ S50008x96.size a) ∧
  (∀ a, (k2_off4 v7) a + S1x96.size a ≤ S50008x96.size a)
theorem k2_off2_inb : ∀ (v7 : BitVec 32) (k2_hw1 : k2_chk1 v7), ∀ a, (k2_off2 v7) a + S1x96.size a ≤ S50008x96.size a := fun v7 k2_hw1 => k2_hw1.1
theorem k2_off4_inb : ∀ (v7 : BitVec 32) (k2_hw1 : k2_chk1 v7), ∀ a, (k2_off4 v7) a + S1x96.size a ≤ S50008x96.size a := fun v7 k2_hw1 => k2_hw1.2

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .smem S1x1x4000 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .smem S1x1x4000 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S50000x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S50008x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![200], ![false]⟩

@[reducible] def k3_t1_loop : Scf.Loop 32 :=
  let c0_i32_1 : BitVec 32 := 0#32
  let c4000_i32 : BitVec 32 := 4000#32
  let v3 : BitVec 32 := Scalar.addi c0_i32_1 c4000_i32
  let c1_i32 : BitVec 32 := 1#32
  ⟨c0_i32_1, v3, c1_i32⟩
def k3_off1 (k3_t1 : Fin k3_t1_loop.trips) : Fin 3 → Nat :=
  let c0 : Index := 0#32
  let c0_3 : Index := 0#32
  let c0_i32_1 : BitVec 32 := 0#32
  let c1_i32 : BitVec 32 := 1#32
  let arg5 : BitVec 32 := Scf.iv c0_i32_1 c1_i32 k3_t1
  let v4 : Index := Scalar.indexCast arg5
  ![0, 0, v4.toNat]
def k3_off2 (v7 : BitVec 32) : Fin 2 → Nat :=
  let v8 : Index := Scalar.indexCast v7
  let c0_6 : Index := 0#32
  ![v8.toNat, 0]

def k3_off3 (v5 : BitVec 32) : Fin 2 → Nat :=
  let v11 : Index := Scalar.indexCast v5
  let c0_7 : Index := 0#32
  ![v11.toNat, 0]

def k3_chk2 (v5 : BitVec 32) : Prop :=
  (∀ a, (k3_off3 v5) a + S1x96.size a ≤ S50000x96.size a)
theorem k3_off3_inb : ∀ (v5 : BitVec 32) (k3_hw2 : k3_chk2 v5), ∀ a, (k3_off3 v5) a + S1x96.size a ≤ S50000x96.size a := fun v5 k3_hw2 => k3_hw2

def k3_off4 (v7 : BitVec 32) : Fin 2 → Nat :=
  let v15 : Index := Scalar.indexCast v7
  let c0_8 : Index := 0#32
  ![v15.toNat, 0]

def k3_chk1 (v7 : BitVec 32) : Prop :=
  (∀ a, (k3_off2 v7) a + S1x96.size a ≤ S50008x96.size a) ∧
  (∀ a, (k3_off4 v7) a + S1x96.size a ≤ S50008x96.size a)
theorem k3_off2_inb : ∀ (v7 : BitVec 32) (k3_hw1 : k3_chk1 v7), ∀ a, (k3_off2 v7) a + S1x96.size a ≤ S50008x96.size a := fun v7 k3_hw1 => k3_hw1.1
theorem k3_off4_inb : ∀ (v7 : BitVec 32) (k3_hw1 : k3_chk1 v7), ∀ a, (k3_off4 v7) a + S1x96.size a ≤ S50008x96.size a := fun v7 k3_hw1 => k3_hw1.2

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .smem S1x1x4000 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .smem S1x1x4000 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S50000x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S50008x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x96 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x96 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S2000x3 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S72x96 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S3x72x96 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x96 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2000x96 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![200], ![false]⟩

@[reducible] def k5_t1_loop : Scf.Loop 32 :=
  let c0_i32_1 : BitVec 32 := 0#32
  let c4000_i32 : BitVec 32 := 4000#32
  let v3 : BitVec 32 := Scalar.addi c0_i32_1 c4000_i32
  let c1_i32 : BitVec 32 := 1#32
  ⟨c0_i32_1, v3, c1_i32⟩
def k5_off1 (k5_t1 : Fin k5_t1_loop.trips) : Fin 3 → Nat :=
  let c0 : Index := 0#32
  let c0_3 : Index := 0#32
  let c0_i32_1 : BitVec 32 := 0#32
  let c1_i32 : BitVec 32 := 1#32
  let arg5 : BitVec 32 := Scf.iv c0_i32_1 c1_i32 k5_t1
  let v4 : Index := Scalar.indexCast arg5
  ![0, 0, v4.toNat]
def k5_off2 (v7 : BitVec 32) : Fin 2 → Nat :=
  let v8 : Index := Scalar.indexCast v7
  let c0_6 : Index := 0#32
  ![v8.toNat, 0]

def k5_off3 (v5 : BitVec 32) : Fin 2 → Nat :=
  let v11 : Index := Scalar.indexCast v5
  let c0_7 : Index := 0#32
  ![v11.toNat, 0]

def k5_chk2 (v5 : BitVec 32) : Prop :=
  (∀ a, (k5_off3 v5) a + S1x96.size a ≤ S50000x96.size a)
theorem k5_off3_inb : ∀ (v5 : BitVec 32) (k5_hw2 : k5_chk2 v5), ∀ a, (k5_off3 v5) a + S1x96.size a ≤ S50000x96.size a := fun v5 k5_hw2 => k5_hw2

def k5_off4 (v7 : BitVec 32) : Fin 2 → Nat :=
  let v15 : Index := Scalar.indexCast v7
  let c0_8 : Index := 0#32
  ![v15.toNat, 0]

def k5_chk1 (v7 : BitVec 32) : Prop :=
  (∀ a, (k5_off2 v7) a + S1x96.size a ≤ S50008x96.size a) ∧
  (∀ a, (k5_off4 v7) a + S1x96.size a ≤ S50008x96.size a)
theorem k5_off2_inb : ∀ (v7 : BitVec 32) (k5_hw1 : k5_chk1 v7), ∀ a, (k5_off2 v7) a + S1x96.size a ≤ S50008x96.size a := fun v7 k5_hw1 => k5_hw1.1
theorem k5_off4_inb : ∀ (v7 : BitVec 32) (k5_hw1 : k5_chk1 v7), ∀ a, (k5_off4 v7) a + S1x96.size a ≤ S50008x96.size a := fun v7 k5_hw1 => k5_hw1.2

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .smem S1x1x4000 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .smem S1x1x4000 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S50000x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S50008x96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![200], ![false]⟩

@[reducible] def k6_t1_loop : Scf.Loop 32 :=
  let c0_i32_1 : BitVec 32 := 0#32
  let c4000_i32 : BitVec 32 := 4000#32
  let v3 : BitVec 32 := Scalar.addi c0_i32_1 c4000_i32
  let c1_i32 : BitVec 32 := 1#32
  ⟨c0_i32_1, v3, c1_i32⟩
def k6_off1 (k6_t1 : Fin k6_t1_loop.trips) : Fin 3 → Nat :=
  let c0 : Index := 0#32
  let c0_3 : Index := 0#32
  let c0_i32_1 : BitVec 32 := 0#32
  let c1_i32 : BitVec 32 := 1#32
  let arg5 : BitVec 32 := Scf.iv c0_i32_1 c1_i32 k6_t1
  let v4 : Index := Scalar.indexCast arg5
  ![0, 0, v4.toNat]
def k6_off2 (v7 : BitVec 32) : Fin 2 → Nat :=
  let v8 : Index := Scalar.indexCast v7
  let c0_6 : Index := 0#32
  ![v8.toNat, 0]

def k6_off3 (v5 : BitVec 32) : Fin 2 → Nat :=
  let v11 : Index := Scalar.indexCast v5
  let c0_7 : Index := 0#32
  ![v11.toNat, 0]

def k6_chk2 (v5 : BitVec 32) : Prop :=
  (∀ a, (k6_off3 v5) a + S1x96.size a ≤ S50000x96.size a)
theorem k6_off3_inb : ∀ (v5 : BitVec 32) (k6_hw2 : k6_chk2 v5), ∀ a, (k6_off3 v5) a + S1x96.size a ≤ S50000x96.size a := fun v5 k6_hw2 => k6_hw2

def k6_off4 (v7 : BitVec 32) : Fin 2 → Nat :=
  let v15 : Index := Scalar.indexCast v7
  let c0_8 : Index := 0#32
  ![v15.toNat, 0]

def k6_chk1 (v7 : BitVec 32) : Prop :=
  (∀ a, (k6_off2 v7) a + S1x96.size a ≤ S50008x96.size a) ∧
  (∀ a, (k6_off4 v7) a + S1x96.size a ≤ S50008x96.size a)
theorem k6_off2_inb : ∀ (v7 : BitVec 32) (k6_hw1 : k6_chk1 v7), ∀ a, (k6_off2 v7) a + S1x96.size a ≤ S50008x96.size a := fun v7 k6_hw1 => k6_hw1.1
theorem k6_off4_inb : ∀ (v7 : BitVec 32) (k6_hw1 : k6_chk1 v7), ∀ a, (k6_off4 v7) a + S1x96.size a ≤ S50008x96.size a := fun v7 k6_hw1 => k6_hw1.2

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .smem S1x1x4000 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .smem S1x1x4000 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S50000x96 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S50008x96 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![200], ![false]⟩

@[reducible] def k7_t1_loop : Scf.Loop 32 :=
  let c0_i32_1 : BitVec 32 := 0#32
  let c4000_i32 : BitVec 32 := 4000#32
  let v3 : BitVec 32 := Scalar.addi c0_i32_1 c4000_i32
  let c1_i32 : BitVec 32 := 1#32
  ⟨c0_i32_1, v3, c1_i32⟩
def k7_off1 (k7_t1 : Fin k7_t1_loop.trips) : Fin 3 → Nat :=
  let c0 : Index := 0#32
  let c0_3 : Index := 0#32
  let c0_i32_1 : BitVec 32 := 0#32
  let c1_i32 : BitVec 32 := 1#32
  let arg5 : BitVec 32 := Scf.iv c0_i32_1 c1_i32 k7_t1
  let v4 : Index := Scalar.indexCast arg5
  ![0, 0, v4.toNat]
def k7_off2 (v7 : BitVec 32) : Fin 2 → Nat :=
  let v8 : Index := Scalar.indexCast v7
  let c0_6 : Index := 0#32
  ![v8.toNat, 0]

def k7_off3 (v5 : BitVec 32) : Fin 2 → Nat :=
  let v11 : Index := Scalar.indexCast v5
  let c0_7 : Index := 0#32
  ![v11.toNat, 0]

def k7_chk2 (v5 : BitVec 32) : Prop :=
  (∀ a, (k7_off3 v5) a + S1x96.size a ≤ S50000x96.size a)
theorem k7_off3_inb : ∀ (v5 : BitVec 32) (k7_hw2 : k7_chk2 v5), ∀ a, (k7_off3 v5) a + S1x96.size a ≤ S50000x96.size a := fun v5 k7_hw2 => k7_hw2

def k7_off4 (v7 : BitVec 32) : Fin 2 → Nat :=
  let v15 : Index := Scalar.indexCast v7
  let c0_8 : Index := 0#32
  ![v15.toNat, 0]

def k7_chk1 (v7 : BitVec 32) : Prop :=
  (∀ a, (k7_off2 v7) a + S1x96.size a ≤ S50008x96.size a) ∧
  (∀ a, (k7_off4 v7) a + S1x96.size a ≤ S50008x96.size a)
theorem k7_off2_inb : ∀ (v7 : BitVec 32) (k7_hw1 : k7_chk1 v7), ∀ a, (k7_off2 v7) a + S1x96.size a ≤ S50008x96.size a := fun v7 k7_hw1 => k7_hw1.1
theorem k7_off4_inb : ∀ (v7 : BitVec 32) (k7_hw1 : k7_chk1 v7), ∀ a, (k7_off4 v7) a + S1x96.size a ≤ S50008x96.size a := fun v7 k7_hw1 => k7_hw1.2

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .smem S1x1x4000 .i32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .smem S1x1x4000 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S50000x96 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S50008x96 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x96 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x96 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x96 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S2000x96 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S2000x3 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S96x96 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S3x96x96 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x96 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 2 → Memref sig .tc .vmem S2000x96 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev grid9 : Pipeline.Grid := ⟨1, ![25], ![false]⟩

def k9_cond2 (i : grid9.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_14 : BitVec 32 := 0#32
  let v26 : BitVec 1 := Scalar.cmpi .ne v25 c0_i32_14
  v26

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x96 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S96x16 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x16 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S512x96 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S512x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S512x16 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]
-- ==== ReferenceIdeal.lean ====
abbrev S50000x3 : Shape := ⟨2, ![50000, 3]⟩
abbrev S2x800000 : Shape := ⟨2, ![2, 800000]⟩
abbrev S800000 : Shape := ⟨1, ![800000]⟩
abbrev S50000 : Shape := ⟨1, ![50000]⟩
abbrev S8x24 : Shape := ⟨2, ![8, 24]⟩
abbrev S25x24 : Shape := ⟨2, ![25, 24]⟩
abbrev S72x96 : Shape := ⟨2, ![72, 96]⟩
abbrev S3x72x96 : Shape := ⟨3, ![3, 72, 96]⟩
abbrev S96 : Shape := ⟨1, ![96]⟩
abbrev S96x96 : Shape := ⟨2, ![96, 96]⟩
abbrev S3x96x96 : Shape := ⟨3, ![3, 96, 96]⟩
abbrev S96x16 : Shape := ⟨2, ![96, 16]⟩
abbrev S16 : Shape := ⟨1, ![16]⟩
abbrev S50000x1 : Shape := ⟨2, ![50000, 1]⟩
abbrev S_ : Shape := ⟨0, ![]⟩
abbrev S50000x24 : Shape := ⟨2, ![50000, 24]⟩
abbrev S50000x72 : Shape := ⟨2, ![50000, 72]⟩
abbrev S1x800000 : Shape := ⟨2, ![1, 800000]⟩
abbrev S50000x96 : Shape := ⟨2, ![50000, 96]⟩
abbrev S1x96 : Shape := ⟨2, ![1, 96]⟩
abbrev S800000x1 : Shape := ⟨2, ![800000, 1]⟩
abbrev S800000x72 : Shape := ⟨2, ![800000, 72]⟩
abbrev S1x72x96 : Shape := ⟨3, ![1, 72, 96]⟩
abbrev S800000x96 : Shape := ⟨2, ![800000, 96]⟩
abbrev S1x96x96 : Shape := ⟨3, ![1, 96, 96]⟩
abbrev S512 : Shape := ⟨1, ![512]⟩
abbrev S512x96 : Shape := ⟨2, ![512, 96]⟩
abbrev S512x1 : Shape := ⟨2, ![512, 1]⟩
abbrev S512x16 : Shape := ⟨2, ![512, 16]⟩
abbrev S1x16 : Shape := ⟨2, ![1, 16]⟩

abbrev nBuf : Space → Nat
  | .hbm => 258
  | .vmem => 0
  | .smem => 0
  | _ => 0

abbrev hbmTy0_0 (i : Nat) : BufTy := match i % 128 with
  | 0 => ⟨S50000x3, .i32⟩
  | 1 => ⟨S2x800000, .i32⟩
  | 2 => ⟨S800000, .i32⟩
  | 3 => ⟨S50000, .i32⟩
  | 4 => ⟨S8x24, .f32⟩
  | 5 => ⟨S8x24, .f32⟩
  | 6 => ⟨S25x24, .f32⟩
  | 7 => ⟨S72x96, .f32⟩
  | 8 => ⟨S3x72x96, .f32⟩
  | 9 => ⟨S96, .f32⟩
  | 10 => ⟨S96x96, .f32⟩
  | 11 => ⟨S3x96x96, .f32⟩
  | 12 => ⟨S96, .f32⟩
  | 13 => ⟨S96x16, .f32⟩
  | 14 => ⟨S16, .f32⟩
  | 15 => ⟨S50000x1, .i32⟩
  | 16 => ⟨S50000, .i32⟩
  | 17 => ⟨S_, .i32⟩
  | 18 => ⟨S50000, .i32⟩
  | 19 => ⟨S50000, .i1⟩
  | 20 => ⟨S_, .i32⟩
  | 21 => ⟨S50000, .i32⟩
  | 22 => ⟨S50000, .i32⟩
  | 23 => ⟨S50000, .i32⟩
  | 24 => ⟨S50000x1, .i32⟩
  | 25 => ⟨S50000x24, .f32⟩
  | 26 => ⟨S50000x1, .i32⟩
  | 27 => ⟨S50000, .i32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S50000x24, .f32⟩
  | 37 => ⟨S50000x1, .i32⟩
  | 38 => ⟨S50000, .i32⟩
  | 39 => ⟨S_, .i32⟩
  | 40 => ⟨S50000, .i32⟩
  | 41 => ⟨S50000, .i32⟩
  | 42 => ⟨S_, .i32⟩
  | 43 => ⟨S50000, .i32⟩
  | 44 => ⟨S50000, .i1⟩
  | 45 => ⟨S_, .i32⟩
  | 46 => ⟨S50000, .i32⟩
  | 47 => ⟨S50000, .i32⟩
  | 48 => ⟨S50000, .i32⟩
  | 49 => ⟨S50000x1, .i32⟩
  | 50 => ⟨S50000x24, .f32⟩
  | 51 => ⟨S50000x72, .f32⟩
  | 52 => ⟨S1x800000, .i32⟩
  | 53 => ⟨S800000, .i32⟩
  | 54 => ⟨S1x800000, .i32⟩
  | 55 => ⟨S800000, .i32⟩
  | 56 => ⟨S50000x96, .f32⟩
  | 57 => ⟨S1x96, .f32⟩
  | 58 => ⟨S50000x96, .f32⟩
  | 59 => ⟨S50000x96, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x72, .f32⟩
  | 69 => ⟨S_, .i32⟩
  | 70 => ⟨S800000, .i32⟩
  | 71 => ⟨S800000, .i1⟩
  | 72 => ⟨S800000, .f32⟩
  | 73 => ⟨S1x72x96, .f32⟩
  | 74 => ⟨S72x96, .f32⟩
  | 75 => ⟨S800000x96, .f32⟩
  | 76 => ⟨S800000x1, .f32⟩
  | 77 => ⟨S800000x96, .f32⟩
  | 78 => ⟨S800000x96, .f32⟩
  | 79 => ⟨S_, .f32⟩
  | 80 => ⟨S50000x96, .f32⟩
  | 81 => ⟨S800000x1, .i32⟩
  | 82 => ⟨S50000x96, .f32⟩
  | 83 => ⟨S_, .f32⟩
  | 84 => ⟨S50000, .f32⟩
  | 85 => ⟨S800000x1, .i32⟩
  | 86 => ⟨S50000, .f32⟩
  | 87 => ⟨S_, .f32⟩
  | 88 => ⟨S50000, .f32⟩
  | 89 => ⟨S50000, .f32⟩
  | 90 => ⟨S50000x1, .f32⟩
  | 91 => ⟨S50000x96, .f32⟩
  | 92 => ⟨S50000x96, .f32⟩
  | 93 => ⟨S50000x96, .f32⟩
  | 94 => ⟨S_, .i32⟩
  | 95 => ⟨S800000, .i32⟩
  | 96 => ⟨S800000, .i1⟩
  | 97 => ⟨S800000, .f32⟩
  | 98 => ⟨S1x72x96, .f32⟩
  | 99 => ⟨S72x96, .f32⟩
  | 100 => ⟨S800000x96, .f32⟩
  | 101 => ⟨S800000x1, .f32⟩
  | 102 => ⟨S800000x96, .f32⟩
  | 103 => ⟨S800000x96, .f32⟩
  | 104 => ⟨S_, .f32⟩
  | 105 => ⟨S50000x96, .f32⟩
  | 106 => ⟨S800000x1, .i32⟩
  | 107 => ⟨S50000x96, .f32⟩
  | 108 => ⟨S_, .f32⟩
  | 109 => ⟨S50000, .f32⟩
  | 110 => ⟨S800000x1, .i32⟩
  | 111 => ⟨S50000, .f32⟩
  | 112 => ⟨S_, .f32⟩
  | 113 => ⟨S50000, .f32⟩
  | 114 => ⟨S50000, .f32⟩
  | 115 => ⟨S50000x1, .f32⟩
  | 116 => ⟨S50000x96, .f32⟩
  | 117 => ⟨S50000x96, .f32⟩
  | 118 => ⟨S50000x96, .f32⟩
  | 119 => ⟨S_, .i32⟩
  | 120 => ⟨S800000, .i32⟩
  | 121 => ⟨S800000, .i1⟩
  | 122 => ⟨S800000, .f32⟩
  | 123 => ⟨S1x72x96, .f32⟩
  | 124 => ⟨S72x96, .f32⟩
  | 125 => ⟨S800000x96, .f32⟩
  | 126 => ⟨S800000x1, .f32⟩
  | 127 => ⟨S800000x96, .f32⟩
  | _ => ⟨S50000x3, .i32⟩

abbrev hbmTy0_1 (i : Nat) : BufTy := match i % 128 with
  | 0 => ⟨S800000x96, .f32⟩
  | 1 => ⟨S_, .f32⟩
  | 2 => ⟨S50000x96, .f32⟩
  | 3 => ⟨S800000x1, .i32⟩
  | 4 => ⟨S50000x96, .f32⟩
  | 5 => ⟨S_, .f32⟩
  | 6 => ⟨S50000, .f32⟩
  | 7 => ⟨S800000x1, .i32⟩
  | 8 => ⟨S50000, .f32⟩
  | 9 => ⟨S_, .f32⟩
  | 10 => ⟨S50000, .f32⟩
  | 11 => ⟨S50000, .f32⟩
  | 12 => ⟨S50000x1, .f32⟩
  | 13 => ⟨S50000x96, .f32⟩
  | 14 => ⟨S50000x96, .f32⟩
  | 15 => ⟨S50000x96, .f32⟩
  | 16 => ⟨S_, .f32⟩
  | 17 => ⟨S50000x96, .f32⟩
  | 18 => ⟨S50000x96, .f32⟩
  | 19 => ⟨S50000x96, .f32⟩
  | 20 => ⟨S1x96, .f32⟩
  | 21 => ⟨S50000x96, .f32⟩
  | 22 => ⟨S50000x96, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x96, .f32⟩
  | 32 => ⟨S_, .i32⟩
  | 33 => ⟨S800000, .i32⟩
  | 34 => ⟨S800000, .i1⟩
  | 35 => ⟨S800000, .f32⟩
  | 36 => ⟨S1x96x96, .f32⟩
  | 37 => ⟨S96x96, .f32⟩
  | 38 => ⟨S800000x96, .f32⟩
  | 39 => ⟨S800000x1, .f32⟩
  | 40 => ⟨S800000x96, .f32⟩
  | 41 => ⟨S800000x96, .f32⟩
  | 42 => ⟨S_, .f32⟩
  | 43 => ⟨S50000x96, .f32⟩
  | 44 => ⟨S800000x1, .i32⟩
  | 45 => ⟨S50000x96, .f32⟩
  | 46 => ⟨S_, .f32⟩
  | 47 => ⟨S50000, .f32⟩
  | 48 => ⟨S800000x1, .i32⟩
  | 49 => ⟨S50000, .f32⟩
  | 50 => ⟨S_, .f32⟩
  | 51 => ⟨S50000, .f32⟩
  | 52 => ⟨S50000, .f32⟩
  | 53 => ⟨S50000x1, .f32⟩
  | 54 => ⟨S50000x96, .f32⟩
  | 55 => ⟨S50000x96, .f32⟩
  | 56 => ⟨S50000x96, .f32⟩
  | 57 => ⟨S_, .i32⟩
  | 58 => ⟨S800000, .i32⟩
  | 59 => ⟨S800000, .i1⟩
  | 60 => ⟨S800000, .f32⟩
  | 61 => ⟨S1x96x96, .f32⟩
  | 62 => ⟨S96x96, .f32⟩
  | 63 => ⟨S800000x96, .f32⟩
  | 64 => ⟨S800000x1, .f32⟩
  | 65 => ⟨S800000x96, .f32⟩
  | 66 => ⟨S800000x96, .f32⟩
  | 67 => ⟨S_, .f32⟩
  | 68 => ⟨S50000x96, .f32⟩
  | 69 => ⟨S800000x1, .i32⟩
  | 70 => ⟨S50000x96, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x96, .f32⟩
  | 80 => ⟨S50000x96, .f32⟩
  | 81 => ⟨S50000x96, .f32⟩
  | 82 => ⟨S_, .i32⟩
  | 83 => ⟨S800000, .i32⟩
  | 84 => ⟨S800000, .i1⟩
  | 85 => ⟨S800000, .f32⟩
  | 86 => ⟨S1x96x96, .f32⟩
  | 87 => ⟨S96x96, .f32⟩
  | 88 => ⟨S800000x96, .f32⟩
  | 89 => ⟨S800000x1, .f32⟩
  | 90 => ⟨S800000x96, .f32⟩
  | 91 => ⟨S800000x96, .f32⟩
  | 92 => ⟨S_, .f32⟩
  | 93 => ⟨S50000x96, .f32⟩
  | 94 => ⟨S800000x1, .i32⟩
  | 95 => ⟨S50000x96, .f32⟩
  | 96 => ⟨S_, .f32⟩
  | 97 => ⟨S50000, .f32⟩
  | 98 => ⟨S800000x1, .i32⟩
  | 99 => ⟨S50000, .f32⟩
  | 100 => ⟨S_, .f32⟩
  | 101 => ⟨S50000, .f32⟩
  | 102 => ⟨S50000, .f32⟩
  | 103 => ⟨S50000x1, .f32⟩
  | 104 => ⟨S50000x96, .f32⟩
  | 105 => ⟨S50000x96, .f32⟩
  | 106 => ⟨S50000x96, .f32⟩
  | 107 => ⟨S_, .f32⟩
  | 108 => ⟨S50000x96, .f32⟩
  | 109 => ⟨S50000x96, .f32⟩
  | 110 => ⟨S_, .f32⟩
  | 111 => ⟨S50000, .f32⟩
  | 112 => ⟨S_, .f32⟩
  | 113 => ⟨S512, .f32⟩
  | 114 => ⟨S50000x1, .i32⟩
  | 115 => ⟨S512, .f32⟩
  | 116 => ⟨S_, .f32⟩
  | 117 => ⟨S512x96, .f32⟩
  | 118 => ⟨S50000x1, .i32⟩
  | 119 => ⟨S512x96, .f32⟩
  | 120 => ⟨S_, .f32⟩
  | 121 => ⟨S512, .f32⟩
  | 122 => ⟨S512, .f32⟩
  | 123 => ⟨S512x1, .f32⟩
  | 124 => ⟨S512x96, .f32⟩
  | 125 => ⟨S512x96, .f32⟩
  | 126 => ⟨S512x16, .f32⟩
  | 127 => ⟨S1x16, .f32⟩
  | _ => ⟨S50000x3, .i32⟩

abbrev hbmTy0_2 (i : Nat) : BufTy := match i % 128 with
  | 0 => ⟨S512x16, .f32⟩
  | 1 => ⟨S512x16, .f32⟩
  | _ => ⟨S50000x3, .i32⟩

abbrev hbmTy (i : Nat) : BufTy := match i / 128 with
  | 0 => hbmTy0_0 i
  | 1 => hbmTy0_1 i
  | 2 => hbmTy0_2 i
  | _ => ⟨S50000x3, .i32⟩

abbrev bufTy : (tb : Table) → Fin (tcTables nBuf tb) → BufTy
  | .hbm, ⟨i, _⟩ => hbmTy i
  | _, _ => ⟨S50000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_6 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_12 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_13 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_14 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_15 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_16 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_17 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_18 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_call0_cst : Ref sig .tc := ⟨.hbm, 144, rfl⟩
abbrev main_call0_v0 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_c_19 : Ref sig .tc := ⟨.hbm, 151, rfl⟩
abbrev main_v113 : Ref sig .tc := ⟨.hbm, 152, rfl⟩
abbrev main_v114 : Ref sig .tc := ⟨.hbm, 153, rfl⟩
abbrev main_c_20 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_c_21 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_22 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_23 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_24 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_c_25 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_26 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_27 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_28 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_c_29 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_cst_30 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_cst_31 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_cst_32 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_call1_cst : Ref sig .tc := ⟨.hbm, 235, rfl⟩
abbrev main_call1_v0 : Ref sig .tc := ⟨.hbm, 236, rfl⟩
abbrev main_v183 : Ref sig .tc := ⟨.hbm, 237, rfl⟩
abbrev main_cst_33 : Ref sig .tc := ⟨.hbm, 238, rfl⟩
abbrev main_v184 : Ref sig .tc := ⟨.hbm, 239, rfl⟩
abbrev main_cst_34 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_cst_35 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_cst_36 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩

abbrev nD : Nat := 1
abbrev τ : Topo := Topo.v7x

variable {F : FTy → Type} [FloatOps F]
-- ==== Proof.KernelIdeal.Embed.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow
public import Idealize.ShloMosaic.Lib.WritesUnit
public import Idealize.ShloMosaic.Lib.PointwiseCore

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The embedding: what a point of the call stores -/

/-- What a point of the embedding call stores: the block's rows, 24 columns from each of the three tables, then the column of ones and the columns of zeros. -/
def embed (x0 : Vec F S2000x3 .i32) (x1 : Vec F S8x24 .f32) (x2 : Vec F S8x24 .f32) (x3 : Vec F S25x24 .f32) : Vec F S2000x96 .f32 := fun y =>
  if h1 : (y 1).val < 24 then k0_pay3 (VecWindow.window x0 ![0, 0] S2000x1.size inb_S2000x3_S2000x1_0_0) x1 (ix2 (y 0) ⟨(y 1).val, h1⟩)
  else if h2 : (y 1).val < 48 then k0_pay4 (VecWindow.window x0 ![0, 1] S2000x1.size inb_S2000x3_S2000x1_0_1) x2 (ix2 (y 0) ⟨(y 1).val - 24, by omega⟩)
  else if h3 : (y 1).val < 72 then k0_pay5 (VecWindow.window x0 ![0, 2] S2000x1.size inb_S2000x3_S2000x1_0_2) x3 (ix2 (y 0) ⟨(y 1).val - 48, by omega⟩)
  else if (y 1).val = 72 then k0_pay1 (F := F) (ix2 (y 0) 0)
  else k0_pay2 (F := F) (ix2 (y 0) 0)

/-- The five stores read back. -/
theorem embed_written (arg5 : Memref sig .tc .vmem S2000x96 .f32) (f : BufTy.Contents (Elt F) arg5.view.ty) (x0 : Vec F S2000x3 .i32) (x1 : Vec F S8x24 .f32) (x2 : Vec F S8x24 .f32) (x3 : Vec F S25x24 .f32) :
    arg5.view.read (Elt F) (arg5.view.writes (Elt F) f
      [⟨Rect.unit ![0, 73] S2000x23.size inb_S2000x96_S2000x23_0_73, k0_pay2 (F := F)⟩,
       ⟨Rect.unit ![0, 72] S2000x1.size inb_S2000x96_S2000x1_0_72, k0_pay1 (F := F)⟩,
       ⟨Rect.unit ![0, 48] S2000x24.size inb_S2000x96_S2000x24_0_48, k0_pay5 (VecWindow.window x0 ![0, 2] S2000x1.size inb_S2000x3_S2000x1_0_2) x3⟩,
       ⟨Rect.unit ![0, 24] S2000x24.size inb_S2000x96_S2000x24_0_24, k0_pay4 (VecWindow.window x0 ![0, 1] S2000x1.size inb_S2000x3_S2000x1_0_1) x2⟩,
       ⟨Rect.unit ![0, 0] S2000x24.size inb_S2000x96_S2000x24_0_0, k0_pay3 (VecWindow.window x0 ![0, 0] S2000x1.size inb_S2000x3_S2000x1_0_0) x1⟩])
      = embed x0 x1 x2 x3 := by
  funext y
  have hy : (y 1).val < 96 := (y 1).isLt
  have hin : ∀ (o n : ℕ) (z : Fin n) (h : (y 1).val = o + z.val), ∀ a : Fin 2, (y a).val = (![0, o] : Fin 2 → ℕ) a + ((ix2 (y 0) z : (⟨2, ![2000, n]⟩ : Shape).Idx) a).val := by
    intro o n z h a
    match a with
    | ⟨0, _⟩ => exact (Nat.zero_add _).symm
    | ⟨1, _⟩ => exact h
  unfold embed
  by_cases h1 : (y 1).val < 24
  · rw [dif_pos h1]
    refine (View.read_writes_cons_unit_of_not_mem arg5.view f _ _ _ y rfl 1 (Or.inl (show (y 1).val < 73 by omega))).trans ?_
    refine (View.read_writes_cons_unit_of_not_mem arg5.view f _ _ _ y rfl 1 (Or.inl (show (y 1).val < 72 by omega))).trans ?_
    refine (View.read_writes_cons_unit_of_not_mem arg5.view f _ _ _ y rfl 1 (Or.inl (show (y 1).val < 48 by omega))).trans ?_
    refine (View.read_writes_cons_unit_of_not_mem arg5.view f _ _ _ y rfl 1 (Or.inl (show (y 1).val < 24 by omega))).trans ?_
    exact View.read_writes_cons_unit_of_mem arg5.view f _ _ [] y (ix2 (y 0) ⟨(y 1).val, h1⟩) rfl (hin 0 24 ⟨(y 1).val, h1⟩ (Nat.zero_add _).symm)
  rw [dif_neg h1]
  by_cases h2 : (y 1).val < 48
  · rw [dif_pos h2]
    refine (View.read_writes_cons_unit_of_not_mem arg5.view f _ _ _ y rfl 1 (Or.inl (show (y 1).val < 73 by omega))).trans ?_
    refine (View.read_writes_cons_unit_of_not_mem arg5.view f _ _ _ y rfl 1 (Or.inl (show (y 1).val < 72 by omega))).trans ?_
    refine (View.read_writes_cons_unit_of_not_mem arg5.view f _ _ _ y rfl 1 (Or.inl (show (y 1).val < 48 by omega))).trans ?_
    exact View.read_writes_cons_unit_of_mem arg5.view f _ _ _ y (ix2 (y 0) ⟨(y 1).val - 24, by omega⟩) rfl (hin 24 24 ⟨(y 1).val - 24, by omega⟩ (show (y 1).val = 24 + ((y 1).val - 24) by omega))
  rw [dif_neg h2]
  by_cases h3 : (y 1).val < 72
  · rw [dif_pos h3]
    refine (View.read_writes_cons_unit_of_not_mem arg5.view f _ _ _ y rfl 1 (Or.inl (show (y 1).val < 73 by omega))).trans ?_
    refine (View.read_writes_cons_unit_of_not_mem arg5.view f _ _ _ y rfl 1 (Or.inl (show (y 1).val < 72 by omega))).trans ?_
    exact View.read_writes_cons_unit_of_mem arg5.view f _ _ _ y (ix2 (y 0) ⟨(y 1).val - 48, by omega⟩) rfl (hin 48 24 ⟨(y 1).val - 48, by omega⟩ (show (y 1).val = 48 + ((y 1).val - 48) by omega))
  rw [dif_neg h3]
  by_cases h4 : (y 1).val = 72
  · rw [if_pos h4]
    refine (View.read_writes_cons_unit_of_not_mem arg5.view f _ _ _ y rfl 1 (Or.inl (show (y 1).val < 73 by omega))).trans ?_
    exact View.read_writes_cons_unit_of_mem arg5.view f _ _ _ y (ix2 (y 0) 0) rfl (hin 72 1 0 h4)
  rw [if_neg h4]
  refine (View.read_writes_cons_unit_of_mem arg5.view f _ _ _ y (ix2 (y 0) ⟨(y 1).val - 73, by omega⟩) rfl (hin 73 23 ⟨(y 1).val - 73, by omega⟩ (show (y 1).val = 73 + ((y 1).val - 73) by omega))).trans ?_
  rfl

/-- The body of the embedding call on any whole staging buffers. -/
theorem embed_body (c : Dev nD) (i : grid0.Coords) (arg1 : Memref sig .tc .vmem S2000x3 .i32) (harg1 : arg1.IsWhole) (arg2 : Memref sig .tc .vmem S8x24 .f32) (harg2 : arg2.IsWhole) (arg3 : Memref sig .tc .vmem S8x24 .f32) (harg3 : arg3.IsWhole) (arg4 : Memref sig .tc .vmem S25x24 .f32) (harg4 : arg4.IsWhole) (arg5 : Memref sig .tc .vmem S2000x96 .f32) (harg5 : arg5.IsWhole)
    (x0 : Vec F S2000x3 .i32) (x1 : Vec F S8x24 .f32) (x2 : Vec F S8x24 .f32) (x3 : Vec F S25x24 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (embed x0 x1 x2 x3)) -∗ K ⟨⟩))
      ⊢ wp frame (wpE (defs₀ (F := F)) Variants.none (c : Thread nD τ) none) E (cc0__embed_kernel i arg1 harg1 arg2 harg2 arg3 harg3 arg4 harg4 arg5 harg5) K := by
  simp only [cc0__embed_kernel_eq_skeleton]; unfold cc0__embed_kernel_skel
  simp only [k0_part1_eq_skeleton]
  unfold owns
  iintro ⟨⟨%f0, %e0, H0⟩, ⟨%f1, %e1, H1⟩, ⟨%f2, %e2, H2⟩, ⟨%f3, %e3, H3⟩, ⟨%d4, %f4, -, H4⟩, Hk⟩
  sl_exec
  sl_step
  iapply Hk
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  iexists _; isplitr; swap; · iexact H4
  ipureintro
  refine Eq.trans ?_ (embed_written arg5 f4 x0 x1 x2 x3)
  delta embed_body.sl.r
  rw [show arg2.view.readAt (Elt F) (Rect.unit (s := S8x24) ![0, 0] ![8, 24] inb_S8x24_S8x24_0_0).toLoadRect f1 = x1 from (View.readAt_full _ _ _).trans e1]
  rw [show arg3.view.readAt (Elt F) (Rect.unit (s := S8x24) ![0, 0] ![8, 24] inb_S8x24_S8x24_0_0).toLoadRect f2 = x2 from (View.readAt_full _ _ _).trans e2]
  rw [show arg4.view.readAt (Elt F) (Rect.unit (s := S25x24) ![0, 0] ![25, 24] inb_S25x24_S25x24_0_0).toLoadRect f3 = x3 from (View.readAt_full _ _ _).trans e3]
  subst e0
  rfl

end Cert.KernelIdeal.Gen

end
-- ==== Proof.KernelIdeal.Region0.lean ====
module

public import proofs.«01_k».proof.Proof.Gen.KernelIdeal.Launch
public import proofs.«01_k».proof.Proof.Gen.KernelIdeal.Points
public import proofs.«01_k».proof.Proof.KernelIdeal.Embed
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- the contents of the buffers when the call is entered
variable (V : (c : Dev nD) → (b : Ref sig .tc) → Buf (Elt F) ((c : Thread nD τ).loc b))

/-! # Pallas call 0: the embedding -/

/-- Window `w`'s block at point `t`, read off its array as the call finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffers at point `t`. -/
abbrev ms0_0 (t : Fin cfg0.N) : Memref sig .tc .vmem S2000x3 .i32 := win0_0.stage (cfg0.slots t 0)
abbrev ms0_1 (t : Fin cfg0.N) : Memref sig .tc .vmem S8x24 .f32 := win0_1.stage (cfg0.slots t 1)
abbrev ms0_2 (t : Fin cfg0.N) : Memref sig .tc .vmem S8x24 .f32 := win0_2.stage (cfg0.slots t 2)
abbrev ms0_3 (t : Fin cfg0.N) : Memref sig .tc .vmem S25x24 .f32 := win0_3.stage (cfg0.slots t 3)
abbrev ms0_4 (t : Fin cfg0.N) : Memref sig .tc .vmem S2000x96 .f32 := win0_4.stage (cfg0.slots t 4)

/-- What a point stores. -/
def outs0 (c : Dev nD) (t : Fin cfg0.N) : Vec F S2000x96 .f32 := embed (iblk0 V c 0 t) (iblk0 V c 1 t) (iblk0 V c 2 t) (iblk0 V c 3 t)

/-- The call's proof data: the arrays as the call finds them; after a point each input's buffer at its block and the output's at `outs0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outs0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outs0 V c t := by dsimp only [dat0]

/-- An input's staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-- What the body is called with at point `t`, and what it returns. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold outs0
  iintro ⟨HΦ, Ho, ⟨%d0, H0⟩, ⟨%d1, H1⟩, ⟨%d2, H2⟩, ⟨%d3, H3⟩, ⟨%d4, H4⟩⟩
  iapply (embed_body c (grid0.coords t) _ _ _ _ _ _ _ _ _ _ (iblk0 V c 0 t) (iblk0 V c 1 t) (iblk0 V c 2 t) (iblk0 V c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body. -/
theorem defs₀_row0 (t : Fin cfg0.N) :
    defs₀ (F := F) .tc cfg0.body (cfg0.bodyArgs t (cfg0.slots t)) = bodyAt0 t := by
  unfold defs₀; rw [Defs.onTc_tc]

/-- The call's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdeal.Scatter.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.VecWindow
public import Idealize.ShloMosaic.Lib.WritesUnit
public import Idealize.ShloMosaic.Lib.PointwiseCore
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Row `s` of the features added into row `d` of the running sums: what one edge does. -/
def rowAdd (h : Vec F S50000x96 .f32) (s d : ℕ) (acc : Vec F S50008x96 .f32) : Vec F S50008x96 .f32 := fun y =>
  if (y 0).val = d then
    FloatOps.addf (acc y) (if hs : s < 50000 then h (ix2 ⟨s, hs⟩ (y 1)) else acc y)
  else acc y

/-- The running sums after the first `k` edges of a block of 4000. -/
def edgesAdd (src dst : Vec F S1x1x4000 .i32) (h : Vec F S50000x96 .f32) (acc : Vec F S50008x96 .f32) : ℕ → Vec F S50008x96 .f32
  | 0 => acc
  | k + 1 =>
    if hk : k < 4000 then
      rowAdd h (BitVec.toNat (src (ix3 0 0 ⟨k, hk⟩))) (BitVec.toNat (dst (ix3 0 0 ⟨k, hk⟩))) (edgesAdd src dst h acc k)
    else edgesAdd src dst h acc k

/-- The word of edge `k` of a block, as the loop's load reads it. -/
theorem word_eq (arg : Memref sig .tc .smem S1x1x4000 .i32) (X : BufTy.Contents (Elt F) arg.view.ty) (k : Fin k1_t1_loop.trips) (hk : k.val < 4000) :
    arg.view.readAt (Elt F) (Rect.unit (s := S1x1x4000) (k1_off1 k) S1x1x1.size (k1_off1_inb k)).toLoadRect X (Shape.Idx.first (numel1_S1x1x1.symm ▸ Nat.one_pos))
      = arg.view.read (Elt F) X (ix3 0 0 ⟨k.val, hk⟩) := by
  have hoff : k1_off1 k = ![0, 0, k.val] := by
    show ![0, 0, (0#32 + BitVec.ofNat 32 k.val * 1#32).toNat] = _
    have e : (0#32 + BitVec.ofNat 32 k.val * 1#32).toNat = k.val := by
      rw [BitVec.zero_add, BitVec.mul_one, BitVec.toNat_ofNat]; omega
    rw [e]
  rw [View.readAt_unit _ _ _ hoff (fun a => hoff ▸ k1_off1_inb k a)]
  show arg.view.read (Elt F) X _ = _
  congr 1
  funext a
  apply Fin.ext
  match a with
  | ⟨0, _⟩ => rfl
  | ⟨1, _⟩ => rfl
  | ⟨2, _⟩ => rfl

/-- A source word below 50000 names a row of the features. -/
theorem chk_src {w : BitVec 32} (h : w.toNat < 50000) : k1_chk2 w := by
  intro a
  match a with
  | ⟨0, _⟩ => show w.toNat + 1 ≤ 50000; omega
  | ⟨1, _⟩ => show 0 + 96 ≤ 96; omega

/-- A destination word below 50008 names a row of the sums. -/
theorem chk_dst {w : BitVec 32} (h : w.toNat < 50008) : k1_chk1 w := by
  constructor <;> intro a <;> match a with
  | ⟨0, _⟩ => show w.toNat + 1 ≤ 50008; omega
  | ⟨1, _⟩ => show 0 + 96 ≤ 96; omega

/-- The stored row: the sums' row plus the features' row. -/
theorem pay2_apply (v9 v12 : Vec F S1x96 .f32) (z : S1x96.Idx) : k1_pay2 v9 v12 z = FloatOps.addf (v9 z) (v12 z) := by
  unfold k1_pay2
  show FloatOps.addf (v9 (Shape.reshapeEquiv _ z)) (v12 (Shape.reshapeEquiv _ z)) = _
  rw [Shape.reshapeEquiv_self]

/-- The one store of an edge, read back. -/
theorem row_written (arg3 : Memref sig .tc .vmem S50000x96 .f32) (arg4 : Memref sig .tc .vmem S50008x96 .f32) (f3 : BufTy.Contents (Elt F) arg3.view.ty) (f4 : BufTy.Contents (Elt F) arg4.view.ty)
    {x1 x2 : Vec F S1x1x4000 .i32} {x3 : Vec F S50000x96 .f32} {acc : Vec F S50008x96 .f32} {k : ℕ}
    (e3 : arg3.view.read (Elt F) f3 = x3) (e4 : arg4.view.read (Elt F) f4 = edgesAdd x1 x2 x3 acc k)
    (u v : BitVec 32) {hk' : k < 4000} (hu : u = x1 (ix3 0 0 ⟨k, hk'⟩)) (hv : v = x2 (ix3 0 0 ⟨k, hk'⟩)) (hk : k < 4000)
    (i2 : ∀ a, k1_off2 v a + S1x96.size a ≤ S50008x96.size a) (i3 : ∀ a, k1_off3 u a + S1x96.size a ≤ S50000x96.size a) (i4 : ∀ a, k1_off4 v a + S1x96.size a ≤ S50008x96.size a)
    (hb : BitVec.toNat (x1 (ix3 0 0 ⟨k, hk'⟩)) < 50000) :
    arg4.view.read (Elt F) (arg4.view.writes (Elt F) f4
        [⟨Rect.unit (k1_off4 v) S1x96.size i4,
            k1_pay2 (arg4.view.readAt (Elt F) (Rect.unit (s := S50008x96) (k1_off2 v) S1x96.size i2).toLoadRect f4)
              (arg3.view.readAt (Elt F) (Rect.unit (s := S50000x96) (k1_off3 u) S1x96.size i3).toLoadRect f3)⟩])
      = edgesAdd x1 x2 x3 acc (k + 1) := by
  rw [edgesAdd, dif_pos hk, ← hu, ← hv]
  rw [← hu] at hb
  funext y
  by_cases hy : (y 0).val = v.toNat
  · rw [rowAdd, if_pos hy, dif_pos hb]
    refine (View.read_writes_cons_unit_of_mem arg4.view f4 i4 _ [] y (ix2 0 (y 1)) (rfl : k1_off4 v = ![v.toNat, 0]) ?_).trans ?_
    · intro a
      match a with
      | ⟨0, _⟩ => exact hy
      | ⟨1, _⟩ => exact (Nat.zero_add _).symm
    · rw [View.readAt_unit arg4.view f4 i2 (rfl : k1_off2 v = ![v.toNat, 0]) i2, View.readAt_unit arg3.view f3 i3 (rfl : k1_off3 u = ![u.toNat, 0]) i3, e3, e4]
      refine (pay2_apply _ _ (ix2 0 (y 1))).trans ?_
      refine congrArg₂ FloatOps.addf (congrArg (edgesAdd x1 x2 x3 acc k) ?_) (congrArg x3 ?_)
      · funext a
        apply Fin.ext
        match a with
        | ⟨0, _⟩ => exact hy.symm
        | ⟨1, _⟩ => show 0 + 1 * (y 1).val = (y 1).val; omega
      · funext a
        apply Fin.ext
        match a with
        | ⟨0, _⟩ => rfl
        | ⟨1, _⟩ => show 0 + 1 * (y 1).val = (y 1).val; omega
  · rw [rowAdd, if_neg hy]
    refine (View.read_writes_cons_unit_of_not_mem arg4.view f4 i4 _ [] y (rfl : k1_off4 v = ![v.toNat, 0]) 0 ?_).trans (congrFun e4 y)
    show (y 0).val < v.toNat ∨ v.toNat + 1 ≤ (y 0).val
    omega

/-- One edge of a block run: the row of the features its source word names is added into the row of the sums its destination word names. -/
theorem edge_trip (𝒱 : Variants) (c : Dev nD) (bd : Option 𝒱.V) (i : grid1.Coords) (arg1 : Memref sig .tc .smem S1x1x4000 .i32) (harg1 : arg1.IsWhole) (arg2 : Memref sig .tc .smem S1x1x4000 .i32) (harg2 : arg2.IsWhole) (arg3 : Memref sig .tc .vmem S50000x96 .f32) (harg3 : arg3.IsWhole) (arg4 : Memref sig .tc .vmem S50008x96 .f32) (harg4 : arg4.IsWhole)
    (x1 x2 : Vec F S1x1x4000 .i32) (x3 : Vec F S50000x96 .f32)
    (h1 : ∀ k : Fin 4000, BitVec.toNat (x1 (ix3 0 0 k)) < 50000) (h2 : ∀ k : Fin 4000, BitVec.toNat (x2 (ix3 0 0 k)) < 50008)
    (acc : Vec F S50008x96 .f32) (k : Fin k1_t1_loop.trips) (E : Set ℕ) :
    iprop(owns (c : Thread nD τ) arg1 fullShare x1 ∗ owns (c : Thread nD τ) arg2 fullShare x2 ∗ owns (c : Thread nD τ) arg3 fullShare x3 ∗ owns (c : Thread nD τ) arg4 fullShare (edgesAdd x1 x2 x3 acc k.val) : sProp 𝕄)
      ⊢ wp frame (wpE (defs₀ (F := F)) 𝒱 (c : Thread nD τ) bd) E (k1_t1_body (F := F) i arg1 harg1 arg2 harg2 arg3 harg3 arg4 harg4 k PUnit.unit)
          (fun _ => iprop(owns (c : Thread nD τ) arg1 fullShare x1 ∗ owns (c : Thread nD τ) arg2 fullShare x2 ∗ owns (c : Thread nD τ) arg3 fullShare x3 ∗ owns (c : Thread nD τ) arg4 fullShare (edgesAdd x1 x2 x3 acc (k.val + 1)))) := by
  have hk : k.val < 4000 := Nat.lt_of_lt_of_le k.isLt k1_t1_abs.2.1
  unfold k1_t1_body owns
  iintro ⟨⟨%f1, %e1, H1⟩, ⟨%f2, %e2, H2⟩, ⟨%f3, %e3, H3⟩, ⟨%f4, %e4, H4⟩⟩
  have hw2 : k1_chk2 (arg1.view.readAt (Elt F) (Rect.unit (s := S1x1x4000) (k1_off1 k) S1x1x1.size (k1_off1_inb k)).toLoadRect f1 (Shape.Idx.first (numel1_S1x1x1.symm ▸ Nat.one_pos))) := by
    rw [word_eq arg1 f1 k hk, e1]; exact chk_src (h1 ⟨k.val, hk⟩)
  have hw1 : k1_chk1 (arg2.view.readAt (Elt F) (Rect.unit (s := S1x1x4000) (k1_off1 k) S1x1x1.size (k1_off1_inb k)).toLoadRect f2 (Shape.Idx.first (numel1_S1x1x1.symm ▸ Nat.one_pos))) := by
    rw [word_eq arg2 f2 k hk, e2]; exact chk_dst (h2 ⟨k.val, hk⟩)
  sl_exec
  sl_step
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  iexists _; isplitr; swap; · iexact H4
  ipureintro
  have w1 := word_eq arg1 f1 k hk
  have w2 := word_eq arg2 f2 k hk
  rw [e1] at w1
  rw [e2] at w2
  exact row_written arg3 arg4 f3 f4 e3 e4 _ _ w1 w2 hk _ _ _ (h1 ⟨k.val, hk⟩)

/-- The loop takes 4000 trips. -/
theorem trips1 : k1_t1_loop.trips = 4000 := by
  have h_c0_i32_1 : Affine.IsInt 0#32 (0) := Affine.ofNat _ (by omega)
  have h_c4000_i32 : Affine.IsInt 4000#32 (4000) := Affine.ofNat _ (by omega)
  have h_v3 : Affine.IsInt _ (4000) := Affine.addi h_c0_i32_1 h_c4000_i32 (by omega)
  have h_c1_i32 : Affine.IsInt 1#32 (1) := Affine.ofNat _ (by omega)
  exact Affine.trips_eq h_c0_i32_1 h_v3 h_c1_i32 4000 (by omega)

/-- What the loop over the block's edges holds before edge `k`: the sums at what the edges before it added. -/
abbrev edgeInv (c : Dev nD) (arg1 arg2 : Memref sig .tc .smem S1x1x4000 .i32) (arg3 : Memref sig .tc .vmem S50000x96 .f32) (arg4 : Memref sig .tc .vmem S50008x96 .f32)
    (x1 x2 : Vec F S1x1x4000 .i32) (x3 : Vec F S50000x96 .f32) (acc : Vec F S50008x96 .f32) (k : ℕ) (_ : Unit) : sProp 𝕄 :=
  iprop(owns (c : Thread nD τ) arg1 fullShare x1 ∗ owns (c : Thread nD τ) arg2 fullShare x2 ∗ owns (c : Thread nD τ) arg3 fullShare x3 ∗ owns (c : Thread nD τ) arg4 fullShare (edgesAdd x1 x2 x3 acc k))

/-- The condition under which the kernel clears its sums: the first block. -/
abbrev cond1 (i : grid1.Coords) : Prop := (Scalar.cmpi .ne (Scalar.extui (Scalar.cmpi .eq (BitVec.ofNat 32 (i 0).val) 0#32)) 0#32) = 1#1

/-- The sums a block starts from: zero at the first block, else what the block before left. -/
def startAt (first : Prop) [Decidable first] (acc : Vec F S50008x96 .f32) : Vec F S50008x96 .f32 :=
  if first then k1_pay1 (F := F) else acc

/-- The scatter kernel on one block of edges: the sums end at what the block's edges added to what they started from. -/
theorem scatter_body (c : Dev nD) (i : grid1.Coords) (arg1 : Memref sig .tc .smem S1x1x4000 .i32) (harg1 : arg1.IsWhole) (arg2 : Memref sig .tc .smem S1x1x4000 .i32) (harg2 : arg2.IsWhole) (arg3 : Memref sig .tc .vmem S50000x96 .f32) (harg3 : arg3.IsWhole) (arg4 : Memref sig .tc .vmem S50008x96 .f32) (harg4 : arg4.IsWhole)
    (x1 x2 : Vec F S1x1x4000 .i32) (x3 : Vec F S50000x96 .f32) (acc : Vec F S50008x96 .f32)
    (h1 : ∀ k : Fin 4000, BitVec.toNat (x1 (ix3 0 0 k)) < 50000) (h2 : ∀ k : Fin 4000, BitVec.toNat (x2 (ix3 0 0 k)) < 50008)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare acc
        ∗ (iprop(owns (c : Thread nD τ) arg1 fullShare x1 ∗ owns (c : Thread nD τ) arg2 fullShare x2 ∗ owns (c : Thread nD τ) arg3 fullShare x3 ∗ owns (c : Thread nD τ) arg4 fullShare (edgesAdd x1 x2 x3 (startAt (cond1 i) acc) 4000)) -∗ K ⟨⟩))
      ⊢ wp frame (wpE (defs₀ (F := F)) Variants.none (c : Thread nD τ) none) E (cc1__scatter_kernel i arg1 harg1 arg2 harg2 arg3 harg3 arg4 harg4) K := by
  simp only [cc1__scatter_kernel_eq_skeleton]; unfold cc1__scatter_kernel_skel
  by_cases hc : cond1 i
  · rw [startAt, if_pos hc]
    unfold owns
    iintro ⟨⟨%f1, %e1, H1⟩, ⟨%f2, %e2, H2⟩, ⟨%f3, %e3, H3⟩, ⟨%f4, %e4, H4⟩, Hk⟩
    sl_exec (disch := first | sl_exact hc)
    sl_for (edgeInv c arg1 arg2 arg3 arg4 x1 x2 x3 (k1_pay1 (F := F))) $$ [H1 H2 H3 H4]
    · intro k u
      exact edge_trip Variants.none c none i arg1 harg1 arg2 harg2 arg3 harg3 arg4 harg4 x1 x2 x3 h1 h2 _ k E
    · unfold edgeInv owns
      isplitl [H1]
      · iexists _; isplitr; · ipureintro; exact e1
        iexact H1
      isplitl [H2]
      · iexists _; isplitr; · ipureintro; exact e2
        iexact H2
      isplitl [H3]
      · iexists _; isplitr; · ipureintro; exact e3
        iexact H3
      iexists _; isplitr; swap; · iexact H4
      ipureintro; exact View.read_writes_full arg4.view _ _ _ []
    · iintro %u HI
      unfold edgeInv owns
      rw [show Scf.trips k1_t1_loop.lb k1_t1_loop.ub k1_t1_loop.st = 4000 from trips1]
      sl_step
      iapply Hk
      iexact HI
  · rw [startAt, if_neg hc]
    unfold owns
    iintro ⟨⟨%f1, %e1, H1⟩, ⟨%f2, %e2, H2⟩, ⟨%f3, %e3, H3⟩, ⟨%f4, %e4, H4⟩, Hk⟩
    sl_exec (disch := first | sl_exact hc)
    sl_for (edgeInv c arg1 arg2 arg3 arg4 x1 x2 x3 acc) $$ [H1 H2 H3 H4]
    · intro k u
      exact edge_trip Variants.none c none i arg1 harg1 arg2 harg2 arg3 harg3 arg4 harg4 x1 x2 x3 h1 h2 _ k E
    · unfold edgeInv owns
      isplitl [H1]
      · iexists _; isplitr; · ipureintro; exact e1
        iexact H1
      isplitl [H2]
      · iexists _; isplitr; · ipureintro; exact e2
        iexact H2
      isplitl [H3]
      · iexists _; isplitr; · ipureintro; exact e3
        iexact H3
      iexists _; isplitr; swap; · iexact H4
      ipureintro; exact e4
    · iintro %u HI
      unfold edgeInv owns
      rw [show Scf.trips k1_t1_loop.lb k1_t1_loop.ub k1_t1_loop.st = 4000 from trips1]
      sl_step
      iapply Hk
      iexact HI

/-- A scatter kernel's first grid point is the one where it clears its sums. -/
theorem first_iff (t : Fin grid1.N) : cond1 (grid1.coords t) ↔ t.val = 0 := by
  have ht : t.val < 200 := Nat.lt_of_lt_of_eq t.isLt N_1
  have e0 : (grid1.coords t 0).val = t.val / 1 % 200 := Pipeline.Grid.coords_val t 0 (by decide) rfl
  simp only [cond1, e0]
  have h0 : t.val = 0 ↔ t.val % 200 = 0 := by omega
  rw [h0]
  word_cmp

/-- The sums after block `n`, from zero before block 0. -/
def runSums {N : ℕ} (src dst : Fin N → Vec F S1x1x4000 .i32) (h : Fin N → Vec F S50000x96 .f32) : (n : ℕ) → n < N → Vec F S50008x96 .f32
  | 0, hn => edgesAdd (src ⟨0, hn⟩) (dst ⟨0, hn⟩) (h ⟨0, hn⟩) (k1_pay1 (F := F)) 4000
  | n + 1, hn => edgesAdd (src ⟨n + 1, hn⟩) (dst ⟨n + 1, hn⟩) (h ⟨n + 1, hn⟩) (runSums src dst h n (Nat.lt_of_succ_lt hn)) 4000

/-- Block `t`'s edges take what the block starts from to the sums after it. -/
theorem runSums_at {N : ℕ} (src dst : Fin N → Vec F S1x1x4000 .i32) (h : Fin N → Vec F S50000x96 .f32) (t : Fin N) (first : Prop) [Decidable first]
    (hf : first ↔ t.val = 0) (b : Vec F S50008x96 .f32)
    (hb : ¬ t.val = 0 → b = runSums src dst h (t.val - 1) (Nat.lt_of_le_of_lt (Nat.sub_le _ _) t.isLt)) :
    runSums src dst h t.val t.isLt = edgesAdd (src t) (dst t) (h t) (startAt first b) 4000 := by
  obtain ⟨n, hn⟩ := t
  cases n with
  | zero => rw [startAt, if_pos (hf.mpr rfl)]; rfl
  | succ n => rw [startAt, if_neg (fun h => absurd (hf.mp h) (Nat.succ_ne_zero n)), hb (Nat.succ_ne_zero n)]; rfl

/-- `scatter_body` between what a grid point owns before and after; `P` and `Q` are not touched. -/
theorem scatter_point (c : Dev nD) (i : grid1.Coords) (arg1 : Memref sig .tc .smem S1x1x4000 .i32) (harg1 : arg1.IsWhole) (arg2 : Memref sig .tc .smem S1x1x4000 .i32) (harg2 : arg2.IsWhole) (arg3 : Memref sig .tc .vmem S50000x96 .f32) (harg3 : arg3.IsWhole) (arg4 : Memref sig .tc .vmem S50008x96 .f32) (harg4 : arg4.IsWhole)
    (x1 x2 : Vec F S1x1x4000 .i32) (x3 : Vec F S50000x96 .f32)
    (h1 : ∀ k : Fin 4000, BitVec.toNat (x1 (ix3 0 0 k)) < 50000) (h2 : ∀ k : Fin 4000, BitVec.toNat (x2 (ix3 0 0 k)) < 50008)
    {D1 D2 D3 D4 : Type} (b : D4 → Vec F S50008x96 .f32) (s : Vec F S50008x96 .f32)
    (hs : ∀ d, s = edgesAdd x1 x2 x3 (startAt (cond1 i) (b d)) 4000) (P Q : sProp 𝕄) (E : Set ℕ) :
    iprop(P ∗ Q ∗ (∃ _d : D1, owns (c : Thread nD τ) arg1 fullShare x1) ∗ (∃ _d : D2, owns (c : Thread nD τ) arg2 fullShare x2)
        ∗ (∃ _d : D3, owns (c : Thread nD τ) arg3 fullShare x3) ∗ (∃ d : D4, owns (c : Thread nD τ) arg4 fullShare (b d)))
      ⊢ wp frame (wpE (defs₀ (F := F)) Variants.none (c : Thread nD τ) none) E (cc1__scatter_kernel i arg1 harg1 arg2 harg2 arg3 harg3 arg4 harg4) fun _ =>
        iprop(P ∗ Q ∗ owns (c : Thread nD τ) arg1 fullShare x1 ∗ owns (c : Thread nD τ) arg2 fullShare x2 ∗ owns (c : Thread nD τ) arg3 fullShare x3
          ∗ owns (c : Thread nD τ) arg4 fullShare s) := by
  iintro ⟨HP, HQ, ⟨%d1, H1⟩, ⟨%d2, H2⟩, ⟨%d3, H3⟩, ⟨%d4, H4⟩⟩
  rw [hs d4]
  iapply (scatter_body c i _ harg1 _ harg2 _ harg3 _ harg4 x1 x2 x3 _ h1 h2 E _)
  isplitl [H1]; · iexact H1
  isplitl [H2]; · iexact H2
  isplitl [H3]; · iexact H3
  isplitl [H4]; · iexact H4
  iintro ⟨H1, H2, H3, H4⟩
  isplitl [HP]; · iexact HP
  isplitl [HQ]; · iexact HQ
  isplitl [H1]; · iexact H1
  isplitl [H2]; · iexact H2
  isplitl [H3]; · iexact H3
  iexact H4

/-- The five other scatter calls run the same kernel. -/
theorem cc2_eq : cc2__scatter_kernel (F := F) = cc1__scatter_kernel (F := F) := rfl
theorem cc3_eq : cc3__scatter_kernel (F := F) = cc1__scatter_kernel (F := F) := rfl
theorem cc5_eq : cc5__scatter_kernel (F := F) = cc1__scatter_kernel (F := F) := rfl
theorem cc6_eq : cc6__scatter_kernel (F := F) = cc1__scatter_kernel (F := F) := rfl
theorem cc7_eq : cc7__scatter_kernel (F := F) = cc1__scatter_kernel (F := F) := rfl

end Cert.KernelIdeal.Gen

end
-- ==== Proof.KernelIdeal.Region1.lean ====
module

public import proofs.«01_k».proof.Proof.Gen.KernelIdeal.Launch
public import proofs.«01_k».proof.Proof.Gen.KernelIdeal.Points
public import proofs.«01_k».proof.Proof.KernelIdeal.Scatter
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- the contents of the buffers when the call is entered
variable (V : (c : Dev nD) → (b : Ref sig .tc) → Buf (Elt F) ((c : Thread nD τ).loc b))

/-! # Pallas call 1: a scatter -/

/-- Window `w`'s block at point `t`, read off its array as the call finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffers at point `t`. -/
abbrev ms1_0 (t : Fin cfg1.N) : Memref sig .tc .smem S1x1x4000 .i32 := win1_0.stage (cfg1.slots t 0)
abbrev ms1_1 (t : Fin cfg1.N) : Memref sig .tc .smem S1x1x4000 .i32 := win1_1.stage (cfg1.slots t 1)
abbrev ms1_2 (t : Fin cfg1.N) : Memref sig .tc .vmem S50000x96 .f32 := win1_2.stage (cfg1.slots t 2)
abbrev ms1_3 (t : Fin cfg1.N) : Memref sig .tc .vmem S50008x96 .f32 := win1_3.stage (cfg1.slots t 3)

/-- The sums after the block at position `n`. -/
abbrev sums1 (c : Dev nD) : (n : ℕ) → n < cfg1.N → Vec F S50008x96 .f32 := runSums (iblk1 V c 0) (iblk1 V c 1) (iblk1 V c 2)

/-- The call's proof data: the arrays as the call finds them; after a point each input's buffer at its block and the sums at `sums1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => sums1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = sums1 V c t.val t.isLt := by dsimp only [dat1]

/-- An input's staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- After the first point the sums' staging buffer holds what the point before left. -/
theorem before1_3 (c : Dev nD) (t : Fin cfg1.N) (h0 : ¬ t.val = 0) (d) :
    (dat1 V c).before 3 t d = sums1 V c (t.val - 1) (Nat.lt_of_le_of_lt (Nat.sub_le _ _) t.isLt) := by
  have hN : t.val < 200 := lt_of_lt_of_eq t.isLt (show cfg1.N = 200 from N_1)
  rw [Dat.before_out_kept _ 3 rfl t (by omega) (Bool.eq_false_iff.mpr fun h => by have := (flush1_3 _).mp h; dsimp only at this; omega)
    (fun _ => rfl) (fun _ _ => rfl)]
  dsimp only [dat1]

/-- What is asked of the words: every source names a row of the features, every destination a row of the sums. -/
def WordsOk1 : Prop := ∀ (c : Dev nD) (t : Fin cfg1.N),
  (∀ k : Fin 4000, BitVec.toNat ((iblk1 V c 0 t : Vec F S1x1x4000 .i32) (ix3 0 0 k)) < 50000)
    ∧ ∀ k : Fin 4000, BitVec.toNat ((iblk1 V c 1 t : Vec F S1x1x4000 .i32) (ix3 0 0 k)) < 50008

/-- What the body is called with at point `t`, and what it returns. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: `scatter_point` from zero at the first point, from what the point before left at a later one. -/
theorem sound_body1 (hw : WordsOk1 V) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  exact scatter_point c (grid1.coords t) _ _ _ _ _ _ _ _ (iblk1 V c 0 t) (iblk1 V c 1 t) (iblk1 V c 2 t) (hw c t).1 (hw c t).2 _ _
    (fun d => runSums_at _ _ _ t _ (first_iff t) _ fun h => before1_3 V c t h d) _ _ _

/-- The body table's row at point `t`'s slots is the body. -/
theorem defs₀_row1 (t : Fin cfg1.N) :
    defs₀ (F := F) .tc cfg1.body (cfg1.bodyArgs t (cfg1.slots t)) = bodyAt1 t := by
  unfold defs₀; rw [Defs.onTc_tc]

/-- The call's body obligation, at every point. -/
theorem body_obligation1 (hw : WordsOk1 V) (c : Dev nD) : BodyObligation (dat1 (F := F) V c) (defs₀ (F := F)) Variants.none () Set.univ := fun t => by
  rw [bigSep_W1, bigSep_W1, defs₀_row1]
  exact triple_restated (sound_body1 V hw c t) rfl .rfl fun _ => .rfl

end Regions

end Cert.KernelIdeal.Gen

end
-- ==== Proof.KernelIdeal.Region2.lean ====
module

public import proofs.«01_k».proof.Proof.Gen.KernelIdeal.Launch
public import proofs.«01_k».proof.Proof.Gen.KernelIdeal.Points
public import proofs.«01_k».proof.Proof.KernelIdeal.Scatter
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- the contents of the buffers when the call is entered
variable (V : (c : Dev nD) → (b : Ref sig .tc) → Buf (Elt F) ((c : Thread nD τ).loc b))

/-! # Pallas call 2: a scatter -/

/-- Window `w`'s block at point `t`, read off its array as the call finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The staging buffers at point `t`. -/
abbrev ms2_0 (t : Fin cfg2.N) : Memref sig .tc .smem S1x1x4000 .i32 := win2_0.stage (cfg2.slots t 0)
abbrev ms2_1 (t : Fin cfg2.N) : Memref sig .tc .smem S1x1x4000 .i32 := win2_1.stage (cfg2.slots t 1)
abbrev ms2_2 (t : Fin cfg2.N) : Memref sig .tc .vmem S50000x96 .f32 := win2_2.stage (cfg2.slots t 2)
abbrev ms2_3 (t : Fin cfg2.N) : Memref sig .tc .vmem S50008x96 .f32 := win2_3.stage (cfg2.slots t 3)

/-- The sums after the block at position `n`. -/
abbrev sums2 (c : Dev nD) : (n : ℕ) → n < cfg2.N → Vec F S50008x96 .f32 := runSums (iblk2 V c 0) (iblk2 V c 1) (iblk2 V c 2)

/-- The call's proof data: the arrays as the call finds them; after a point each input's buffer at its block and the sums at `sums2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => sums2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = sums2 V c t.val t.isLt := by dsimp only [dat2]

/-- An input's staging buffer holds its block at every point. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
/-- After the first point the sums' staging buffer holds what the point before left. -/
theorem before2_3 (c : Dev nD) (t : Fin cfg2.N) (h0 : ¬ t.val = 0) (d) :
    (dat2 V c).before 3 t d = sums2 V c (t.val - 1) (Nat.lt_of_le_of_lt (Nat.sub_le _ _) t.isLt) := by
  have hN : t.val < 200 := lt_of_lt_of_eq t.isLt (show cfg2.N = 200 from N_2)
  rw [Dat.before_out_kept _ 3 rfl t (by omega) (Bool.eq_false_iff.mpr fun h => by have := (flush2_3 _).mp h; dsimp only at this; omega)
    (fun _ => rfl) (fun _ _ => rfl)]
  dsimp only [dat2]

/-- What is asked of the words: every source names a row of the features, every destination a row of the sums. -/
def WordsOk2 : Prop := ∀ (c : Dev nD) (t : Fin cfg2.N),
  (∀ k : Fin 4000, BitVec.toNat ((iblk2 V c 0 t : Vec F S1x1x4000 .i32) (ix3 0 0 k)) < 50000)
    ∧ ∀ k : Fin 4000, BitVec.toNat ((iblk2 V c 1 t : Vec F S1x1x4000 .i32) (ix3 0 0 k)) < 50008

/-- What the body is called with at point `t`, and what it returns. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

/-- The body at any point: `scatter_point` from zero at the first point, from what the point before left at a later one. -/
theorem sound_body2 (hw : WordsOk2 V) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [cc2_eq]
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  exact scatter_point c (grid2.coords t) _ _ _ _ _ _ _ _ (iblk2 V c 0 t) (iblk2 V c 1 t) (iblk2 V c 2 t) (hw c t).1 (hw c t).2 _ _
    (fun d => runSums_at _ _ _ t _ (first_iff t) _ fun h => before2_3 V c t h d) _ _ _

/-- The body table's row at point `t`'s slots is the body. -/
theorem defs₀_row2 (t : Fin cfg2.N) :
    defs₀ (F := F) .tc cfg2.body (cfg2.bodyArgs t (cfg2.slots t)) = bodyAt2 t := by
  unfold defs₀; rw [Defs.onTc_tc]

/-- The call's body obligation, at every point. -/
theorem body_obligation2 (hw : WordsOk2 V) (c : Dev nD) : BodyObligation (dat2 (F := F) V c) (defs₀ (F := F)) Variants.none () Set.univ := fun t => by
  rw [bigSep_W2, bigSep_W2, defs₀_row2]
  exact triple_restated (sound_body2 V hw c t) rfl .rfl fun _ => .rfl

end Regions

end Cert.KernelIdeal.Gen

end
-- ==== Proof.KernelIdeal.Region3.lean ====
module

public import proofs.«01_k».proof.Proof.Gen.KernelIdeal.Launch
public import proofs.«01_k».proof.Proof.Gen.KernelIdeal.Points
public import proofs.«01_k».proof.Proof.KernelIdeal.Scatter
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- the contents of the buffers when the call is entered
variable (V : (c : Dev nD) → (b : Ref sig .tc) → Buf (Elt F) ((c : Thread nD τ).loc b))

/-! # Pallas call 3: a scatter -/

/-- Window `w`'s block at point `t`, read off its array as the call finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The staging buffers at point `t`. -/
abbrev ms3_0 (t : Fin cfg3.N) : Memref sig .tc .smem S1x1x4000 .i32 := win3_0.stage (cfg3.slots t 0)
abbrev ms3_1 (t : Fin cfg3.N) : Memref sig .tc .smem S1x1x4000 .i32 := win3_1.stage (cfg3.slots t 1)
abbrev ms3_2 (t : Fin cfg3.N) : Memref sig .tc .vmem S50000x96 .f32 := win3_2.stage (cfg3.slots t 2)
abbrev ms3_3 (t : Fin cfg3.N) : Memref sig .tc .vmem S50008x96 .f32 := win3_3.stage (cfg3.slots t 3)

/-- The sums after the block at position `n`. -/
abbrev sums3 (c : Dev nD) : (n : ℕ) → n < cfg3.N → Vec F S50008x96 .f32 := runSums (iblk3 V c 0) (iblk3 V c 1) (iblk3 V c 2)

/-- The call's proof data: the arrays as the call finds them; after a point each input's buffer at its block and the sums at `sums3`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => sums3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = sums3 V c t.val t.isLt := by dsimp only [dat3]

/-- An input's staging buffer holds its block at every point. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
/-- After the first point the sums' staging buffer holds what the point before left. -/
theorem before3_3 (c : Dev nD) (t : Fin cfg3.N) (h0 : ¬ t.val = 0) (d) :
    (dat3 V c).before 3 t d = sums3 V c (t.val - 1) (Nat.lt_of_le_of_lt (Nat.sub_le _ _) t.isLt) := by
  have hN : t.val < 200 := lt_of_lt_of_eq t.isLt (show cfg3.N = 200 from N_3)
  rw [Dat.before_out_kept _ 3 rfl t (by omega) (Bool.eq_false_iff.mpr fun h => by have := (flush3_3 _).mp h; dsimp only at this; omega)
    (fun _ => rfl) (fun _ _ => rfl)]
  dsimp only [dat3]

/-- What is asked of the words: every source names a row of the features, every destination a row of the sums. -/
def WordsOk3 : Prop := ∀ (c : Dev nD) (t : Fin cfg3.N),
  (∀ k : Fin 4000, BitVec.toNat ((iblk3 V c 0 t : Vec F S1x1x4000 .i32) (ix3 0 0 k)) < 50000)
    ∧ ∀ k : Fin 4000, BitVec.toNat ((iblk3 V c 1 t : Vec F S1x1x4000 .i32) (ix3 0 0 k)) < 50008

/-- What the body is called with at point `t`, and what it returns. -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t))

/-- The body at any point: `scatter_point` from zero at the first point, from what the point before left at a later one. -/
theorem sound_body3 (hw : WordsOk3 V) (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_eq]
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  exact scatter_point c (grid3.coords t) _ _ _ _ _ _ _ _ (iblk3 V c 0 t) (iblk3 V c 1 t) (iblk3 V c 2 t) (hw c t).1 (hw c t).2 _ _
    (fun d => runSums_at _ _ _ t _ (first_iff t) _ fun h => before3_3 V c t h d) _ _ _

/-- The body table's row at point `t`'s slots is the body. -/
theorem defs₀_row3 (t : Fin cfg3.N) :
    defs₀ (F := F) .tc cfg3.body (cfg3.bodyArgs t (cfg3.slots t)) = bodyAt3 t := by
  unfold defs₀; rw [Defs.onTc_tc]

/-- The call's body obligation, at every point. -/
theorem body_obligation3 (hw : WordsOk3 V) (c : Dev nD) : BodyObligation (dat3 (F := F) V c) (defs₀ (F := F)) Variants.none () Set.univ := fun t => by
  rw [bigSep_W3, bigSep_W3, defs₀_row3]
  exact triple_restated (sound_body3 V hw c t) rfl .rfl fun _ => .rfl

end Regions

end Cert.KernelIdeal.Gen

end
-- ==== Proof.KernelIdeal.Dense.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow
public import Idealize.ShloMosaic.Lib.WritesUnit
public import Idealize.ShloMosaic.Lib.PointwiseCore

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The dense layers: what a point of the two calls stores -/

/-- What a point of pallas call 4 stores: the layer's rows of one block, from the features' block `x0`, the three relations' sums `x1 x2 x3`, the
    inverse counts `x4`, the root weights `x5`, the relation weights `x6` and the bias `x7`. -/
def dense4 (x0 : Vec F S2000x96 .f32) (x1 : Vec F S2000x96 .f32) (x2 : Vec F S2000x96 .f32) (x3 : Vec F S2000x96 .f32) (x4 : Vec F S2000x3 .f32) (x5 : Vec F S72x96 .f32) (x6 : Vec F S3x72x96 .f32) (x7 : Vec F S1x96 .f32) : FVec F S2000x96 .f32 :=
  k4_pay1 (k4_pay2 (VecWindow.window x0 ![0, 0] S2000x72.size inb_S2000x96_S2000x72_0_0) x5 x7 (VecWindow.window x1 ![0, 0] S2000x72.size inb_S2000x96_S2000x72_0_0) (VecWindow.window x4 ![0, 0] S2000x1.size inb_S2000x3_S2000x1_0_0) (VecWindow.window x6 ![0, 0, 0] S1x72x96.size inb_S3x72x96_S1x72x96_0_0_0) (VecWindow.window x2 ![0, 0] S2000x72.size inb_S2000x96_S2000x72_0_0) (VecWindow.window x4 ![0, 1] S2000x1.size inb_S2000x3_S2000x1_0_1) (VecWindow.window x6 ![1, 0, 0] S1x72x96.size inb_S3x72x96_S1x72x96_1_0_0)) (k4_pay3 (VecWindow.window x3 ![0, 0] S2000x72.size inb_S2000x96_S2000x72_0_0))
    (VecWindow.window x4 ![0, 2] S2000x1.size inb_S2000x3_S2000x1_0_2) (VecWindow.window x6 ![2, 0, 0] S1x72x96.size inb_S3x72x96_S1x72x96_2_0_0)

/-- The body of pallas call 4 on any whole staging buffers. -/
theorem dense_body4 (c : Dev nD) (i : grid4.Coords) (arg1 : Memref sig .tc .vmem S2000x96 .f32) (harg1 : arg1.IsWhole) (arg2 : Memref sig .tc .vmem S2000x96 .f32) (harg2 : arg2.IsWhole) (arg3 : Memref sig .tc .vmem S2000x96 .f32) (harg3 : arg3.IsWhole) (arg4 : Memref sig .tc .vmem S2000x96 .f32) (harg4 : arg4.IsWhole) (arg5 : Memref sig .tc .vmem S2000x3 .f32) (harg5 : arg5.IsWhole) (arg6 : Memref sig .tc .vmem S72x96 .f32) (harg6 : arg6.IsWhole) (arg7 : Memref sig .tc .vmem S3x72x96 .f32) (harg7 : arg7.IsWhole) (arg8 : Memref sig .tc .vmem S1x96 .f32) (harg8 : arg8.IsWhole) (arg9 : Memref sig .tc .vmem S2000x96 .f32) (harg9 : arg9.IsWhole)
    (x0 : Vec F S2000x96 .f32) (x1 : Vec F S2000x96 .f32) (x2 : Vec F S2000x96 .f32) (x3 : Vec F S2000x96 .f32) (x4 : Vec F S2000x3 .f32) (x5 : Vec F S72x96 .f32) (x6 : Vec F S3x72x96 .f32) (x7 : Vec F S1x96 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (dense4 x0 x1 x2 x3 x4 x5 x6 x7)) -∗ K ⟨⟩))
      ⊢ wp frame (wpE (defs₀ (F := F)) Variants.none (c : Thread nD τ) none) E (cc4__dense_kernel i arg1 harg1 arg2 harg2 arg3 harg3 arg4 harg4 arg5 harg5 arg6 harg6 arg7 harg7 arg8 harg8 arg9 harg9) K := by
  simp only [cc4__dense_kernel_eq_skeleton]; unfold cc4__dense_kernel_skel
  simp only [k4_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  subst e0 e1 e2 e3 e4 e5 e6 e7
  sl_exec
  sl_step
  iapply Hk
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  iexists _; isplitr; swap; · iexact H8
  ipureintro
  rw [View.read_writes_full arg9.view _ _ _ []]
  delta dense_body4.sl.r dense_body4.sl.r_1
  unfold dense4
  rw [show arg6.view.readAt (Elt F) (Rect.unit (s := S72x96) ![0, 0] ![72, 96] inb_S72x96_S72x96_0_0).toLoadRect f5 = arg6.view.read (Elt F) f5 from View.readAt_full _ _ _]
  rw [show arg8.view.readAt (Elt F) (Rect.unit (s := S1x96) ![0, 0] ![1, 96] inb_S1x96_S1x96_0_0).toLoadRect f7 = arg8.view.read (Elt F) f7 from View.readAt_full _ _ _]
  rfl

/-- What a point of pallas call 8 stores: the layer's rows of one block, from the features' block `x0`, the three relations' sums `x1 x2 x3`, the
    inverse counts `x4`, the root weights `x5`, the relation weights `x6` and the bias `x7`. -/
def dense8 (x0 : Vec F S2000x96 .f32) (x1 : Vec F S2000x96 .f32) (x2 : Vec F S2000x96 .f32) (x3 : Vec F S2000x96 .f32) (x4 : Vec F S2000x3 .f32) (x5 : Vec F S96x96 .f32) (x6 : Vec F S3x96x96 .f32) (x7 : Vec F S1x96 .f32) : FVec F S2000x96 .f32 :=
  k8_pay1 (k8_pay2 x0 x5 x7 x1 (VecWindow.window x4 ![0, 0] S2000x1.size inb_S2000x3_S2000x1_0_0) (VecWindow.window x6 ![0, 0, 0] S1x96x96.size inb_S3x96x96_S1x96x96_0_0_0) x2 (VecWindow.window x4 ![0, 1] S2000x1.size inb_S2000x3_S2000x1_0_1) (VecWindow.window x6 ![1, 0, 0] S1x96x96.size inb_S3x96x96_S1x96x96_1_0_0)) (k8_pay3 x3)
    (VecWindow.window x4 ![0, 2] S2000x1.size inb_S2000x3_S2000x1_0_2) (VecWindow.window x6 ![2, 0, 0] S1x96x96.size inb_S3x96x96_S1x96x96_2_0_0)

/-- The body of pallas call 8 on any whole staging buffers. -/
theorem dense_body8 (c : Dev nD) (i : grid8.Coords) (arg1 : Memref sig .tc .vmem S2000x96 .f32) (harg1 : arg1.IsWhole) (arg2 : Memref sig .tc .vmem S2000x96 .f32) (harg2 : arg2.IsWhole) (arg3 : Memref sig .tc .vmem S2000x96 .f32) (harg3 : arg3.IsWhole) (arg4 : Memref sig .tc .vmem S2000x96 .f32) (harg4 : arg4.IsWhole) (arg5 : Memref sig .tc .vmem S2000x3 .f32) (harg5 : arg5.IsWhole) (arg6 : Memref sig .tc .vmem S96x96 .f32) (harg6 : arg6.IsWhole) (arg7 : Memref sig .tc .vmem S3x96x96 .f32) (harg7 : arg7.IsWhole) (arg8 : Memref sig .tc .vmem S1x96 .f32) (harg8 : arg8.IsWhole) (arg9 : Memref sig .tc .vmem S2000x96 .f32) (harg9 : arg9.IsWhole)
    (x0 : Vec F S2000x96 .f32) (x1 : Vec F S2000x96 .f32) (x2 : Vec F S2000x96 .f32) (x3 : Vec F S2000x96 .f32) (x4 : Vec F S2000x3 .f32) (x5 : Vec F S96x96 .f32) (x6 : Vec F S3x96x96 .f32) (x7 : Vec F S1x96 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (dense8 x0 x1 x2 x3 x4 x5 x6 x7)) -∗ K ⟨⟩))
      ⊢ wp frame (wpE (defs₀ (F := F)) Variants.none (c : Thread nD τ) none) E (cc8__dense_kernel i arg1 harg1 arg2 harg2 arg3 harg3 arg4 harg4 arg5 harg5 arg6 harg6 arg7 harg7 arg8 harg8 arg9 harg9) K := by
  simp only [cc8__dense_kernel_eq_skeleton]; unfold cc8__dense_kernel_skel
  simp only [k8_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  subst e0 e1 e2 e3 e4 e5 e6 e7
  sl_exec
  sl_step
  iapply Hk
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  iexists _; isplitr; swap; · iexact H8
  ipureintro
  rw [View.read_writes_full arg9.view _ _ _ []]
  delta dense_body8.sl.r dense_body8.sl.r_1
  unfold dense8
  rw [show arg1.view.readAt (Elt F) (Rect.unit (s := S2000x96) ![0, 0] ![2000, 96] inb_S2000x96_S2000x96_0_0).toLoadRect f0 = arg1.view.read (Elt F) f0 from View.readAt_full _ _ _]
  rw [show arg2.view.readAt (Elt F) (Rect.unit (s := S2000x96) ![0, 0] ![2000, 96] inb_S2000x96_S2000x96_0_0).toLoadRect f1 = arg2.view.read (Elt F) f1 from View.readAt_full _ _ _]
  rw [show arg3.view.readAt (Elt F) (Rect.unit (s := S2000x96) ![0, 0] ![2000, 96] inb_S2000x96_S2000x96_0_0).toLoadRect f2 = arg3.view.read (Elt F) f2 from View.readAt_full _ _ _]
  rw [show arg4.view.readAt (Elt F) (Rect.unit (s := S2000x96) ![0, 0] ![2000, 96] inb_S2000x96_S2000x96_0_0).toLoadRect f3 = arg4.view.read (Elt F) f3 from View.readAt_full _ _ _]
  rw [show arg6.view.readAt (Elt F) (Rect.unit (s := S96x96) ![0, 0] ![96, 96] inb_S96x96_S96x96_0_0).toLoadRect f5 = arg6.view.read (Elt F) f5 from View.readAt_full _ _ _]
  rw [show arg8.view.readAt (Elt F) (Rect.unit (s := S1x96) ![0, 0] ![1, 96] inb_S1x96_S1x96_0_0).toLoadRect f7 = arg8.view.read (Elt F) f7 from View.readAt_full _ _ _]
  rfl

end Cert.KernelIdeal.Gen

end
-- ==== Proof.KernelIdeal.Region4.lean ====
module

public import proofs.«01_k».proof.Proof.Gen.KernelIdeal.Launch
public import proofs.«01_k».proof.Proof.Gen.KernelIdeal.Points
public import proofs.«01_k».proof.Proof.KernelIdeal.Dense
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- the contents of the buffers when the call is entered
variable (V : (c : Dev nD) → (b : Ref sig .tc) → Buf (Elt F) ((c : Thread nD τ).loc b))

/-! # Pallas call 4: the first layer's rows -/

/-- Window `w`'s block at point `t`, read off its array as the call finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The staging buffers at point `t`. -/
abbrev ms4_0 (t : Fin cfg4.N) : Memref sig .tc .vmem S2000x96 .f32 := win4_0.stage (cfg4.slots t 0)
abbrev ms4_1 (t : Fin cfg4.N) : Memref sig .tc .vmem S2000x96 .f32 := win4_1.stage (cfg4.slots t 1)
abbrev ms4_2 (t : Fin cfg4.N) : Memref sig .tc .vmem S2000x96 .f32 := win4_2.stage (cfg4.slots t 2)
abbrev ms4_3 (t : Fin cfg4.N) : Memref sig .tc .vmem S2000x96 .f32 := win4_3.stage (cfg4.slots t 3)
abbrev ms4_4 (t : Fin cfg4.N) : Memref sig .tc .vmem S2000x3 .f32 := win4_4.stage (cfg4.slots t 4)
abbrev ms4_5 (t : Fin cfg4.N) : Memref sig .tc .vmem S72x96 .f32 := win4_5.stage (cfg4.slots t 5)
abbrev ms4_6 (t : Fin cfg4.N) : Memref sig .tc .vmem S3x72x96 .f32 := win4_6.stage (cfg4.slots t 6)
abbrev ms4_7 (t : Fin cfg4.N) : Memref sig .tc .vmem S1x96 .f32 := win4_7.stage (cfg4.slots t 7)
abbrev ms4_8 (t : Fin cfg4.N) : Memref sig .tc .vmem S2000x96 .f32 := win4_8.stage (cfg4.slots t 8)

/-- What a point stores. -/
def outs4 (c : Dev nD) (t : Fin cfg4.N) : Vec F S2000x96 .f32 := dense4 (iblk4 V c 0 t) (iblk4 V c 1 t) (iblk4 V c 2 t) (iblk4 V c 3 t) (iblk4 V c 4 t) (iblk4 V c 5 t) (iblk4 V c 6 t) (iblk4 V c 7 t)

/-- The call's proof data: the arrays as the call finds them; after a point each input's buffer at its block and the output's at `outs4`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => outs4 V c t
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = outs4 V c t := by dsimp only [dat4]

/-- An input's staging buffer holds its block at every point. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)
theorem before4_6 (c : Dev nD) (t : Fin cfg4.N) (d) : (dat4 V c).before 6 t d = iblk4 V c 6 t :=
  ((dat4 V c).before_in_eq_fetched 6 rfl (fun _ => rfl) (fun _ _ _ => rfl) (fun t => by rw [after4_6]; unfold Dat.blockOf iblk4; rw [A_eq4]; try rfl) t d).trans
    (by unfold Dat.fetched Dat.blockOf iblk4; rw [A_eq4]; try rfl)
theorem before4_7 (c : Dev nD) (t : Fin cfg4.N) (d) : (dat4 V c).before 7 t d = iblk4 V c 7 t :=
  ((dat4 V c).before_in_eq_fetched 7 rfl (fun _ => rfl) (fun _ _ _ => rfl) (fun t => by rw [after4_7]; unfold Dat.blockOf iblk4; rw [A_eq4]; try rfl) t d).trans
    (by unfold Dat.fetched Dat.blockOf iblk4; rw [A_eq4]; try rfl)

/-- What the body is called with at point `t`, and what it returns. -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t)
    ∗ owns (c : Thread nD τ) (ms4_8 t) fullShare ((dat4 V c).after 8 t))

/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8]
  unfold outs4
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (dense_body4 c (grid4.coords t) _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body. -/
theorem defs₀_row4 (t : Fin cfg4.N) :
    defs₀ (F := F) .tc cfg4.body (cfg4.bodyArgs t (cfg4.slots t)) = bodyAt4 t := by
  unfold defs₀; rw [Defs.onTc_tc]

/-- The call's body obligation, at every point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen

end
-- ==== Proof.KernelIdeal.Region5.lean ====
module

public import proofs.«01_k».proof.Proof.Gen.KernelIdeal.Launch
public import proofs.«01_k».proof.Proof.Gen.KernelIdeal.Points
public import proofs.«01_k».proof.Proof.KernelIdeal.Scatter
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- the contents of the buffers when the call is entered
variable (V : (c : Dev nD) → (b : Ref sig .tc) → Buf (Elt F) ((c : Thread nD τ).loc b))

/-! # Pallas call 5: a scatter -/

/-- Window `w`'s block at point `t`, read off its array as the call finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The staging buffers at point `t`. -/
abbrev ms5_0 (t : Fin cfg5.N) : Memref sig .tc .smem S1x1x4000 .i32 := win5_0.stage (cfg5.slots t 0)
abbrev ms5_1 (t : Fin cfg5.N) : Memref sig .tc .smem S1x1x4000 .i32 := win5_1.stage (cfg5.slots t 1)
abbrev ms5_2 (t : Fin cfg5.N) : Memref sig .tc .vmem S50000x96 .f32 := win5_2.stage (cfg5.slots t 2)
abbrev ms5_3 (t : Fin cfg5.N) : Memref sig .tc .vmem S50008x96 .f32 := win5_3.stage (cfg5.slots t 3)

/-- The sums after the block at position `n`. -/
abbrev sums5 (c : Dev nD) : (n : ℕ) → n < cfg5.N → Vec F S50008x96 .f32 := runSums (iblk5 V c 0) (iblk5 V c 1) (iblk5 V c 2)

/-- The call's proof data: the arrays as the call finds them; after a point each input's buffer at its block and the sums at `sums5`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => sums5 V c t.val t.isLt
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = sums5 V c t.val t.isLt := by dsimp only [dat5]

/-- An input's staging buffer holds its block at every point. -/
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)
/-- After the first point the sums' staging buffer holds what the point before left. -/
theorem before5_3 (c : Dev nD) (t : Fin cfg5.N) (h0 : ¬ t.val = 0) (d) :
    (dat5 V c).before 3 t d = sums5 V c (t.val - 1) (Nat.lt_of_le_of_lt (Nat.sub_le _ _) t.isLt) := by
  have hN : t.val < 200 := lt_of_lt_of_eq t.isLt (show cfg5.N = 200 from N_5)
  rw [Dat.before_out_kept _ 3 rfl t (by omega) (Bool.eq_false_iff.mpr fun h => by have := (flush5_3 _).mp h; dsimp only at this; omega)
    (fun _ => rfl) (fun _ _ => rfl)]
  dsimp only [dat5]

/-- What is asked of the words: every source names a row of the features, every destination a row of the sums. -/
def WordsOk5 : Prop := ∀ (c : Dev nD) (t : Fin cfg5.N),
  (∀ k : Fin 4000, BitVec.toNat ((iblk5 V c 0 t : Vec F S1x1x4000 .i32) (ix3 0 0 k)) < 50000)
    ∧ ∀ k : Fin 4000, BitVec.toNat ((iblk5 V c 1 t : Vec F S1x1x4000 .i32) (ix3 0 0 k)) < 50008

/-- What the body is called with at point `t`, and what it returns. -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t))

/-- The body at any point: `scatter_point` from zero at the first point, from what the point before left at a later one. -/
theorem sound_body5 (hw : WordsOk5 V) (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [cc5_eq]
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  exact scatter_point c (grid5.coords t) _ _ _ _ _ _ _ _ (iblk5 V c 0 t) (iblk5 V c 1 t) (iblk5 V c 2 t) (hw c t).1 (hw c t).2 _ _
    (fun d => runSums_at _ _ _ t _ (first_iff t) _ fun h => before5_3 V c t h d) _ _ _

/-- The body table's row at point `t`'s slots is the body. -/
theorem defs₀_row5 (t : Fin cfg5.N) :
    defs₀ (F := F) .tc cfg5.body (cfg5.bodyArgs t (cfg5.slots t)) = bodyAt5 t := by
  unfold defs₀; rw [Defs.onTc_tc]

/-- The call's body obligation, at every point. -/
theorem body_obligation5 (hw : WordsOk5 V) (c : Dev nD) : BodyObligation (dat5 (F := F) V c) (defs₀ (F := F)) Variants.none () Set.univ := fun t => by
  rw [bigSep_W5, bigSep_W5, defs₀_row5]
  exact triple_restated (sound_body5 V hw c t) rfl .rfl fun _ => .rfl

end Regions

end Cert.KernelIdeal.Gen

end
-- ==== Proof.KernelIdeal.Region6.lean ====
module

public import proofs.«01_k».proof.Proof.Gen.KernelIdeal.Launch
public import proofs.«01_k».proof.Proof.Gen.KernelIdeal.Points
public import proofs.«01_k».proof.Proof.KernelIdeal.Scatter
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- the contents of the buffers when the call is entered
variable (V : (c : Dev nD) → (b : Ref sig .tc) → Buf (Elt F) ((c : Thread nD τ).loc b))

/-! # Pallas call 6: a scatter -/

/-- Window `w`'s block at point `t`, read off its array as the call finds it. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The staging buffers at point `t`. -/
abbrev ms6_0 (t : Fin cfg6.N) : Memref sig .tc .smem S1x1x4000 .i32 := win6_0.stage (cfg6.slots t 0)
abbrev ms6_1 (t : Fin cfg6.N) : Memref sig .tc .smem S1x1x4000 .i32 := win6_1.stage (cfg6.slots t 1)
abbrev ms6_2 (t : Fin cfg6.N) : Memref sig .tc .vmem S50000x96 .f32 := win6_2.stage (cfg6.slots t 2)
abbrev ms6_3 (t : Fin cfg6.N) : Memref sig .tc .vmem S50008x96 .f32 := win6_3.stage (cfg6.slots t 3)

/-- The sums after the block at position `n`. -/
abbrev sums6 (c : Dev nD) : (n : ℕ) → n < cfg6.N → Vec F S50008x96 .f32 := runSums (iblk6 V c 0) (iblk6 V c 1) (iblk6 V c 2)

/-- The call's proof data: the arrays as the call finds them; after a point each input's buffer at its block and the sums at `sums6`. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => sums6 V c t.val t.isLt
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = sums6 V c t.val t.isLt := by dsimp only [dat6]

/-- An input's staging buffer holds its block at every point. -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
/-- After the first point the sums' staging buffer holds what the point before left. -/
theorem before6_3 (c : Dev nD) (t : Fin cfg6.N) (h0 : ¬ t.val = 0) (d) :
    (dat6 V c).before 3 t d = sums6 V c (t.val - 1) (Nat.lt_of_le_of_lt (Nat.sub_le _ _) t.isLt) := by
  have hN : t.val < 200 := lt_of_lt_of_eq t.isLt (show cfg6.N = 200 from N_6)
  rw [Dat.before_out_kept _ 3 rfl t (by omega) (Bool.eq_false_iff.mpr fun h => by have := (flush6_3 _).mp h; dsimp only at this; omega)
    (fun _ => rfl) (fun _ _ => rfl)]
  dsimp only [dat6]

/-- What is asked of the words: every source names a row of the features, every destination a row of the sums. -/
def WordsOk6 : Prop := ∀ (c : Dev nD) (t : Fin cfg6.N),
  (∀ k : Fin 4000, BitVec.toNat ((iblk6 V c 0 t : Vec F S1x1x4000 .i32) (ix3 0 0 k)) < 50000)
    ∧ ∀ k : Fin 4000, BitVec.toNat ((iblk6 V c 1 t : Vec F S1x1x4000 .i32) (ix3 0 0 k)) < 50008

/-- What the body is called with at point `t`, and what it returns. -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t))

/-- The body at any point: `scatter_point` from zero at the first point, from what the point before left at a later one. -/
theorem sound_body6 (hw : WordsOk6 V) (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [cc6_eq]
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  exact scatter_point c (grid6.coords t) _ _ _ _ _ _ _ _ (iblk6 V c 0 t) (iblk6 V c 1 t) (iblk6 V c 2 t) (hw c t).1 (hw c t).2 _ _
    (fun d => runSums_at _ _ _ t _ (first_iff t) _ fun h => before6_3 V c t h d) _ _ _

/-- The body table's row at point `t`'s slots is the body. -/
theorem defs₀_row6 (t : Fin cfg6.N) :
    defs₀ (F := F) .tc cfg6.body (cfg6.bodyArgs t (cfg6.slots t)) = bodyAt6 t := by
  unfold defs₀; rw [Defs.onTc_tc]

/-- The call's body obligation, at every point. -/
theorem body_obligation6 (hw : WordsOk6 V) (c : Dev nD) : BodyObligation (dat6 (F := F) V c) (defs₀ (F := F)) Variants.none () Set.univ := fun t => by
  rw [bigSep_W6, bigSep_W6, defs₀_row6]
  exact triple_restated (sound_body6 V hw c t) rfl .rfl fun _ => .rfl

end Regions

end Cert.KernelIdeal.Gen

end
-- ==== Proof.KernelIdeal.Region7.lean ====
module

public import proofs.«01_k».proof.Proof.Gen.KernelIdeal.Launch
public import proofs.«01_k».proof.Proof.Gen.KernelIdeal.Points
public import proofs.«01_k».proof.Proof.KernelIdeal.Scatter
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- the contents of the buffers when the call is entered
variable (V : (c : Dev nD) → (b : Ref sig .tc) → Buf (Elt F) ((c : Thread nD τ).loc b))

/-! # Pallas call 7: a scatter -/

/-- Window `w`'s block at point `t`, read off its array as the call finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The staging buffers at point `t`. -/
abbrev ms7_0 (t : Fin cfg7.N) : Memref sig .tc .smem S1x1x4000 .i32 := win7_0.stage (cfg7.slots t 0)
abbrev ms7_1 (t : Fin cfg7.N) : Memref sig .tc .smem S1x1x4000 .i32 := win7_1.stage (cfg7.slots t 1)
abbrev ms7_2 (t : Fin cfg7.N) : Memref sig .tc .vmem S50000x96 .f32 := win7_2.stage (cfg7.slots t 2)
abbrev ms7_3 (t : Fin cfg7.N) : Memref sig .tc .vmem S50008x96 .f32 := win7_3.stage (cfg7.slots t 3)

/-- The sums after the block at position `n`. -/
abbrev sums7 (c : Dev nD) : (n : ℕ) → n < cfg7.N → Vec F S50008x96 .f32 := runSums (iblk7 V c 0) (iblk7 V c 1) (iblk7 V c 2)

/-- The call's proof data: the arrays as the call finds them; after a point each input's buffer at its block and the sums at `sums7`. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => sums7 V c t.val t.isLt
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = sums7 V c t.val t.isLt := by dsimp only [dat7]

/-- An input's staging buffer holds its block at every point. -/
theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)
/-- After the first point the sums' staging buffer holds what the point before left. -/
theorem before7_3 (c : Dev nD) (t : Fin cfg7.N) (h0 : ¬ t.val = 0) (d) :
    (dat7 V c).before 3 t d = sums7 V c (t.val - 1) (Nat.lt_of_le_of_lt (Nat.sub_le _ _) t.isLt) := by
  have hN : t.val < 200 := lt_of_lt_of_eq t.isLt (show cfg7.N = 200 from N_7)
  rw [Dat.before_out_kept _ 3 rfl t (by omega) (Bool.eq_false_iff.mpr fun h => by have := (flush7_3 _).mp h; dsimp only at this; omega)
    (fun _ => rfl) (fun _ _ => rfl)]
  dsimp only [dat7]

/-- What is asked of the words: every source names a row of the features, every destination a row of the sums. -/
def WordsOk7 : Prop := ∀ (c : Dev nD) (t : Fin cfg7.N),
  (∀ k : Fin 4000, BitVec.toNat ((iblk7 V c 0 t : Vec F S1x1x4000 .i32) (ix3 0 0 k)) < 50000)
    ∧ ∀ k : Fin 4000, BitVec.toNat ((iblk7 V c 1 t : Vec F S1x1x4000 .i32) (ix3 0 0 k)) < 50008

/-- What the body is called with at point `t`, and what it returns. -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t))

/-- The body at any point: `scatter_point` from zero at the first point, from what the point before left at a later one. -/
theorem sound_body7 (hw : WordsOk7 V) (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [cc7_eq]
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  exact scatter_point c (grid7.coords t) _ _ _ _ _ _ _ _ (iblk7 V c 0 t) (iblk7 V c 1 t) (iblk7 V c 2 t) (hw c t).1 (hw c t).2 _ _
    (fun d => runSums_at _ _ _ t _ (first_iff t) _ fun h => before7_3 V c t h d) _ _ _

/-- The body table's row at point `t`'s slots is the body. -/
theorem defs₀_row7 (t : Fin cfg7.N) :
    defs₀ (F := F) .tc cfg7.body (cfg7.bodyArgs t (cfg7.slots t)) = bodyAt7 t := by
  unfold defs₀; rw [Defs.onTc_tc]

/-- The call's body obligation, at every point. -/
theorem body_obligation7 (hw : WordsOk7 V) (c : Dev nD) : BodyObligation (dat7 (F := F) V c) (defs₀ (F := F)) Variants.none () Set.univ := fun t => by
  rw [bigSep_W7, bigSep_W7, defs₀_row7]
  exact triple_restated (sound_body7 V hw c t) rfl .rfl fun _ => .rfl

end Regions

end Cert.KernelIdeal.Gen

end
-- ==== Proof.KernelIdeal.Region8.lean ====
module

public import proofs.«01_k».proof.Proof.Gen.KernelIdeal.Launch
public import proofs.«01_k».proof.Proof.Gen.KernelIdeal.Points
public import proofs.«01_k».proof.Proof.KernelIdeal.Dense
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- the contents of the buffers when the call is entered
variable (V : (c : Dev nD) → (b : Ref sig .tc) → Buf (Elt F) ((c : Thread nD τ).loc b))

/-! # Pallas call 8: the second layer's rows -/

/-- Window `w`'s block at point `t`, read off its array as the call finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The staging buffers at point `t`. -/
abbrev ms8_0 (t : Fin cfg8.N) : Memref sig .tc .vmem S2000x96 .f32 := win8_0.stage (cfg8.slots t 0)
abbrev ms8_1 (t : Fin cfg8.N) : Memref sig .tc .vmem S2000x96 .f32 := win8_1.stage (cfg8.slots t 1)
abbrev ms8_2 (t : Fin cfg8.N) : Memref sig .tc .vmem S2000x96 .f32 := win8_2.stage (cfg8.slots t 2)
abbrev ms8_3 (t : Fin cfg8.N) : Memref sig .tc .vmem S2000x96 .f32 := win8_3.stage (cfg8.slots t 3)
abbrev ms8_4 (t : Fin cfg8.N) : Memref sig .tc .vmem S2000x3 .f32 := win8_4.stage (cfg8.slots t 4)
abbrev ms8_5 (t : Fin cfg8.N) : Memref sig .tc .vmem S96x96 .f32 := win8_5.stage (cfg8.slots t 5)
abbrev ms8_6 (t : Fin cfg8.N) : Memref sig .tc .vmem S3x96x96 .f32 := win8_6.stage (cfg8.slots t 6)
abbrev ms8_7 (t : Fin cfg8.N) : Memref sig .tc .vmem S1x96 .f32 := win8_7.stage (cfg8.slots t 7)
abbrev ms8_8 (t : Fin cfg8.N) : Memref sig .tc .vmem S2000x96 .f32 := win8_8.stage (cfg8.slots t 8)

/-- What a point stores. -/
def outs8 (c : Dev nD) (t : Fin cfg8.N) : Vec F S2000x96 .f32 := dense8 (iblk8 V c 0 t) (iblk8 V c 1 t) (iblk8 V c 2 t) (iblk8 V c 3 t) (iblk8 V c 4 t) (iblk8 V c 5 t) (iblk8 V c 6 t) (iblk8 V c 7 t)

/-- The call's proof data: the arrays as the call finds them; after a point each input's buffer at its block and the output's at `outs8`. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => outs8 V c t
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = outs8 V c t := by dsimp only [dat8]

/-- An input's staging buffer holds its block at every point. -/
theorem before8_0 (c : Dev nD) (t : Fin cfg8.N) (d) : (dat8 V c).before 0 t d = iblk8 V c 0 t :=
  ((dat8 V c).before_in_eq_fetched 0 rfl (fun _ => rfl) (fun _ _ _ => rfl) (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl) (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl) (fun t => by rw [after8_2]; unfold Dat.blockOf iblk8; rw [A_eq8]; try rfl) t d).trans
    (by unfold Dat.fetched Dat.blockOf iblk8; rw [A_eq8]; try rfl)
theorem before8_3 (c : Dev nD) (t : Fin cfg8.N) (d) : (dat8 V c).before 3 t d = iblk8 V c 3 t :=
  ((dat8 V c).before_in_eq_fetched 3 rfl (fun _ => rfl) (fun _ _ _ => rfl) (fun t => by rw [after8_3]; unfold Dat.blockOf iblk8; rw [A_eq8]; try rfl) t d).trans
    (by unfold Dat.fetched Dat.blockOf iblk8; rw [A_eq8]; try rfl)
theorem before8_4 (c : Dev nD) (t : Fin cfg8.N) (d) : (dat8 V c).before 4 t d = iblk8 V c 4 t :=
  ((dat8 V c).before_in_eq_fetched 4 rfl (fun _ => rfl) (fun _ _ _ => rfl) (fun t => by rw [after8_4]; unfold Dat.blockOf iblk8; rw [A_eq8]; try rfl) t d).trans
    (by unfold Dat.fetched Dat.blockOf iblk8; rw [A_eq8]; try rfl)
theorem before8_5 (c : Dev nD) (t : Fin cfg8.N) (d) : (dat8 V c).before 5 t d = iblk8 V c 5 t :=
  ((dat8 V c).before_in_eq_fetched 5 rfl (fun _ => rfl) (fun _ _ _ => rfl) (fun t => by rw [after8_5]; unfold Dat.blockOf iblk8; rw [A_eq8]; try rfl) t d).trans
    (by unfold Dat.fetched Dat.blockOf iblk8; rw [A_eq8]; try rfl)
theorem before8_6 (c : Dev nD) (t : Fin cfg8.N) (d) : (dat8 V c).before 6 t d = iblk8 V c 6 t :=
  ((dat8 V c).before_in_eq_fetched 6 rfl (fun _ => rfl) (fun _ _ _ => rfl) (fun t => by rw [after8_6]; unfold Dat.blockOf iblk8; rw [A_eq8]; try rfl) t d).trans
    (by unfold Dat.fetched Dat.blockOf iblk8; rw [A_eq8]; try rfl)
theorem before8_7 (c : Dev nD) (t : Fin cfg8.N) (d) : (dat8 V c).before 7 t d = iblk8 V c 7 t :=
  ((dat8 V c).before_in_eq_fetched 7 rfl (fun _ => rfl) (fun _ _ _ => rfl) (fun t => by rw [after8_7]; unfold Dat.blockOf iblk8; rw [A_eq8]; try rfl) t d).trans
    (by unfold Dat.fetched Dat.blockOf iblk8; rw [A_eq8]; try rfl)

/-- What the body is called with at point `t`, and what it returns. -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d))
    ∗ (∃ d, owns (c : Thread nD τ) (ms8_8 t) fullShare ((dat8 V c).before 8 t d)))
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ owns (c : Thread nD τ) (ms8_2 t) fullShare ((dat8 V c).after 2 t)
    ∗ owns (c : Thread nD τ) (ms8_3 t) fullShare ((dat8 V c).after 3 t)
    ∗ owns (c : Thread nD τ) (ms8_4 t) fullShare ((dat8 V c).after 4 t)
    ∗ owns (c : Thread nD τ) (ms8_5 t) fullShare ((dat8 V c).after 5 t)
    ∗ owns (c : Thread nD τ) (ms8_6 t) fullShare ((dat8 V c).after 6 t)
    ∗ owns (c : Thread nD τ) (ms8_7 t) fullShare ((dat8 V c).after 7 t)
    ∗ owns (c : Thread nD τ) (ms8_8 t) fullShare ((dat8 V c).after 8 t))

/-- The body at any point. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8]
  unfold outs8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (dense_body8 c (grid8.coords t) _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body. -/
theorem defs₀_row8 (t : Fin cfg8.N) :
    defs₀ (F := F) .tc cfg8.body (cfg8.bodyArgs t (cfg8.slots t)) = bodyAt8 t := by
  unfold defs₀; rw [Defs.onTc_tc]

/-- The call's body obligation, at every point. -/
theorem body_obligation8 (c : Dev nD) : BodyObligation (dat8 (F := F) V c) (defs₀ (F := F)) Variants.none () Set.univ := fun t => by
  rw [bigSep_W8, bigSep_W8, defs₀_row8]
  exact triple_restated (sound_body8 V c t) rfl .rfl fun _ => .rfl

end Regions

end Cert.KernelIdeal.Gen

end
-- ==== Proof.KernelIdeal.Pool.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.VecWindow
public import Idealize.ShloMosaic.Lib.WritesUnit
public import Idealize.ShloMosaic.Lib.PointwiseCore

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The pooling: what a point of the call stores -/

/-- The kernel's two conditions at a point: it clears its sums, it stores the logits. -/
abbrev poolFirst (i : grid9.Coords) : Prop := (Scalar.cmpi .ne (Scalar.extui (Scalar.cmpi .eq (BitVec.ofNat 32 (i 0).val) 0#32)) 0#32) = 1#1
abbrev poolLast (i : grid9.Coords) : Prop := k9_cond2 i = 1#1

/-- The sums and the counts a point starts from: zero where it clears them. -/
def sums0 (b : Prop) [Decidable b] (sm : Vec F S512x96 .f32) : Vec F S512x96 .f32 := if b then k9_pay1 (F := F) else sm
def cnts0 (b : Prop) [Decidable b] (cn : Vec F S512x128 .f32) : Vec F S512x128 .f32 := if b then k9_pay2 (F := F) else cn

/-- The logits of the sums `sm` and the counts `cn`. -/
def logits (sm : Vec F S512x96 .f32) (cn : Vec F S512x128 .f32) (w : Vec F S96x16 .f32) (b : Vec F S1x16 .f32) : Vec F S512x16 .f32 :=
  k9_pay6 (VecWindow.window cn ![0, 0] S512x1.size inb_S512x128_S512x1_0_0) sm w b

set_option maxHeartbeats 1000000 in
/-- The body of the pooling call on any whole staging buffers: the block's rows are added into its graphs' sums and counts; the logits are stored at the last point. -/
theorem pool_body (c : Dev nD) (i : grid9.Coords) (arg1 : Memref sig .tc .vmem S2000x96 .f32) (harg1 : arg1.IsWhole) (arg2 : Memref sig .tc .vmem S2000x1 .i32) (harg2 : arg2.IsWhole) (arg3 : Memref sig .tc .vmem S96x16 .f32) (harg3 : arg3.IsWhole) (arg4 : Memref sig .tc .vmem S1x16 .f32) (harg4 : arg4.IsWhole) (arg5 : Memref sig .tc .vmem S512x96 .f32) (harg5 : arg5.IsWhole) (arg6 : Memref sig .tc .vmem S512x128 .f32) (harg6 : arg6.IsWhole) (arg7 : Memref sig .tc .vmem S512x16 .f32) (harg7 : arg7.IsWhole)
    (x0 : Vec F S2000x96 .f32) (x1 : Vec F S2000x1 .i32) (x2 : Vec F S96x16 .f32) (x3 : Vec F S1x16 .f32) (sm : Vec F S512x96 .f32) (cn : Vec F S512x128 .f32) (lg : Vec F S512x16 .f32) (hne : ¬ (poolFirst i ∧ poolLast i)) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare sm ∗ owns (c : Thread nD τ) arg6 fullShare cn ∗ owns (c : Thread nD τ) arg7 fullShare lg
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k9_pay4 x1 (sums0 (poolFirst i) sm) x0) ∗ owns (c : Thread nD τ) arg6 fullShare (k9_pay5 x1 (cnts0 (poolFirst i) cn)) ∗ owns (c : Thread nD τ) arg7 fullShare (if poolLast i then logits (k9_pay4 x1 (sums0 (poolFirst i) sm) x0) (k9_pay5 x1 (cnts0 (poolFirst i) cn)) x2 x3 else lg)) -∗ K ⟨⟩))
      ⊢ wp frame (wpE (defs₀ (F := F)) Variants.none (c : Thread nD τ) none) E (cc9__pool_kernel i arg1 harg1 arg2 harg2 arg3 harg3 arg4 harg4 arg5 harg5 arg6 harg6 arg7 harg7) K := by
  simp only [cc9__pool_kernel_eq_skeleton]; unfold cc9__pool_kernel_skel
  unfold owns sums0 cnts0
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, Hk⟩
  subst e0 e1 e2 e3 e4 e5 e6
  by_cases h0 : poolFirst i
  · have h1 : ¬ poolLast i := fun h => hne ⟨h0, h⟩
    rw [if_pos h0, if_pos h0, if_neg h1]
    sl_exec (disch := first | sl_exact h0 | sl_exact h1)
    sl_step
    iapply Hk
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; swap; · iexact H4
      ipureintro
      refine (View.read_writes_full arg5.view _ _ _ _).trans ?_
      exact congr (congr (congrArg k9_pay4 (View.readAt_full _ _ _)) (View.readAt_writes_full _ _ _ _ _ _)) (View.readAt_full _ _ _)
    isplitl [H5]
    · iexists _; isplitr; swap; · iexact H5
      ipureintro
      refine (View.read_writes_full arg6.view _ _ _ _).trans ?_
      exact congr (congrArg k9_pay5 (View.readAt_full _ _ _)) (View.readAt_writes_full _ _ _ _ _ _)
    iexists _; isplitr; swap; · iexact H6
    ipureintro
    exact rfl
  by_cases h1 : poolLast i
  · rw [if_neg h0, if_neg h0, if_pos h1]
    sl_exec (disch := first | sl_exact h0 | sl_exact h1)
    sl_step
    iapply Hk
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; swap; · iexact H4
      ipureintro
      refine (View.read_writes_full arg5.view _ _ _ _).trans ?_
      exact congr (congr (congrArg k9_pay4 (View.readAt_full _ _ _)) (View.readAt_full _ _ _)) (View.readAt_full _ _ _)
    isplitl [H5]
    · iexists _; isplitr; swap; · iexact H5
      ipureintro
      refine (View.read_writes_full arg6.view _ _ _ _).trans ?_
      exact congr (congrArg k9_pay5 (View.readAt_full _ _ _)) (View.readAt_full _ _ _)
    iexists _; isplitr; swap; · iexact H6
    ipureintro
    refine (View.read_writes_full arg7.view _ _ _ _).trans ?_
    unfold logits
    refine congr (congr (congr (congrArg k9_pay6 ?_) ?_) (View.readAt_full _ _ _)) (View.readAt_full _ _ _)
    · refine (View.readAt_unit _ _ _ rfl inb_S512x128_S512x1_0_0).trans (congrArg (fun z => VecWindow.window z _ _ _) ?_)
      refine (View.read_writes_full arg6.view _ _ _ _).trans ?_
      exact congr (congrArg k9_pay5 (View.readAt_full _ _ _)) (View.readAt_full _ _ _)
    · refine (View.readAt_writes_full _ _ _ _ _ _).trans ?_
      exact congr (congr (congrArg k9_pay4 (View.readAt_full _ _ _)) (View.readAt_full _ _ _)) (View.readAt_full _ _ _)
  · rw [if_neg h0, if_neg h0, if_neg h1]
    sl_exec (disch := first | sl_exact h0 | sl_exact h1)
    sl_step
    iapply Hk
    isplitl [H0]
    · iexists _; isplitr; · ipureintro; exact rfl
      iexact H0
    isplitl [H1]
    · iexists _; isplitr; · ipureintro; exact rfl
      iexact H1
    isplitl [H2]
    · iexists _; isplitr; · ipureintro; exact rfl
      iexact H2
    isplitl [H3]
    · iexists _; isplitr; · ipureintro; exact rfl
      iexact H3
    isplitl [H4]
    · iexists _; isplitr; swap; · iexact H4
      ipureintro
      refine (View.read_writes_full arg5.view _ _ _ _).trans ?_
      exact congr (congr (congrArg k9_pay4 (View.readAt_full _ _ _)) (View.readAt_full _ _ _)) (View.readAt_full _ _ _)
    isplitl [H5]
    · iexists _; isplitr; swap; · iexact H5
      ipureintro
      refine (View.read_writes_full arg6.view _ _ _ _).trans ?_
      exact congr (congrArg k9_pay5 (View.readAt_full _ _ _)) (View.readAt_full _ _ _)
    iexists _; isplitr; swap; · iexact H6
    ipureintro
    exact rfl

end Cert.KernelIdeal.Gen

end
-- ==== Proof.KernelIdeal.Region9.lean ====
module

public import proofs.«01_k».proof.Proof.Gen.KernelIdeal.Launch
public import proofs.«01_k».proof.Proof.Gen.KernelIdeal.Points
public import proofs.«01_k».proof.Proof.KernelIdeal.Pool
public import Idealize.ShloMosaic.Lib.Pipeline.FrameBody
public import Idealize.ShloMosaic.Lib.Pipeline.FrameSuffix
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- the contents of the buffers when the call is entered
variable (V : (c : Dev nD) → (b : Ref sig .tc) → Buf (Elt F) ((c : Thread nD τ).loc b))

/-! # Pallas call 9: the pooling -/

/-- Window `w`'s block at point `t`, read off its array as the call finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The staging buffers at point `t`. -/
abbrev ms9_0 (t : Fin cfg9.N) : Memref sig .tc .vmem S2000x96 .f32 := win9_0.stage (cfg9.slots t 0)
abbrev ms9_1 (t : Fin cfg9.N) : Memref sig .tc .vmem S2000x1 .i32 := win9_1.stage (cfg9.slots t 1)
abbrev ms9_2 (t : Fin cfg9.N) : Memref sig .tc .vmem S96x16 .f32 := win9_2.stage (cfg9.slots t 2)
abbrev ms9_3 (t : Fin cfg9.N) : Memref sig .tc .vmem S1x16 .f32 := win9_3.stage (cfg9.slots t 3)
abbrev ms9_4 (t : Fin cfg9.N) : Memref sig .tc .vmem S512x96 .f32 := win9_4.stage (cfg9.slots t 4)
abbrev ms9_5 (t : Fin cfg9.N) : Memref sig .tc .vmem S512x128 .f32 := win9_5.stage (cfg9.slots t 5)
abbrev ms9_6 (t : Fin cfg9.N) : Memref sig .tc .vmem S512x16 .f32 := win9_6.stage (cfg9.slots t 6)

/-- The kernel clears its sums at the first point only, and stores the logits at the last. -/
theorem hfirst : ∀ t : Fin cfg9.N, poolFirst (grid9.coords t) ↔ t.val = 0 :=
  (fun t => by
    have ht : t.val < 25 := Nat.lt_of_lt_of_eq t.isLt N_9
    have e0 : (grid9.coords t 0).val = t.val / 1 % 25 := Pipeline.Grid.coords_val t 0 (by decide) rfl
    simp only [poolFirst, e0]
    have h0 : t.val = 0 ↔ t.val % 25 = 0 := by omega
    rw [h0]
    word_cmp
   : ∀ t : Fin grid9.N, poolFirst (grid9.coords t) ↔ t.val = 0)
theorem hlast : ∀ t : Fin cfg9.N, poolLast (grid9.coords t) ↔ t.val = 24 :=
  (fun t => by
    have ht : t.val < 25 := Nat.lt_of_lt_of_eq t.isLt N_9
    have e0 : (grid9.coords t 0).val = t.val / 1 % 25 := Pipeline.Grid.coords_val t 0 (by decide) rfl
    simp only [poolLast, k9_cond2, e0]
    have h0 : t.val = 24 ↔ t.val % 25 = 24 := by omega
    rw [h0]
    word_cmp
   : ∀ t : Fin grid9.N, poolLast (grid9.coords t) ↔ t.val = 24)

/-- The logits' buffer is left alone, and not written back, before the last point. -/
theorem idle9_6 : ∀ t : Fin cfg9.N, ¬ poolLast (grid9.coords t) → cfg9.idle 6 (grid9.coords t) = true := by decide +kernel
theorem noflush9_6 : ∀ t : Fin cfg9.N, ¬ poolLast (grid9.coords t) → (cfg9.win 6).flush t = false := by decide +kernel
theorem live9_6 : ∀ t : Fin cfg9.N, poolLast (grid9.coords t) → cfg9.idle 6 (grid9.coords t) = false := by decide +kernel

/-- The graphs' sums and counts after the block at position `n`. -/
def sums9 (c : Dev nD) : (n : ℕ) → n < cfg9.N → Vec F S512x96 .f32
  | 0, hn => k9_pay4 (iblk9 V c 1 ⟨0, hn⟩) (k9_pay1 (F := F)) (iblk9 V c 0 ⟨0, hn⟩)
  | n + 1, hn => k9_pay4 (iblk9 V c 1 ⟨n + 1, hn⟩) (sums9 c n (Nat.lt_of_succ_lt hn)) (iblk9 V c 0 ⟨n + 1, hn⟩)
def cnts9 (c : Dev nD) : (n : ℕ) → n < cfg9.N → Vec F S512x128 .f32
  | 0, hn => k9_pay5 (iblk9 V c 1 ⟨0, hn⟩) (k9_pay2 (F := F))
  | n + 1, hn => k9_pay5 (iblk9 V c 1 ⟨n + 1, hn⟩) (cnts9 c n (Nat.lt_of_succ_lt hn))

/-- The call's proof data: the arrays as the call finds them; after a point each input's buffer at its block, the sums and the counts, and the logits of both. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => sums9 V c t.val t.isLt
    | ⟨5, _⟩ => cnts9 V c t.val t.isLt
    | ⟨6, _⟩ => logits (sums9 V c t.val t.isLt) (cnts9 V c t.val t.isLt) (iblk9 V c 2 t) (iblk9 V c 3 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = sums9 V c t.val t.isLt := by dsimp only [dat9]
theorem after9_5 (c : Dev nD) (t : Fin cfg9.N) : (dat9 V c).after 5 t = cnts9 V c t.val t.isLt := by dsimp only [dat9]
theorem after9_6 (c : Dev nD) (t : Fin cfg9.N) : (dat9 V c).after 6 t = logits (sums9 V c t.val t.isLt) (cnts9 V c t.val t.isLt) (iblk9 V c 2 t) (iblk9 V c 3 t) := by dsimp only [dat9]

/-- An input's staging buffer holds its block at every point. -/
theorem before9_0 (c : Dev nD) (t : Fin cfg9.N) (d) : (dat9 V c).before 0 t d = iblk9 V c 0 t :=
  ((dat9 V c).before_in_eq_fetched 0 rfl (fun _ => rfl) (fun _ _ _ => rfl) (fun t => by rw [after9_0]; unfold Dat.blockOf iblk9; rw [A_eq9]; try rfl) t d).trans
    (by unfold Dat.fetched Dat.blockOf iblk9; rw [A_eq9]; try rfl)
theorem before9_1 (c : Dev nD) (t : Fin cfg9.N) (d) : (dat9 V c).before 1 t d = iblk9 V c 1 t :=
  ((dat9 V c).before_in_eq_fetched 1 rfl (fun _ => rfl) (fun _ _ _ => rfl) (fun t => by rw [after9_1]; unfold Dat.blockOf iblk9; rw [A_eq9]; try rfl) t d).trans
    (by unfold Dat.fetched Dat.blockOf iblk9; rw [A_eq9]; try rfl)
theorem before9_2 (c : Dev nD) (t : Fin cfg9.N) (d) : (dat9 V c).before 2 t d = iblk9 V c 2 t :=
  ((dat9 V c).before_in_eq_fetched 2 rfl (fun _ => rfl) (fun _ _ _ => rfl) (fun t => by rw [after9_2]; unfold Dat.blockOf iblk9; rw [A_eq9]; try rfl) t d).trans
    (by unfold Dat.fetched Dat.blockOf iblk9; rw [A_eq9]; try rfl)
theorem before9_3 (c : Dev nD) (t : Fin cfg9.N) (d) : (dat9 V c).before 3 t d = iblk9 V c 3 t :=
  ((dat9 V c).before_in_eq_fetched 3 rfl (fun _ => rfl) (fun _ _ _ => rfl) (fun t => by rw [after9_3]; unfold Dat.blockOf iblk9; rw [A_eq9]; try rfl) t d).trans
    (by unfold Dat.fetched Dat.blockOf iblk9; rw [A_eq9]; try rfl)
/-- After the first point the sums' and the counts' staging buffers hold what the point before left. -/
theorem before9_4 (c : Dev nD) (t : Fin cfg9.N) (h0 : ¬ t.val = 0) (d) :
    (dat9 V c).before 4 t d = sums9 V c (t.val - 1) (Nat.lt_of_le_of_lt (Nat.sub_le _ _) t.isLt) := by
  have hN : t.val < 25 := lt_of_lt_of_eq t.isLt (show cfg9.N = 25 from N_9)
  rw [Dat.before_out_kept _ 4 rfl t (by omega) (Bool.eq_false_iff.mpr fun h => by have := (flush9_4 _).mp h; dsimp only at this; omega)
    (fun _ => rfl) (fun _ _ => rfl)]
  dsimp only [dat9]
theorem before9_5 (c : Dev nD) (t : Fin cfg9.N) (h0 : ¬ t.val = 0) (d) :
    (dat9 V c).before 5 t d = cnts9 V c (t.val - 1) (Nat.lt_of_le_of_lt (Nat.sub_le _ _) t.isLt) := by
  have hN : t.val < 25 := lt_of_lt_of_eq t.isLt (show cfg9.N = 25 from N_9)
  rw [Dat.before_out_kept _ 5 rfl t (by omega) (Bool.eq_false_iff.mpr fun h => by have := (flush9_5 _).mp h; dsimp only at this; omega)
    (fun _ => rfl) (fun _ _ => rfl)]
  dsimp only [dat9]

/-- What the body is called with at point `t`, and what it returns. -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d))
    ∗ (∃ d, owns (c : Thread nD τ) (ms9_5 t) fullShare ((dat9 V c).before 5 t d))
    ∗ (∃ d, owns (c : Thread nD τ) (ms9_6 t) fullShare ((dat9 V c).before 6 t d)))
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t
    ∗ (dat9 V c).leavesExact 6 t)

/-- A window the kernel reads, or stores at every point, is left at its contents. -/
theorem leaves9 (c : Dev nD) (w : Fin cfg9.W) (t : Fin cfg9.N) (h : cfg9.idle w (grid9.coords t) = false) :
    (dat9 V c).leavesExact w t = owns (c : Thread nD τ) ((cfg9.win w).stage (cfg9.slots t w)) fullShare ((dat9 V c).after w t) := by
  unfold Dat.leavesExact
  rw [h]

set_option maxHeartbeats 1000000 in
/-- The body at any point: `pool_body` from zero at the first point, from what the point before left at a later one. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    leaves9 V c 0 t rfl, leaves9 V c 1 t rfl, leaves9 V c 2 t rfl, leaves9 V c 3 t rfl, leaves9 V c 4 t rfl, leaves9 V c 5 t rfl,
    after9_0, after9_1, after9_2, after9_3, after9_4, after9_5]
  have hne : ¬ (poolFirst (grid9.coords t) ∧ poolLast (grid9.coords t)) := fun h => by
    have := (hfirst t).mp h.1; have := (hlast t).mp h.2; omega
  have key4 : ∀ d, sums9 V c t.val t.isLt = k9_pay4 (iblk9 V c 1 t) (sums0 (poolFirst (grid9.coords t)) ((dat9 V c).before 4 t d)) (iblk9 V c 0 t) := fun d => by
    obtain ⟨n, hn⟩ := t
    cases n with
    | zero => rw [sums0, if_pos ((hfirst ⟨0, hn⟩).mpr rfl)]; rfl
    | succ n => rw [sums0, if_neg (fun h => Nat.succ_ne_zero n ((hfirst ⟨n + 1, hn⟩).mp h)), before9_4 V c ⟨n + 1, hn⟩ (Nat.succ_ne_zero n)]; rfl
  have key5 : ∀ d, cnts9 V c t.val t.isLt = k9_pay5 (iblk9 V c 1 t) (cnts0 (poolFirst (grid9.coords t)) ((dat9 V c).before 5 t d)) := fun d => by
    obtain ⟨n, hn⟩ := t
    cases n with
    | zero => rw [cnts0, if_pos ((hfirst ⟨0, hn⟩).mpr rfl)]; rfl
    | succ n => rw [cnts0, if_neg (fun h => Nat.succ_ne_zero n ((hfirst ⟨n + 1, hn⟩).mp h)), before9_5 V c ⟨n + 1, hn⟩ (Nat.succ_ne_zero n)]; rfl
  have hlg : ∀ (d) (x : Vec F S512x16 .f32), (poolLast (grid9.coords t) → x = (dat9 V c).after 6 t) → (¬ poolLast (grid9.coords t) → x = (dat9 V c).before 6 t d) →
      (owns (c : Thread nD τ) (ms9_6 t) fullShare x : sProp 𝕄) ⊢ (dat9 V c).leavesExact 6 t := fun d x hx hx' => by
    by_cases h1 : poolLast (grid9.coords t)
    · rw [leaves9 V c 6 t (live9_6 t h1), hx h1]
    · rw [Dat.leavesExact_idle (dat9 V c) 6 t (idle9_6 t h1) (noflush9_6 t h1)]
      rw [hx' h1]
      iintro H
      iexists d; iexact H
  iintro ⟨HΦ, Ho, ⟨%d0, H0⟩, ⟨%d1, H1⟩, ⟨%d2, H2⟩, ⟨%d3, H3⟩, ⟨%d4, H4⟩, ⟨%d5, H5⟩, ⟨%d6, H6⟩⟩
  iapply (pool_body c (grid9.coords t) _ _ _ _ _ _ _ _ _ _ _ _ _ _ (iblk9 V c 0 t) (iblk9 V c 1 t) (iblk9 V c 2 t) (iblk9 V c 3 t) ((dat9 V c).before 4 t d4) ((dat9 V c).before 5 t d5) ((dat9 V c).before 6 t d6) hne Set.univ _)
  rw [← key4 d4, ← key5 d5]
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (hlg d6 _ (fun h1 => (if_pos h1).trans (after9_6 V c t).symm) (fun h1 => if_neg h1))
  iexact H6

/-- The body table's row at point `t`'s slots is the body. -/
theorem defs₀_row9 (t : Fin cfg9.N) :
    defs₀ (F := F) .tc cfg9.body (cfg9.bodyArgs t (cfg9.slots t)) = bodyAt9 t := by
  unfold defs₀; rw [Defs.onTc_tc]

/-- The call's body obligation, at every point. -/
theorem body_obligation9 (c : Dev nD) : BodyObligation (dat9 (F := F) V c) (defs₀ (F := F)) Variants.none () Set.univ := fun t => by
  rw [bigSep_W9, bigSep_W9, defs₀_row9]
  exact triple_restated (sound_body9 V c t) rfl .rfl fun _ => .rfl

end Regions

end Cert.KernelIdeal.Gen

end
-- ==== Proof.KernelIdeal.Hosts.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14]

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_c, main_v3, main_v4, main_v5, main_v6, main_c_0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays. -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_v7]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays. -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v8, main_c_1, main_v9, main_v10, main_v11, main_v12, main_c_2]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays. -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_call1_v1, main_v13]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays. -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_v14, main_c_3, main_v15, main_v16, main_v17, main_v18, main_c_4]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays. -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_call2_v1, main_v19]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays. -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_v20]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays. -/
theorem hostOps0_6_args : ∀ a ∈ argRefs, a ∉ hostOps0_6_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v23]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays. -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v25]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays. -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v27, main_v28, main_v29, main_cst, main_v30, main_v31, main_cst_5, main_v32, main_v33, main_v34, main_v35, main_cst_6, main_v36, main_v37, main_cst_7, main_v38, main_v39, main_v40, main_v41, main_cst_8, main_v42, main_v43, main_cst_9, main_v44, main_v45, main_v46, main_v47, main_v48, main_v49, main_v50]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays. -/
theorem hostOps4_args : ∀ a ∈ argRefs, a ∉ hostOps4_W := ListAll.forall_mem_of_all_decide (by decide +kernel)

/-- No operation of `hostOps6` allocates a buffer. -/
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_v53]
theorem hostOps6_writes : (hostOps6 : List (HloOp τ sig (Elt F))).Forall fun op => op.writes ⊆ (hostOps6_W.map (Proc.devRef (τ := τ) .tc)).toFinset :=
  StableHlo.forall_writes_sub_of_map rfl
/-- `hostOps6` writes none of the argument arrays. -/
theorem hostOps6_args : ∀ a ∈ argRefs, a ∉ hostOps6_W := ListAll.forall_mem_of_all_decide (by decide +kernel)

/-- No operation of `hostOps7` allocates a buffer. -/
theorem hostOps7_fresh : (hostOps7 : List (HloOp τ sig (Elt F))).Forall fun op => op.fresh = ∅ := by
  simp only [List.Forall]; repeat' constructor
/-- The reference each operation of `hostOps7` writes, in order. -/
abbrev hostOps7_W : List (Ref sig .tc) := [main_v55]
theorem hostOps7_writes : (hostOps7 : List (HloOp τ sig (Elt F))).Forall fun op => op.writes ⊆ (hostOps7_W.map (Proc.devRef (τ := τ) .tc)).toFinset :=
  StableHlo.forall_writes_sub_of_map rfl
/-- `hostOps7` writes none of the argument arrays. -/
theorem hostOps7_args : ∀ a ∈ argRefs, a ∉ hostOps7_W := ListAll.forall_mem_of_all_decide (by decide +kernel)

/-- No operation of `hostOps8` allocates a buffer. -/
theorem hostOps8_fresh : (hostOps8 : List (HloOp τ sig (Elt F))).Forall fun op => op.fresh = ∅ := by
  simp only [List.Forall]; repeat' constructor
/-- The reference each operation of `hostOps8` writes, in order. -/
abbrev hostOps8_W : List (Ref sig .tc) := [main_v57, main_v58]
theorem hostOps8_writes : (hostOps8 : List (HloOp τ sig (Elt F))).Forall fun op => op.writes ⊆ (hostOps8_W.map (Proc.devRef (τ := τ) .tc)).toFinset :=
  StableHlo.forall_writes_sub_of_map rfl
/-- `hostOps8` writes none of the argument arrays. -/
theorem hostOps8_args : ∀ a ∈ argRefs, a ∉ hostOps8_W := ListAll.forall_mem_of_all_decide (by decide +kernel)

/-- No operation of `hostOps9` allocates a buffer. -/
theorem hostOps9_fresh : (hostOps9 : List (HloOp τ sig (Elt F))).Forall fun op => op.fresh = ∅ := by
  simp only [List.Forall]; repeat' constructor
/-- The reference each operation of `hostOps9` writes, in order. -/
abbrev hostOps9_W : List (Ref sig .tc) := [main_v60, main_v61]
theorem hostOps9_writes : (hostOps9 : List (HloOp τ sig (Elt F))).Forall fun op => op.writes ⊆ (hostOps9_W.map (Proc.devRef (τ := τ) .tc)).toFinset :=
  StableHlo.forall_writes_sub_of_map rfl
/-- `hostOps9` writes none of the argument arrays. -/
theorem hostOps9_args : ∀ a ∈ argRefs, a ∉ hostOps9_W := ListAll.forall_mem_of_all_decide (by decide +kernel)

end Cert.KernelIdeal.Gen

end
-- ==== Proof.KernelIdeal.Fold.lean ====
module

public import proofs.«01_k».proof.Proof.KernelIdeal.Region0
public import proofs.«01_k».proof.Proof.KernelIdeal.Region1
public import proofs.«01_k».proof.Proof.KernelIdeal.Region2
public import proofs.«01_k».proof.Proof.KernelIdeal.Region3
public import proofs.«01_k».proof.Proof.KernelIdeal.Region4
public import proofs.«01_k».proof.Proof.KernelIdeal.Region5
public import proofs.«01_k».proof.Proof.KernelIdeal.Region6
public import proofs.«01_k».proof.Proof.KernelIdeal.Region7
public import proofs.«01_k».proof.Proof.KernelIdeal.Region8
public import proofs.«01_k».proof.Proof.KernelIdeal.Region9
public import proofs.«01_k».proof.Proof.KernelIdeal.Hosts

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6` (region 0's entry). -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
abbrev V7 : (c : Dev nD) → (b : Ref sig .tc) → Buf (Elt F) ((c : Thread nD τ).loc b) := fun c b => W7 m ρ c b
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
theorem W8_of (c : Dev nD) (r : Ref sig .tc) (h : ∀ w : Fin cfg0.W, Pipeline.arrRef spec0 w = r → (cfg0.win w).isOut = false) :
    W8 m ρ c (Proc.devRef .tc r) = W7 m ρ c (Proc.devRef .tc r) := by
  by_cases hw : ∃ w : Fin cfg0.W, Pipeline.arrRef spec0 w = r
  · obtain ⟨w, rfl⟩ := hw
    exact (W8_arr m ρ c w).trans (((dat0 (V7 m ρ) c).arrAt_in w (h w rfl) _).trans (A_eq0 (V7 m ρ) c w))
  · exact W8_of_ne m ρ c r fun w e => hw ⟨w, e⟩
/-- Every argument among region 0's arrays is an input window's. -/
theorem argsIn0 : ∀ a ∈ argRefs, ∀ w : Fin cfg0.W, Pipeline.arrRef spec0 w = a → (cfg0.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn0 a ha)).trans (W7_args m ρ c a ha)
abbrev V8 : (c : Dev nD) → (b : Ref sig .tc) → Buf (Elt F) ((c : Thread nD τ).loc b) := fun c b => W8 m ρ c b
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)

def W9 (c : Dev nD) : Valuation τ sig (Elt F) :=
  Pipeline.withArrays spec1 c (W8 m ρ c) fun w => (dat1 (V8 m ρ) c).arrAt w cfg1.N
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb
theorem W9_of (c : Dev nD) (r : Ref sig .tc) (h : ∀ w : Fin cfg1.W, Pipeline.arrRef spec1 w = r → (cfg1.win w).isOut = false) :
    W9 m ρ c (Proc.devRef .tc r) = W8 m ρ c (Proc.devRef .tc r) := by
  by_cases hw : ∃ w : Fin cfg1.W, Pipeline.arrRef spec1 w = r
  · obtain ⟨w, rfl⟩ := hw
    exact (W9_arr m ρ c w).trans (((dat1 (V8 m ρ) c).arrAt_in w (h w rfl) _).trans (A_eq1 (V8 m ρ) c w))
  · exact W9_of_ne m ρ c r fun w e => hw ⟨w, e⟩
/-- Every argument among region 1's arrays is an input window's. -/
theorem argsIn1 : ∀ a ∈ argRefs, ∀ w : Fin cfg1.W, Pipeline.arrRef spec1 w = a → (cfg1.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn1 a ha)).trans (W8_args m ρ c a ha)
abbrev V9 : (c : Dev nD) → (b : Ref sig .tc) → Buf (Elt F) ((c : Thread nD τ).loc b) := fun c b => W9 m ρ c b
theorem hF1 (c : Dev nD) (w : Fin cfg1.W) : (dat1 (V8 m ρ) c).arrAt w cfg1.N = V9 m ρ c (Pipeline.arrRef spec1 w) :=
  (W9_arr m ρ c w).symm
theorem hrest1 (c : Dev nD) : ∀ b, b ∉ Finset.univ.image (Pipeline.arrRef spec1) → V9 m ρ c b = V8 m ρ c b :=
  fun b hb => W9_of_ne m ρ c b fun w e => hb (Finset.mem_image.mpr ⟨w, Finset.mem_univ _, e⟩)

/-- After `hostOps2` (region 2's entry). -/
abbrev W10 : Dev nD → Valuation τ sig (Elt F) := fun c => StableHlo.after hostOps2 (W9 m ρ c)
/-- A reference `hostOps2` does not write keeps its contents across it. -/
theorem W10_of (c : Dev nD) (r : Ref sig .tc) (h : r ∉ hostOps2_W) : W10 m ρ c (Proc.devRef .tc r) = W9 m ρ c (Proc.devRef .tc r) :=
  StableHlo.after_of_writes_sub hostOps2 _ hostOps2_writes h
theorem W10_args (c : Dev nD) : ∀ a ∈ argRefs, W10 m ρ c (Proc.devRef .tc a) = m ((c : Thread nD τ).loc a) :=
  fun a ha => (W10_of m ρ c a (hostOps2_args a ha)).trans (W9_args m ρ c a ha)
abbrev V10 : (c : Dev nD) → (b : Ref sig .tc) → Buf (Elt F) ((c : Thread nD τ).loc b) := fun c b => W10 m ρ c b
def W11 (c : Dev nD) : Valuation τ sig (Elt F) :=
  Pipeline.withArrays spec2 c (W10 m ρ c) fun w => (dat2 (V10 m ρ) c).arrAt w cfg2.N
theorem W11_arr (c : Dev nD) (w : Fin cfg2.W) :
    W11 m ρ c (Proc.devRef .tc (Pipeline.arrRef spec2 w)) = (dat2 (V10 m ρ) c).arrAt w cfg2.N := by
  unfold W11; exact Pipeline.withArrays_arr spec2 launch2.win.arr_inj c _ _ w
theorem W11_of_ne (c : Dev nD) (b : Ref sig .tc) (hb : ∀ w, Pipeline.arrRef spec2 w ≠ b) :
    W11 m ρ c (Proc.devRef .tc b) = W10 m ρ c (Proc.devRef .tc b) := by
  unfold W11; exact Pipeline.withArrays_of_ne spec2 c _ _ b hb
theorem W11_of (c : Dev nD) (r : Ref sig .tc) (h : ∀ w : Fin cfg2.W, Pipeline.arrRef spec2 w = r → (cfg2.win w).isOut = false) :
    W11 m ρ c (Proc.devRef .tc r) = W10 m ρ c (Proc.devRef .tc r) := by
  by_cases hw : ∃ w : Fin cfg2.W, Pipeline.arrRef spec2 w = r
  · obtain ⟨w, rfl⟩ := hw
    exact (W11_arr m ρ c w).trans (((dat2 (V10 m ρ) c).arrAt_in w (h w rfl) _).trans (A_eq2 (V10 m ρ) c w))
  · exact W11_of_ne m ρ c r fun w e => hw ⟨w, e⟩
/-- Every argument among region 2's arrays is an input window's. -/
theorem argsIn2 : ∀ a ∈ argRefs, ∀ w : Fin cfg2.W, Pipeline.arrRef spec2 w = a → (cfg2.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn2 a ha)).trans (W10_args m ρ c a ha)
abbrev V11 : (c : Dev nD) → (b : Ref sig .tc) → Buf (Elt F) ((c : Thread nD τ).loc b) := fun c b => W11 m ρ c b
theorem hF2 (c : Dev nD) (w : Fin cfg2.W) : (dat2 (V10 m ρ) c).arrAt w cfg2.N = V11 m ρ c (Pipeline.arrRef spec2 w) :=
  (W11_arr m ρ c w).symm
theorem hrest2 (c : Dev nD) : ∀ b, b ∉ Finset.univ.image (Pipeline.arrRef spec2) → V11 m ρ c b = V10 m ρ c b :=
  fun b hb => W11_of_ne m ρ c b fun w e => hb (Finset.mem_image.mpr ⟨w, Finset.mem_univ _, e⟩)

/-- After `hostOps3` (region 3's entry). -/
abbrev W12 : Dev nD → Valuation τ sig (Elt F) := fun c => StableHlo.after hostOps3 (W11 m ρ c)
/-- A reference `hostOps3` does not write keeps its contents across it. -/
theorem W12_of (c : Dev nD) (r : Ref sig .tc) (h : r ∉ hostOps3_W) : W12 m ρ c (Proc.devRef .tc r) = W11 m ρ c (Proc.devRef .tc r) :=
  StableHlo.after_of_writes_sub hostOps3 _ hostOps3_writes h
theorem W12_args (c : Dev nD) : ∀ a ∈ argRefs, W12 m ρ c (Proc.devRef .tc a) = m ((c : Thread nD τ).loc a) :=
  fun a ha => (W12_of m ρ c a (hostOps3_args a ha)).trans (W11_args m ρ c a ha)
abbrev V12 : (c : Dev nD) → (b : Ref sig .tc) → Buf (Elt F) ((c : Thread nD τ).loc b) := fun c b => W12 m ρ c b
def W13 (c : Dev nD) : Valuation τ sig (Elt F) :=
  Pipeline.withArrays spec3 c (W12 m ρ c) fun w => (dat3 (V12 m ρ) c).arrAt w cfg3.N
theorem W13_arr (c : Dev nD) (w : Fin cfg3.W) :
    W13 m ρ c (Proc.devRef .tc (Pipeline.arrRef spec3 w)) = (dat3 (V12 m ρ) c).arrAt w cfg3.N := by
  unfold W13; exact Pipeline.withArrays_arr spec3 launch3.win.arr_inj c _ _ w
theorem W13_of_ne (c : Dev nD) (b : Ref sig .tc) (hb : ∀ w, Pipeline.arrRef spec3 w ≠ b) :
    W13 m ρ c (Proc.devRef .tc b) = W12 m ρ c (Proc.devRef .tc b) := by
  unfold W13; exact Pipeline.withArrays_of_ne spec3 c _ _ b hb
theorem W13_of (c : Dev nD) (r : Ref sig .tc) (h : ∀ w : Fin cfg3.W, Pipeline.arrRef spec3 w = r → (cfg3.win w).isOut = false) :
    W13 m ρ c (Proc.devRef .tc r) = W12 m ρ c (Proc.devRef .tc r) := by
  by_cases hw : ∃ w : Fin cfg3.W, Pipeline.arrRef spec3 w = r
  · obtain ⟨w, rfl⟩ := hw
    exact (W13_arr m ρ c w).trans (((dat3 (V12 m ρ) c).arrAt_in w (h w rfl) _).trans (A_eq3 (V12 m ρ) c w))
  · exact W13_of_ne m ρ c r fun w e => hw ⟨w, e⟩
/-- Every argument among region 3's arrays is an input window's. -/
theorem argsIn3 : ∀ a ∈ argRefs, ∀ w : Fin cfg3.W, Pipeline.arrRef spec3 w = a → (cfg3.win w).isOut = false :=
  ListAll.forall_mem_of_all_decide (by decide +kernel)
theorem W13_args (c : Dev nD) : ∀ a ∈ argRefs, W13 m ρ c (Proc.devRef .tc a) = m ((c : Thread nD τ).loc a) :=
  fun a ha => (W13_of m ρ c a (argsIn3 a ha)).trans (W12_args m ρ c a ha)
abbrev V13 : (c : Dev nD) → (b : Ref sig .tc) → Buf (Elt F) ((c : Thread nD τ).loc b) := fun c b => W13 m ρ c b
theorem hF3 (c : Dev nD) (w : Fin cfg3.W) : (dat3 (V12 m ρ) c).arrAt w cfg3.N = V13 m ρ c (Pipeline.arrRef spec3 w) :=
  (W13_arr m ρ c w).symm
theorem hrest3 (c : Dev nD) : ∀ b, b ∉ Finset.univ.image (Pipeline.arrRef spec3) → V13 m ρ c b = V12 m ρ c b :=
  fun b hb => W13_of_ne m ρ c b fun w e => hb (Finset.mem_image.mpr ⟨w, Finset.mem_univ _, e⟩)

/-- After `hostOps4` (region 4's entry). -/
abbrev W14 : Dev nD → Valuation τ sig (Elt F) := fun c => StableHlo.after hostOps4 (W13 m ρ c)
/-- A reference `hostOps4` does not write keeps its contents across it. -/
theorem W14_of (c : Dev nD) (r : Ref sig .tc) (h : r ∉ hostOps4_W) : W14 m ρ c (Proc.devRef .tc r) = W13 m ρ c (Proc.devRef .tc r) :=
  StableHlo.after_of_writes_sub hostOps4 _ hostOps4_writes h
theorem W14_args (c : Dev nD) : ∀ a ∈ argRefs, W14 m ρ c (Proc.devRef .tc a) = m ((c : Thread nD τ).loc a) :=
  fun a ha => (W14_of m ρ c a (hostOps4_args a ha)).trans (W13_args m ρ c a ha)
abbrev V14 : (c : Dev nD) → (b : Ref sig .tc) → Buf (Elt F) ((c : Thread nD τ).loc b) := fun c b => W14 m ρ c b
def W15 (c : Dev nD) : Valuation τ sig (Elt F) :=
  Pipeline.withArrays spec4 c (W14 m ρ c) fun w => (dat4 (V14 m ρ) c).arrAt w cfg4.N
theorem W15_arr (c : Dev nD) (w : Fin cfg4.W) :
    W15 m ρ c (Proc.devRef .tc (Pipeline.arrRef spec4 w)) = (dat4 (V14 m ρ) c).arrAt w cfg4.N := by
  unfold W15; exact Pipeline.withArrays_arr spec4 launch4.win.arr_inj c _ _ w
theorem W15_of_ne (c : Dev nD) (b : Ref sig .tc) (hb : ∀ w, Pipeline.arrRef spec4 w ≠ b) :
    W15 m ρ c (Proc.devRef .tc b) = W14 m ρ c (Proc.devRef .tc b) := by
  unfold W15; exact Pipeline.withArrays_of_ne spec4 c _ _ b hb
theorem W15_of (c : Dev nD) (r : Ref sig .tc) (h : ∀ w : Fin cfg4.W, Pipeline.arrRef spec4 w = r → (cfg4.win w).isOut = false) :
    W15 m ρ c (Proc.devRef .tc r) = W14 m ρ c (Proc.devRef .tc r) := by
  by_cases hw : ∃ w : Fin cfg4.W, Pipeline.arrRef spec4 w = r
  · obtain ⟨w, rfl⟩ := hw
    exact (W15_arr m ρ c w).trans (((dat4 (V14 m ρ) c).arrAt_in w (h w rfl) _).trans (A_eq4 (V14 m ρ) c w))
  · exact W15_of_ne m ρ c r fun w e => hw ⟨w, e⟩
/-- Every argument among region 4's arrays is an input window's. -/
theorem argsIn4 : ∀ a ∈ argRefs, ∀ w : Fin cfg4.W, Pipeline.arrRef spec4 w = a → (cfg4.win w).isOut = false :=
  ListAll.forall_mem_of_all_decide (by decide +kernel)
theorem W15_args (c : Dev nD) : ∀ a ∈ argRefs, W15 m ρ c (Proc.devRef .tc a) = m ((c : Thread nD τ).loc a) :=
  fun a ha => (W15_of m ρ c a (argsIn4 a ha)).trans (W14_args m ρ c a ha)
abbrev V15 : (c : Dev nD) → (b : Ref sig .tc) → Buf (Elt F) ((c : Thread nD τ).loc b) := fun c b => W15 m ρ c b
theorem hF4 (c : Dev nD) (w : Fin cfg4.W) : (dat4 (V14 m ρ) c).arrAt w cfg4.N = V15 m ρ c (Pipeline.arrRef spec4 w) :=
  (W15_arr m ρ c w).symm
theorem hrest4 (c : Dev nD) : ∀ b, b ∉ Finset.univ.image (Pipeline.arrRef spec4) → V15 m ρ c b = V14 m ρ c b :=
  fun b hb => W15_of_ne m ρ c b fun w e => hb (Finset.mem_image.mpr ⟨w, Finset.mem_univ _, e⟩)

def W16 (c : Dev nD) : Valuation τ sig (Elt F) :=
  Pipeline.withArrays spec5 c (W15 m ρ c) fun w => (dat5 (V15 m ρ) c).arrAt w cfg5.N
theorem W16_arr (c : Dev nD) (w : Fin cfg5.W) :
    W16 m ρ c (Proc.devRef .tc (Pipeline.arrRef spec5 w)) = (dat5 (V15 m ρ) c).arrAt w cfg5.N := by
  unfold W16; exact Pipeline.withArrays_arr spec5 launch5.win.arr_inj c _ _ w
theorem W16_of_ne (c : Dev nD) (b : Ref sig .tc) (hb : ∀ w, Pipeline.arrRef spec5 w ≠ b) :
    W16 m ρ c (Proc.devRef .tc b) = W15 m ρ c (Proc.devRef .tc b) := by
  unfold W16; exact Pipeline.withArrays_of_ne spec5 c _ _ b hb
theorem W16_of (c : Dev nD) (r : Ref sig .tc) (h : ∀ w : Fin cfg5.W, Pipeline.arrRef spec5 w = r → (cfg5.win w).isOut = false) :
    W16 m ρ c (Proc.devRef .tc r) = W15 m ρ c (Proc.devRef .tc r) := by
  by_cases hw : ∃ w : Fin cfg5.W, Pipeline.arrRef spec5 w = r
  · obtain ⟨w, rfl⟩ := hw
    exact (W16_arr m ρ c w).trans (((dat5 (V15 m ρ) c).arrAt_in w (h w rfl) _).trans (A_eq5 (V15 m ρ) c w))
  · exact W16_of_ne m ρ c r fun w e => hw ⟨w, e⟩
/-- Every argument among region 5's arrays is an input window's. -/
theorem argsIn5 : ∀ a ∈ argRefs, ∀ w : Fin cfg5.W, Pipeline.arrRef spec5 w = a → (cfg5.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn5 a ha)).trans (W15_args m ρ c a ha)
abbrev V16 : (c : Dev nD) → (b : Ref sig .tc) → Buf (Elt F) ((c : Thread nD τ).loc b) := fun c b => W16 m ρ c b
theorem hF5 (c : Dev nD) (w : Fin cfg5.W) : (dat5 (V15 m ρ) c).arrAt w cfg5.N = V16 m ρ c (Pipeline.arrRef spec5 w) :=
  (W16_arr m ρ c w).symm
theorem hrest5 (c : Dev nD) : ∀ b, b ∉ Finset.univ.image (Pipeline.arrRef spec5) → V16 m ρ c b = V15 m ρ c b :=
  fun b hb => W16_of_ne m ρ c b fun w e => hb (Finset.mem_image.mpr ⟨w, Finset.mem_univ _, e⟩)

/-- After `hostOps6` (region 6's entry). -/
abbrev W17 : Dev nD → Valuation τ sig (Elt F) := fun c => StableHlo.after hostOps6 (W16 m ρ c)
/-- A reference `hostOps6` does not write keeps its contents across it. -/
theorem W17_of (c : Dev nD) (r : Ref sig .tc) (h : r ∉ hostOps6_W) : W17 m ρ c (Proc.devRef .tc r) = W16 m ρ c (Proc.devRef .tc r) :=
  StableHlo.after_of_writes_sub hostOps6 _ hostOps6_writes h
theorem W17_args (c : Dev nD) : ∀ a ∈ argRefs, W17 m ρ c (Proc.devRef .tc a) = m ((c : Thread nD τ).loc a) :=
  fun a ha => (W17_of m ρ c a (hostOps6_args a ha)).trans (W16_args m ρ c a ha)
abbrev V17 : (c : Dev nD) → (b : Ref sig .tc) → Buf (Elt F) ((c : Thread nD τ).loc b) := fun c b => W17 m ρ c b
def W18 (c : Dev nD) : Valuation τ sig (Elt F) :=
  Pipeline.withArrays spec6 c (W17 m ρ c) fun w => (dat6 (V17 m ρ) c).arrAt w cfg6.N
theorem W18_arr (c : Dev nD) (w : Fin cfg6.W) :
    W18 m ρ c (Proc.devRef .tc (Pipeline.arrRef spec6 w)) = (dat6 (V17 m ρ) c).arrAt w cfg6.N := by
  unfold W18; exact Pipeline.withArrays_arr spec6 launch6.win.arr_inj c _ _ w
theorem W18_of_ne (c : Dev nD) (b : Ref sig .tc) (hb : ∀ w, Pipeline.arrRef spec6 w ≠ b) :
    W18 m ρ c (Proc.devRef .tc b) = W17 m ρ c (Proc.devRef .tc b) := by
  unfold W18; exact Pipeline.withArrays_of_ne spec6 c _ _ b hb
theorem W18_of (c : Dev nD) (r : Ref sig .tc) (h : ∀ w : Fin cfg6.W, Pipeline.arrRef spec6 w = r → (cfg6.win w).isOut = false) :
    W18 m ρ c (Proc.devRef .tc r) = W17 m ρ c (Proc.devRef .tc r) := by
  by_cases hw : ∃ w : Fin cfg6.W, Pipeline.arrRef spec6 w = r
  · obtain ⟨w, rfl⟩ := hw
    exact (W18_arr m ρ c w).trans (((dat6 (V17 m ρ) c).arrAt_in w (h w rfl) _).trans (A_eq6 (V17 m ρ) c w))
  · exact W18_of_ne m ρ c r fun w e => hw ⟨w, e⟩
/-- Every argument among region 6's arrays is an input window's. -/
theorem argsIn6 : ∀ a ∈ argRefs, ∀ w : Fin cfg6.W, Pipeline.arrRef spec6 w = a → (cfg6.win w).isOut = false :=
  ListAll.forall_mem_of_all_decide (by decide +kernel)
theorem W18_args (c : Dev nD) : ∀ a ∈ argRefs, W18 m ρ c (Proc.devRef .tc a) = m ((c : Thread nD τ).loc a) :=
  fun a ha => (W18_of m ρ c a (argsIn6 a ha)).trans (W17_args m ρ c a ha)
abbrev V18 : (c : Dev nD) → (b : Ref sig .tc) → Buf (Elt F) ((c : Thread nD τ).loc b) := fun c b => W18 m ρ c b
theorem hF6 (c : Dev nD) (w : Fin cfg6.W) : (dat6 (V17 m ρ) c).arrAt w cfg6.N = V18 m ρ c (Pipeline.arrRef spec6 w) :=
  (W18_arr m ρ c w).symm
theorem hrest6 (c : Dev nD) : ∀ b, b ∉ Finset.univ.image (Pipeline.arrRef spec6) → V18 m ρ c b = V17 m ρ c b :=
  fun b hb => W18_of_ne m ρ c b fun w e => hb (Finset.mem_image.mpr ⟨w, Finset.mem_univ _, e⟩)

/-- After `hostOps7` (region 7's entry). -/
abbrev W19 : Dev nD → Valuation τ sig (Elt F) := fun c => StableHlo.after hostOps7 (W18 m ρ c)
/-- A reference `hostOps7` does not write keeps its contents across it. -/
theorem W19_of (c : Dev nD) (r : Ref sig .tc) (h : r ∉ hostOps7_W) : W19 m ρ c (Proc.devRef .tc r) = W18 m ρ c (Proc.devRef .tc r) :=
  StableHlo.after_of_writes_sub hostOps7 _ hostOps7_writes h
theorem W19_args (c : Dev nD) : ∀ a ∈ argRefs, W19 m ρ c (Proc.devRef .tc a) = m ((c : Thread nD τ).loc a) :=
  fun a ha => (W19_of m ρ c a (hostOps7_args a ha)).trans (W18_args m ρ c a ha)
abbrev V19 : (c : Dev nD) → (b : Ref sig .tc) → Buf (Elt F) ((c : Thread nD τ).loc b) := fun c b => W19 m ρ c b
def W20 (c : Dev nD) : Valuation τ sig (Elt F) :=
  Pipeline.withArrays spec7 c (W19 m ρ c) fun w => (dat7 (V19 m ρ) c).arrAt w cfg7.N
theorem W20_arr (c : Dev nD) (w : Fin cfg7.W) :
    W20 m ρ c (Proc.devRef .tc (Pipeline.arrRef spec7 w)) = (dat7 (V19 m ρ) c).arrAt w cfg7.N := by
  unfold W20; exact Pipeline.withArrays_arr spec7 launch7.win.arr_inj c _ _ w
theorem W20_of_ne (c : Dev nD) (b : Ref sig .tc) (hb : ∀ w, Pipeline.arrRef spec7 w ≠ b) :
    W20 m ρ c (Proc.devRef .tc b) = W19 m ρ c (Proc.devRef .tc b) := by
  unfold W20; exact Pipeline.withArrays_of_ne spec7 c _ _ b hb
theorem W20_of (c : Dev nD) (r : Ref sig .tc) (h : ∀ w : Fin cfg7.W, Pipeline.arrRef spec7 w = r → (cfg7.win w).isOut = false) :
    W20 m ρ c (Proc.devRef .tc r) = W19 m ρ c (Proc.devRef .tc r) := by
  by_cases hw : ∃ w : Fin cfg7.W, Pipeline.arrRef spec7 w = r
  · obtain ⟨w, rfl⟩ := hw
    exact (W20_arr m ρ c w).trans (((dat7 (V19 m ρ) c).arrAt_in w (h w rfl) _).trans (A_eq7 (V19 m ρ) c w))
  · exact W20_of_ne m ρ c r fun w e => hw ⟨w, e⟩
/-- Every argument among region 7's arrays is an input window's. -/
theorem argsIn7 : ∀ a ∈ argRefs, ∀ w : Fin cfg7.W, Pipeline.arrRef spec7 w = a → (cfg7.win w).isOut = false :=
  ListAll.forall_mem_of_all_decide (by decide +kernel)
theorem W20_args (c : Dev nD) : ∀ a ∈ argRefs, W20 m ρ c (Proc.devRef .tc a) = m ((c : Thread nD τ).loc a) :=
  fun a ha => (W20_of m ρ c a (argsIn7 a ha)).trans (W19_args m ρ c a ha)
abbrev V20 : (c : Dev nD) → (b : Ref sig .tc) → Buf (Elt F) ((c : Thread nD τ).loc b) := fun c b => W20 m ρ c b
theorem hF7 (c : Dev nD) (w : Fin cfg7.W) : (dat7 (V19 m ρ) c).arrAt w cfg7.N = V20 m ρ c (Pipeline.arrRef spec7 w) :=
  (W20_arr m ρ c w).symm
theorem hrest7 (c : Dev nD) : ∀ b, b ∉ Finset.univ.image (Pipeline.arrRef spec7) → V20 m ρ c b = V19 m ρ c b :=
  fun b hb => W20_of_ne m ρ c b fun w e => hb (Finset.mem_image.mpr ⟨w, Finset.mem_univ _, e⟩)

/-- After `hostOps8` (region 8's entry). -/
abbrev W21 : Dev nD → Valuation τ sig (Elt F) := fun c => StableHlo.after hostOps8 (W20 m ρ c)
/-- A reference `hostOps8` does not write keeps its contents across it. -/
theorem W21_of (c : Dev nD) (r : Ref sig .tc) (h : r ∉ hostOps8_W) : W21 m ρ c (Proc.devRef .tc r) = W20 m ρ c (Proc.devRef .tc r) :=
  StableHlo.after_of_writes_sub hostOps8 _ hostOps8_writes h
theorem W21_args (c : Dev nD) : ∀ a ∈ argRefs, W21 m ρ c (Proc.devRef .tc a) = m ((c : Thread nD τ).loc a) :=
  fun a ha => (W21_of m ρ c a (hostOps8_args a ha)).trans (W20_args m ρ c a ha)
abbrev V21 : (c : Dev nD) → (b : Ref sig .tc) → Buf (Elt F) ((c : Thread nD τ).loc b) := fun c b => W21 m ρ c b
def W22 (c : Dev nD) : Valuation τ sig (Elt F) :=
  Pipeline.withArrays spec8 c (W21 m ρ c) fun w => (dat8 (V21 m ρ) c).arrAt w cfg8.N
theorem W22_arr (c : Dev nD) (w : Fin cfg8.W) :
    W22 m ρ c (Proc.devRef .tc (Pipeline.arrRef spec8 w)) = (dat8 (V21 m ρ) c).arrAt w cfg8.N := by
  unfold W22; exact Pipeline.withArrays_arr spec8 launch8.win.arr_inj c _ _ w
theorem W22_of_ne (c : Dev nD) (b : Ref sig .tc) (hb : ∀ w, Pipeline.arrRef spec8 w ≠ b) :
    W22 m ρ c (Proc.devRef .tc b) = W21 m ρ c (Proc.devRef .tc b) := by
  unfold W22; exact Pipeline.withArrays_of_ne spec8 c _ _ b hb
theorem W22_of (c : Dev nD) (r : Ref sig .tc) (h : ∀ w : Fin cfg8.W, Pipeline.arrRef spec8 w = r → (cfg8.win w).isOut = false) :
    W22 m ρ c (Proc.devRef .tc r) = W21 m ρ c (Proc.devRef .tc r) := by
  by_cases hw : ∃ w : Fin cfg8.W, Pipeline.arrRef spec8 w = r
  · obtain ⟨w, rfl⟩ := hw
    exact (W22_arr m ρ c w).trans (((dat8 (V21 m ρ) c).arrAt_in w (h w rfl) _).trans (A_eq8 (V21 m ρ) c w))
  · exact W22_of_ne m ρ c r fun w e => hw ⟨w, e⟩
/-- Every argument among region 8's arrays is an input window's. -/
theorem argsIn8 : ∀ a ∈ argRefs, ∀ w : Fin cfg8.W, Pipeline.arrRef spec8 w = a → (cfg8.win w).isOut = false :=
  ListAll.forall_mem_of_all_decide (by decide +kernel)
theorem W22_args (c : Dev nD) : ∀ a ∈ argRefs, W22 m ρ c (Proc.devRef .tc a) = m ((c : Thread nD τ).loc a) :=
  fun a ha => (W22_of m ρ c a (argsIn8 a ha)).trans (W21_args m ρ c a ha)
abbrev V22 : (c : Dev nD) → (b : Ref sig .tc) → Buf (Elt F) ((c : Thread nD τ).loc b) := fun c b => W22 m ρ c b
theorem hF8 (c : Dev nD) (w : Fin cfg8.W) : (dat8 (V21 m ρ) c).arrAt w cfg8.N = V22 m ρ c (Pipeline.arrRef spec8 w) :=
  (W22_arr m ρ c w).symm
theorem hrest8 (c : Dev nD) : ∀ b, b ∉ Finset.univ.image (Pipeline.arrRef spec8) → V22 m ρ c b = V21 m ρ c b :=
  fun b hb => W22_of_ne m ρ c b fun w e => hb (Finset.mem_image.mpr ⟨w, Finset.mem_univ _, e⟩)

/-- After `hostOps9` (region 9's entry). -/
abbrev W23 : Dev nD → Valuation τ sig (Elt F) := fun c => StableHlo.after hostOps9 (W22 m ρ c)
/-- A reference `hostOps9` does not write keeps its contents across it. -/
theorem W23_of (c : Dev nD) (r : Ref sig .tc) (h : r ∉ hostOps9_W) : W23 m ρ c (Proc.devRef .tc r) = W22 m ρ c (Proc.devRef .tc r) :=
  StableHlo.after_of_writes_sub hostOps9 _ hostOps9_writes h
theorem W23_args (c : Dev nD) : ∀ a ∈ argRefs, W23 m ρ c (Proc.devRef .tc a) = m ((c : Thread nD τ).loc a) :=
  fun a ha => (W23_of m ρ c a (hostOps9_args a ha)).trans (W22_args m ρ c a ha)
abbrev V23 : (c : Dev nD) → (b : Ref sig .tc) → Buf (Elt F) ((c : Thread nD τ).loc b) := fun c b => W23 m ρ c b
def W24 (c : Dev nD) : Valuation τ sig (Elt F) :=
  Pipeline.withArrays spec9 c (W23 m ρ c) fun w => (dat9 (V23 m ρ) c).arrAt w cfg9.N
theorem W24_arr (c : Dev nD) (w : Fin cfg9.W) :
    W24 m ρ c (Proc.devRef .tc (Pipeline.arrRef spec9 w)) = (dat9 (V23 m ρ) c).arrAt w cfg9.N := by
  unfold W24; exact Pipeline.withArrays_arr spec9 launch9.win.arr_inj c _ _ w
theorem W24_of_ne (c : Dev nD) (b : Ref sig .tc) (hb : ∀ w, Pipeline.arrRef spec9 w ≠ b) :
    W24 m ρ c (Proc.devRef .tc b) = W23 m ρ c (Proc.devRef .tc b) := by
  unfold W24; exact Pipeline.withArrays_of_ne spec9 c _ _ b hb
theorem W24_of (c : Dev nD) (r : Ref sig .tc) (h : ∀ w : Fin cfg9.W, Pipeline.arrRef spec9 w = r → (cfg9.win w).isOut = false) :
    W24 m ρ c (Proc.devRef .tc r) = W23 m ρ c (Proc.devRef .tc r) := by
  by_cases hw : ∃ w : Fin cfg9.W, Pipeline.arrRef spec9 w = r
  · obtain ⟨w, rfl⟩ := hw
    exact (W24_arr m ρ c w).trans (((dat9 (V23 m ρ) c).arrAt_in w (h w rfl) _).trans (A_eq9 (V23 m ρ) c w))
  · exact W24_of_ne m ρ c r fun w e => hw ⟨w, e⟩
/-- Every argument among region 9's arrays is an input window's. -/
theorem argsIn9 : ∀ a ∈ argRefs, ∀ w : Fin cfg9.W, Pipeline.arrRef spec9 w = a → (cfg9.win w).isOut = false :=
  ListAll.forall_mem_of_all_decide (by decide +kernel)
theorem W24_args (c : Dev nD) : ∀ a ∈ argRefs, W24 m ρ c (Proc.devRef .tc a) = m ((c : Thread nD τ).loc a) :=
  fun a ha => (W24_of m ρ c a (argsIn9 a ha)).trans (W23_args m ρ c a ha)
abbrev V24 : (c : Dev nD) → (b : Ref sig .tc) → Buf (Elt F) ((c : Thread nD τ).loc b) := fun c b => W24 m ρ c b
theorem hF9 (c : Dev nD) (w : Fin cfg9.W) : (dat9 (V23 m ρ) c).arrAt w cfg9.N = V24 m ρ c (Pipeline.arrRef spec9 w) :=
  (W24_arr m ρ c w).symm
theorem hrest9 (c : Dev nD) : ∀ b, b ∉ Finset.univ.image (Pipeline.arrRef spec9) → V24 m ρ c b = V23 m ρ c b :=
  fun b hb => W24_of_ne m ρ c b fun w e => hb (Finset.mem_image.mpr ⟨w, Finset.mem_univ _, e⟩)

theorem W24_main_arg0 (c : Dev nD) : W24 m ρ c (Proc.devRef .tc main_arg0) = m ((c : Thread nD τ).loc main_arg0) :=
  W24_args m ρ c main_arg0 (by decide)
theorem W24_main_arg1 (c : Dev nD) : W24 m ρ c (Proc.devRef .tc main_arg1) = m ((c : Thread nD τ).loc main_arg1) :=
  W24_args m ρ c main_arg1 (by decide)
theorem W24_main_arg2 (c : Dev nD) : W24 m ρ c (Proc.devRef .tc main_arg2) = m ((c : Thread nD τ).loc main_arg2) :=
  W24_args m ρ c main_arg2 (by decide)
theorem W24_main_arg3 (c : Dev nD) : W24 m ρ c (Proc.devRef .tc main_arg3) = m ((c : Thread nD τ).loc main_arg3) :=
  W24_args m ρ c main_arg3 (by decide)
theorem W24_main_arg4 (c : Dev nD) : W24 m ρ c (Proc.devRef .tc main_arg4) = m ((c : Thread nD τ).loc main_arg4) :=
  W24_args m ρ c main_arg4 (by decide)
theorem W24_main_arg5 (c : Dev nD) : W24 m ρ c (Proc.devRef .tc main_arg5) = m ((c : Thread nD τ).loc main_arg5) :=
  W24_args m ρ c main_arg5 (by decide)
theorem W24_main_arg6 (c : Dev nD) : W24 m ρ c (Proc.devRef .tc main_arg6) = m ((c : Thread nD τ).loc main_arg6) :=
  W24_args m ρ c main_arg6 (by decide)
theorem W24_main_arg7 (c : Dev nD) : W24 m ρ c (Proc.devRef .tc main_arg7) = m ((c : Thread nD τ).loc main_arg7) :=
  W24_args m ρ c main_arg7 (by decide)
theorem W24_main_arg8 (c : Dev nD) : W24 m ρ c (Proc.devRef .tc main_arg8) = m ((c : Thread nD τ).loc main_arg8) :=
  W24_args m ρ c main_arg8 (by decide)
theorem W24_main_arg9 (c : Dev nD) : W24 m ρ c (Proc.devRef .tc main_arg9) = m ((c : Thread nD τ).loc main_arg9) :=
  W24_args m ρ c main_arg9 (by decide)
theorem W24_main_arg10 (c : Dev nD) : W24 m ρ c (Proc.devRef .tc main_arg10) = m ((c : Thread nD τ).loc main_arg10) :=
  W24_args m ρ c main_arg10 (by decide)
theorem W24_main_arg11 (c : Dev nD) : W24 m ρ c (Proc.devRef .tc main_arg11) = m ((c : Thread nD τ).loc main_arg11) :=
  W24_args m ρ c main_arg11 (by decide)
theorem W24_main_arg12 (c : Dev nD) : W24 m ρ c (Proc.devRef .tc main_arg12) = m ((c : Thread nD τ).loc main_arg12) :=
  W24_args m ρ c main_arg12 (by decide)
theorem W24_main_arg13 (c : Dev nD) : W24 m ρ c (Proc.devRef .tc main_arg13) = m ((c : Thread nD τ).loc main_arg13) :=
  W24_args m ρ c main_arg13 (by decide)
theorem W24_main_arg14 (c : Dev nD) : W24 m ρ c (Proc.devRef .tc main_arg14) = m ((c : Thread nD τ).loc main_arg14) :=
  W24_args m ρ c main_arg14 (by decide)
end Cert.KernelIdeal.Gen

end
-- ==== Proof.KernelIdeal.State.lean ====
module

public import proofs.«01_k».proof.Proof.KernelIdeal.Fold

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 10) → (pcfgs (F := F) p).Adm := fun p => (cfgs p).toPCfg_adm
def pdats : (p : Fin 10) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V8 m ρ) c
  | ⟨2, _⟩ => fun c => dat2 (V10 m ρ) c
  | ⟨3, _⟩ => fun c => dat3 (V12 m ρ) c
  | ⟨4, _⟩ => fun c => dat4 (V14 m ρ) c
  | ⟨5, _⟩ => fun c => dat5 (V15 m ρ) c
  | ⟨6, _⟩ => fun c => dat6 (V17 m ρ) c
  | ⟨7, _⟩ => fun c => dat7 (V19 m ρ) c
  | ⟨8, _⟩ => fun c => dat8 (V21 m ρ) c
  | ⟨9, _⟩ => fun c => dat9 (V23 m ρ) c
abbrev 𝒱₀ : Variants := Variants.none
/-- No core owes another anything: no level is assigned. -/
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W24 m ρ c) ∗ ∃ r, prngReg c r)

end Cert.KernelIdeal.Gen

end
-- ==== Proof.KernelIdeal.Records.lean ====
module

public import proofs.«01_k».proof.Proof.KernelIdeal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) (A_eq0 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 (hw : WordsOk1 (V8 m ρ)) : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V8 m ρ) hw c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V8 m ρ c) (A_eq1 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V8 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 (hw : WordsOk2 (V10 m ρ)) : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V10 m ρ) hw c).loose
  hwaits := Pipeline.hwaits_of_owed_zero _ _ _ _ L lv 2 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec2 c (V10 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V10 m ρ c) (A_eq2 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V10 m ρ c) (V11 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 (hw : WordsOk3 (V12 m ρ)) : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V12 m ρ) hw c).loose
  hwaits := Pipeline.hwaits_of_owed_zero _ _ _ _ L lv 3 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec3 c (V12 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V12 m ρ c) (A_eq3 (V12 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V12 m ρ c) (V13 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V14 m ρ) c).loose
  hwaits := Pipeline.hwaits_of_owed_zero _ _ _ _ L lv 4 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec4 c (V14 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V14 m ρ c) (A_eq4 (V14 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V14 m ρ c) (V15 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 (hw : WordsOk5 (V15 m ρ)) : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V15 m ρ) hw c).loose
  hwaits := Pipeline.hwaits_of_owed_zero _ _ _ _ L lv 5 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec5 c (V15 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V15 m ρ c) (A_eq5 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V15 m ρ c) (V16 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg6 (hw : WordsOk6 (V17 m ρ)) : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V17 m ρ) hw c).loose
  hwaits := Pipeline.hwaits_of_owed_zero _ _ _ _ L lv 6 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec6 c (V17 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V17 m ρ c) (A_eq6 (V17 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V17 m ρ c) (V18 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg7 (hw : WordsOk7 (V19 m ρ)) : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V19 m ρ) hw c).loose
  hwaits := Pipeline.hwaits_of_owed_zero _ _ _ _ L lv 7 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec7 c (V19 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V19 m ρ c) (A_eq7 (V19 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V19 m ρ c) (V20 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 280000 in
set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V21 m ρ) c).loose
  hwaits := Pipeline.hwaits_of_owed_zero _ _ _ _ L lv 8 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec8 c (V21 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V21 m ρ c) (A_eq8 (V21 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V21 m ρ c) (V22 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 290000 in
set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V23 m ρ) c).loose
  hwaits := Pipeline.hwaits_of_owed_zero _ _ _ _ L lv 9 fun _ _ => rfl
  pre c := iprop(StableHlo.held (c : Thread nD τ) (Pipeline.ucRefs τ sig) (W23 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (V23 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V23 m ρ c) (A_eq9 (V23 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V23 m ρ c) (V24 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gen

end
-- ==== Proof.KernelIdeal.Frame.lean ====
module

public import proofs.«01_k».proof.Proof.KernelIdeal.Records

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At each of the six scatter calls the source and destination words it reads name rows of its arrays. -/
structure WordsOk : Prop where
  w1 : WordsOk1 (V8 m ρ)
  w2 : WordsOk2 (V10 m ρ)
  w3 : WordsOk3 (V12 m ρ)
  w5 : WordsOk5 (V15 m ρ)
  w6 : WordsOk6 (V17 m ρ)
  w7 : WordsOk7 (V19 m ρ)

variable (hw : WordsOk m ρ)

/-- @main's 24 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .region (reg1 m ρ hw.w1),
    .host (hseg hostOps2 hostOps2_sub hostOps2_fresh (W9 m ρ)),
    .region (reg2 m ρ hw.w2),
    .host (hseg hostOps3 hostOps3_sub hostOps3_fresh (W11 m ρ)),
    .region (reg3 m ρ hw.w3),
    .host (hseg hostOps4 hostOps4_sub hostOps4_fresh (W13 m ρ)),
    .region (reg4 m ρ),
    .region (reg5 m ρ hw.w5),
    .host (hseg hostOps6 hostOps6_sub hostOps6_fresh (W16 m ρ)),
    .region (reg6 m ρ hw.w6),
    .host (hseg hostOps7 hostOps7_sub hostOps7_fresh (W18 m ρ)),
    .region (reg7 m ρ hw.w7),
    .host (hseg hostOps8 hostOps8_sub hostOps8_fresh (W20 m ρ)),
    .region (reg8 m ρ),
    .host (hseg hostOps9 hostOps9_sub hostOps9_fresh (W22 m ρ)),
    .region (reg9 m ρ) ]
theorem main_run (c : Dev nD) : main (F := F) c = Pipeline.Seg.run (segs m ρ hw) := (main_chain c).trans (by chain_rfl)

/-- The TensorCore has no unscoped semaphore. -/
theorem no_unscoped : ∀ sm : SemLoc sig, sm.isScoped .tc = true := by decide

set_option backward.isDefEq.respectTransparency.types false in
include hw in
/-- The program ends with every array of the host at the contents followed through the segments, and no semaphore raised. -/
theorem run : θ_run defs (onTc (τ := τ) (main (F := F))) ⟨m, fun _ => 0, ρ⟩ (fun r =>
      (∀ c : Dev nD, ∀ b ∈ Pipeline.ucRefs τ sig, r.2.mem ((c.tc : Thread nD τ).1, b) = W24 m ρ c b) ∧ r.2.sem = fun _ => 0) :=
  Pipeline.θ_run_regions_kit_sems (pcfgs (F := F)) adm (pdats m ρ) () cellOf_inj emb₁ defs₀ 𝒱₀ L lv m ρ main (segs m ρ hw)
    (fun c Q => by rw [main_run m ρ hw c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h hz => ⟨fun c b hb => h c b hb, funext fun g => hz g (.inr (no_unscoped g.2))⟩)

include hw in
/-- The program ends with its argument arrays unchanged and no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun _ h => ⟨fun c =>
      ⟨(h.1 c _ (mem_uc main_arg0 (by decide))).trans (W24_main_arg0 m ρ c),
       (h.1 c _ (mem_uc main_arg1 (by decide))).trans (W24_main_arg1 m ρ c),
       (h.1 c _ (mem_uc main_arg2 (by decide))).trans (W24_main_arg2 m ρ c),
       (h.1 c _ (mem_uc main_arg3 (by decide))).trans (W24_main_arg3 m ρ c),
       (h.1 c _ (mem_uc main_arg4 (by decide))).trans (W24_main_arg4 m ρ c),
       (h.1 c _ (mem_uc main_arg5 (by decide))).trans (W24_main_arg5 m ρ c),
       (h.1 c _ (mem_uc main_arg6 (by decide))).trans (W24_main_arg6 m ρ c),
       (h.1 c _ (mem_uc main_arg7 (by decide))).trans (W24_main_arg7 m ρ c),
       (h.1 c _ (mem_uc main_arg8 (by decide))).trans (W24_main_arg8 m ρ c),
       (h.1 c _ (mem_uc main_arg9 (by decide))).trans (W24_main_arg9 m ρ c),
       (h.1 c _ (mem_uc main_arg10 (by decide))).trans (W24_main_arg10 m ρ c),
       (h.1 c _ (mem_uc main_arg11 (by decide))).trans (W24_main_arg11 m ρ c),
       (h.1 c _ (mem_uc main_arg12 (by decide))).trans (W24_main_arg12 m ρ c),
       (h.1 c _ (mem_uc main_arg13 (by decide))).trans (W24_main_arg13 m ρ c),
       (h.1 c _ (mem_uc main_arg14 (by decide))).trans (W24_main_arg14 m ρ c)⟩, h.2⟩) (run m ρ hw)

end Cert.KernelIdeal.Gen

end
-- ==== Proof.KernelIdeal.HostRead.lean ====
module

public import proofs.«01_k».proof.Proof.KernelIdeal.Frame
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable {F : FTy → Type} [FloatOps F]

/-- One row of the edge array: the sources, or the destinations. -/
def ends (off : Fin 2 → ℕ) (h : S2x800000.Slices off S1x800000) (a : IVec S2x800000 32) : IVec S800000 32 :=
  shapeCast S800000 (extractStridedSlice S1x800000 off a h) shapeCasts_S1x800000_S800000

/-- The sources, in 200 blocks of 4000 edges. -/
theorem read_src (V : Valuation τ sig (Elt F)) : StableHlo.after hostOps0 V (Proc.devRef .tc main_v2)
    = shapeCast S200x1x4000 (ends ![0, 0] slices_S2x800000_S1x800000_0_0 (V (Proc.devRef .tc main_arg1))) shapeCasts_S800000_S200x1x4000 := by
  unfold_abbrev_sides
  after_results
  rfl

/-- For one relation: the destination of each edge of that relation, and row 50000 for the other edges. -/
def target (r : BitVec 32) (a : IVec S2x800000 32) (ty : IVec S800000 32) : IVec S800000 32 :=
  select (cmpi .eq ty (broadcastInDim S800000 ![] bcast_S_S800000 (constantI S_ 32 r)))
    (ends ![1, 0] slices_S2x800000_S1x800000_1_0 a) (broadcastInDim S800000 ![] bcast_S_S800000 (constantI S_ 32 50000#32))

/-- The destinations for relation 0, in 200 blocks of 4000 edges. -/
theorem read_dst0 (V : Valuation τ sig (Elt F)) :
    StableHlo.after hostOps0_2 (StableHlo.after hostOps0_1 (StableHlo.after hostOps0 V)) (Proc.devRef .tc main_v8)
      = shapeCast S200x1x4000 (target 0#32 (V (Proc.devRef .tc main_arg1)) (V (Proc.devRef .tc main_arg2))) shapeCasts_S800000_S200x1x4000 := by
  unfold_abbrev_sides
  after_results
  rfl

/-- The destinations for relation 1, in 200 blocks of 4000 edges. -/
theorem read_dst1 (V : Valuation τ sig (Elt F)) :
    StableHlo.after hostOps0_4 (StableHlo.after hostOps0_3 (StableHlo.after hostOps0_2 V)) (Proc.devRef .tc main_v14)
      = shapeCast S200x1x4000 (target 1#32 (V (Proc.devRef .tc main_arg1)) (V (Proc.devRef .tc main_arg2))) shapeCasts_S800000_S200x1x4000 := by
  unfold_abbrev_sides
  after_results
  rfl

/-- The destinations for relation 2, in 200 blocks of 4000 edges. -/
theorem read_dst2 (V : Valuation τ sig (Elt F)) :
    StableHlo.after hostOps0_6 (StableHlo.after hostOps0_5 (StableHlo.after hostOps0_4 V)) (Proc.devRef .tc main_v20)
      = shapeCast S200x1x4000 (target 2#32 (V (Proc.devRef .tc main_arg1)) (V (Proc.devRef .tc main_arg2))) shapeCasts_S800000_S200x1x4000 := by
  unfold_abbrev_sides
  after_results
  rfl

theorem ends_apply (off : Fin 2 → ℕ) (h) (a : IVec S2x800000 32) (i : Fin 2) (h0 : off 0 = i) (h1 : off 1 = 0) (e : Fin 800000) :
    ends off h a (ix1 e) = a (ix2 i e) := by
  unfold ends
  pointwise
  congr 1
  funext d
  match d with
  | ⟨0, _⟩ => exact Fin.ext h0
  | ⟨1, _⟩ => exact Fin.ext (by show off 1 + e.val = e.val; omega)

theorem target_apply (r : BitVec 32) (a : IVec S2x800000 32) (ty : IVec S800000 32) (e : Fin 800000) :
    target r a ty (ix1 e) = if ty (ix1 e) = r then a (ix2 1 e) else 50000#32 := by
  unfold target
  pointwise
  rw [ends_apply _ _ a 1 rfl rfl]
  by_cases h : ty (ix1 e) = r
  · simp [Scalar.select, IntOp.cmpi, h]
  · have hb : (ty (ix1 e) == r) = false := by simpa using h
    rw [if_neg h]
    simp only [Scalar.select, IntOp.cmpi, hb]
    rfl

/-- Edge `k` of block `t` is edge `4000 t + k` of the line. -/
theorem block_apply (x : IVec S800000 32) (t : Fin 200) (k : Fin 4000) :
    shapeCast S200x1x4000 x shapeCasts_S800000_S200x1x4000 (ix3 t 0 k) = x (ix1 ⟨t.val * 4000 + k.val, by omega⟩) := by
  pointwise

section

variable (V : (c : Dev nD) → (b : Ref sig .tc) → Buf (Elt F) ((c : Thread nD τ).loc b)) (c : Dev nD)

theorem idx1 : ∀ t : Fin cfg1.N, win1_0.index t 0 = t.val ∧ win1_0.index t 1 = 0 ∧ win1_0.index t 2 = 0
    ∧ win1_1.index t 0 = t.val ∧ win1_1.index t 1 = 0 ∧ win1_1.index t 2 = 0 := by decide +kernel

/-- Call 1's source block at point `t` is row `t` of the sources. -/
theorem iblk1_0 (t : Fin cfg1.N) (k : Fin 4000) : (iblk1 V c 0 t : Vec F S1x1x4000 .i32) (ix3 0 0 k)
    = (V c main_v2 : Vec F S200x1x4000 .i32) (ix3 ⟨t.val, Nat.lt_of_lt_of_eq t.isLt N_1⟩ 0 k) := by
  have h := idx1 t
  blk_ext [iblk1, h.1, h.2.1, h.2.2.1]

/-- Call 1's destination block at point `t` is row `t` of the destinations. -/
theorem iblk1_1 (t : Fin cfg1.N) (k : Fin 4000) : (iblk1 V c 1 t : Vec F S1x1x4000 .i32) (ix3 0 0 k)
    = (V c main_v8 : Vec F S200x1x4000 .i32) (ix3 ⟨t.val, Nat.lt_of_lt_of_eq t.isLt N_1⟩ 0 k) := by
  have h := idx1 t
  blk_ext [iblk1, h.2.2.2.1, h.2.2.2.2.1, h.2.2.2.2.2]

theorem idx2 : ∀ t : Fin cfg2.N, win2_0.index t 0 = t.val ∧ win2_0.index t 1 = 0 ∧ win2_0.index t 2 = 0
    ∧ win2_1.index t 0 = t.val ∧ win2_1.index t 1 = 0 ∧ win2_1.index t 2 = 0 := by decide +kernel

/-- Call 2's source block at point `t` is row `t` of the sources. -/
theorem iblk2_0 (t : Fin cfg2.N) (k : Fin 4000) : (iblk2 V c 0 t : Vec F S1x1x4000 .i32) (ix3 0 0 k)
    = (V c main_v2 : Vec F S200x1x4000 .i32) (ix3 ⟨t.val, Nat.lt_of_lt_of_eq t.isLt N_2⟩ 0 k) := by
  have h := idx2 t
  blk_ext [iblk2, h.1, h.2.1, h.2.2.1]

/-- Call 2's destination block at point `t` is row `t` of the destinations. -/
theorem iblk2_1 (t : Fin cfg2.N) (k : Fin 4000) : (iblk2 V c 1 t : Vec F S1x1x4000 .i32) (ix3 0 0 k)
    = (V c main_v14 : Vec F S200x1x4000 .i32) (ix3 ⟨t.val, Nat.lt_of_lt_of_eq t.isLt N_2⟩ 0 k) := by
  have h := idx2 t
  blk_ext [iblk2, h.2.2.2.1, h.2.2.2.2.1, h.2.2.2.2.2]

theorem idx3 : ∀ t : Fin cfg3.N, win3_0.index t 0 = t.val ∧ win3_0.index t 1 = 0 ∧ win3_0.index t 2 = 0
    ∧ win3_1.index t 0 = t.val ∧ win3_1.index t 1 = 0 ∧ win3_1.index t 2 = 0 := by decide +kernel

/-- Call 3's source block at point `t` is row `t` of the sources. -/
theorem iblk3_0 (t : Fin cfg3.N) (k : Fin 4000) : (iblk3 V c 0 t : Vec F S1x1x4000 .i32) (ix3 0 0 k)
    = (V c main_v2 : Vec F S200x1x4000 .i32) (ix3 ⟨t.val, Nat.lt_of_lt_of_eq t.isLt N_3⟩ 0 k) := by
  have h := idx3 t
  blk_ext [iblk3, h.1, h.2.1, h.2.2.1]

/-- Call 3's destination block at point `t` is row `t` of the destinations. -/
theorem iblk3_1 (t : Fin cfg3.N) (k : Fin 4000) : (iblk3 V c 1 t : Vec F S1x1x4000 .i32) (ix3 0 0 k)
    = (V c main_v20 : Vec F S200x1x4000 .i32) (ix3 ⟨t.val, Nat.lt_of_lt_of_eq t.isLt N_3⟩ 0 k) := by
  have h := idx3 t
  blk_ext [iblk3, h.2.2.2.1, h.2.2.2.2.1, h.2.2.2.2.2]

theorem idx5 : ∀ t : Fin cfg5.N, win5_0.index t 0 = t.val ∧ win5_0.index t 1 = 0 ∧ win5_0.index t 2 = 0
    ∧ win5_1.index t 0 = t.val ∧ win5_1.index t 1 = 0 ∧ win5_1.index t 2 = 0 := by decide +kernel

/-- Call 5's source block at point `t` is row `t` of the sources. -/
theorem iblk5_0 (t : Fin cfg5.N) (k : Fin 4000) : (iblk5 V c 0 t : Vec F S1x1x4000 .i32) (ix3 0 0 k)
    = (V c main_v2 : Vec F S200x1x4000 .i32) (ix3 ⟨t.val, Nat.lt_of_lt_of_eq t.isLt N_5⟩ 0 k) := by
  have h := idx5 t
  blk_ext [iblk5, h.1, h.2.1, h.2.2.1]

/-- Call 5's destination block at point `t` is row `t` of the destinations. -/
theorem iblk5_1 (t : Fin cfg5.N) (k : Fin 4000) : (iblk5 V c 1 t : Vec F S1x1x4000 .i32) (ix3 0 0 k)
    = (V c main_v8 : Vec F S200x1x4000 .i32) (ix3 ⟨t.val, Nat.lt_of_lt_of_eq t.isLt N_5⟩ 0 k) := by
  have h := idx5 t
  blk_ext [iblk5, h.2.2.2.1, h.2.2.2.2.1, h.2.2.2.2.2]

theorem idx6 : ∀ t : Fin cfg6.N, win6_0.index t 0 = t.val ∧ win6_0.index t 1 = 0 ∧ win6_0.index t 2 = 0
    ∧ win6_1.index t 0 = t.val ∧ win6_1.index t 1 = 0 ∧ win6_1.index t 2 = 0 := by decide +kernel

/-- Call 6's source block at point `t` is row `t` of the sources. -/
theorem iblk6_0 (t : Fin cfg6.N) (k : Fin 4000) : (iblk6 V c 0 t : Vec F S1x1x4000 .i32) (ix3 0 0 k)
    = (V c main_v2 : Vec F S200x1x4000 .i32) (ix3 ⟨t.val, Nat.lt_of_lt_of_eq t.isLt N_6⟩ 0 k) := by
  have h := idx6 t
  blk_ext [iblk6, h.1, h.2.1, h.2.2.1]

/-- Call 6's destination block at point `t` is row `t` of the destinations. -/
theorem iblk6_1 (t : Fin cfg6.N) (k : Fin 4000) : (iblk6 V c 1 t : Vec F S1x1x4000 .i32) (ix3 0 0 k)
    = (V c main_v14 : Vec F S200x1x4000 .i32) (ix3 ⟨t.val, Nat.lt_of_lt_of_eq t.isLt N_6⟩ 0 k) := by
  have h := idx6 t
  blk_ext [iblk6, h.2.2.2.1, h.2.2.2.2.1, h.2.2.2.2.2]

theorem idx7 : ∀ t : Fin cfg7.N, win7_0.index t 0 = t.val ∧ win7_0.index t 1 = 0 ∧ win7_0.index t 2 = 0
    ∧ win7_1.index t 0 = t.val ∧ win7_1.index t 1 = 0 ∧ win7_1.index t 2 = 0 := by decide +kernel

/-- Call 7's source block at point `t` is row `t` of the sources. -/
theorem iblk7_0 (t : Fin cfg7.N) (k : Fin 4000) : (iblk7 V c 0 t : Vec F S1x1x4000 .i32) (ix3 0 0 k)
    = (V c main_v2 : Vec F S200x1x4000 .i32) (ix3 ⟨t.val, Nat.lt_of_lt_of_eq t.isLt N_7⟩ 0 k) := by
  have h := idx7 t
  blk_ext [iblk7, h.1, h.2.1, h.2.2.1]

/-- Call 7's destination block at point `t` is row `t` of the destinations. -/
theorem iblk7_1 (t : Fin cfg7.N) (k : Fin 4000) : (iblk7 V c 1 t : Vec F S1x1x4000 .i32) (ix3 0 0 k)
    = (V c main_v20 : Vec F S200x1x4000 .i32) (ix3 ⟨t.val, Nat.lt_of_lt_of_eq t.isLt N_7⟩ 0 k) := by
  have h := idx7 t
  blk_ext [iblk7, h.2.2.2.1, h.2.2.2.2.1, h.2.2.2.2.2]

end

variable (m : (ℓ : Loc nD τ sig) → Buf (Elt F) ℓ) (ρ : Dev nD → PrngReg) (c : Dev nD)

/-- The edge array and the array of edge types at launch. -/
abbrev edgeArr : IVec S2x800000 32 := m ((c : Thread nD τ).loc main_arg1)
abbrev typeArr : IVec S800000 32 := m ((c : Thread nD τ).loc main_arg2)
/-- The source and the destination blocks the scatter calls read. -/
abbrev srcArr : Vec F S200x1x4000 .i32 :=
  shapeCast S200x1x4000 (ends ![0, 0] slices_S2x800000_S1x800000_0_0 (edgeArr m c)) shapeCasts_S800000_S200x1x4000
abbrev dstArr (r : BitVec 32) : Vec F S200x1x4000 .i32 :=
  shapeCast S200x1x4000 (target r (edgeArr m c) (typeArr m c)) shapeCasts_S800000_S200x1x4000

theorem src_at7 : W7 m ρ c (Proc.devRef .tc main_v2) = srcArr m c :=
  ((W7_of m ρ c main_v2 (by decide)).trans <| (W6_of m ρ c main_v2 (by decide)).trans <| (W5_of m ρ c main_v2 (by decide)).trans <|
    (W4_of m ρ c main_v2 (by decide)).trans <| (W3_of m ρ c main_v2 (by decide)).trans <| W2_of m ρ c main_v2 (by decide)).trans
    (read_src (W0 m ρ c))
theorem dst0_at7 : W7 m ρ c (Proc.devRef .tc main_v8) = dstArr m c 0#32 :=
  ((W7_of m ρ c main_v8 (by decide)).trans <| (W6_of m ρ c main_v8 (by decide)).trans <| (W5_of m ρ c main_v8 (by decide)).trans <|
    W4_of m ρ c main_v8 (by decide)).trans (read_dst0 (W0 m ρ c))
theorem dst1_at7 : W7 m ρ c (Proc.devRef .tc main_v14) = dstArr m c 1#32 := by
  refine ((W7_of m ρ c main_v14 (by decide)).trans <| W6_of m ρ c main_v14 (by decide)).trans ((read_dst1 (W2 m ρ c)).trans ?_)
  rw [W2_args m ρ c main_arg1 (by decide), W2_args m ρ c main_arg2 (by decide)]
theorem dst2_at7 : W7 m ρ c (Proc.devRef .tc main_v20) = dstArr m c 2#32 := by
  refine (read_dst2 (W4 m ρ c)).trans ?_
  rw [W4_args m ρ c main_arg1 (by decide), W4_args m ρ c main_arg2 (by decide)]

/-- The arrays of edge ends that the scatter calls read. -/
abbrev wordRefs : List (Ref sig .tc) := [main_v2, main_v8, main_v14, main_v20]

/-- None of the later steps writes the arrays of edge ends. -/
theorem words8 : ∀ r ∈ wordRefs, W8 m ρ c (Proc.devRef .tc r) = W7 m ρ c (Proc.devRef .tc r) := fun r h =>
  (W8_of m ρ c r ((by decide : ∀ r ∈ wordRefs, ∀ w : Fin cfg0.W, Pipeline.arrRef spec0 w = r → (cfg0.win w).isOut = false) r h))
theorem words9 : ∀ r ∈ wordRefs, W9 m ρ c (Proc.devRef .tc r) = W7 m ρ c (Proc.devRef .tc r) := fun r h =>
  (W9_of m ρ c r ((by decide : ∀ r ∈ wordRefs, ∀ w : Fin cfg1.W, Pipeline.arrRef spec1 w = r → (cfg1.win w).isOut = false) r h)).trans (words8 m ρ c r h)
theorem words10 : ∀ r ∈ wordRefs, W10 m ρ c (Proc.devRef .tc r) = W7 m ρ c (Proc.devRef .tc r) := fun r h =>
  (W10_of m ρ c r ((by decide : ∀ r ∈ wordRefs, r ∉ hostOps2_W) r h)).trans (words9 m ρ c r h)
theorem words11 : ∀ r ∈ wordRefs, W11 m ρ c (Proc.devRef .tc r) = W7 m ρ c (Proc.devRef .tc r) := fun r h =>
  (W11_of m ρ c r ((by decide : ∀ r ∈ wordRefs, ∀ w : Fin cfg2.W, Pipeline.arrRef spec2 w = r → (cfg2.win w).isOut = false) r h)).trans (words10 m ρ c r h)
theorem words12 : ∀ r ∈ wordRefs, W12 m ρ c (Proc.devRef .tc r) = W7 m ρ c (Proc.devRef .tc r) := fun r h =>
  (W12_of m ρ c r ((by decide : ∀ r ∈ wordRefs, r ∉ hostOps3_W) r h)).trans (words11 m ρ c r h)
theorem words13 : ∀ r ∈ wordRefs, W13 m ρ c (Proc.devRef .tc r) = W7 m ρ c (Proc.devRef .tc r) := fun r h =>
  (W13_of m ρ c r ((by decide : ∀ r ∈ wordRefs, ∀ w : Fin cfg3.W, Pipeline.arrRef spec3 w = r → (cfg3.win w).isOut = false) r h)).trans (words12 m ρ c r h)
theorem words14 : ∀ r ∈ wordRefs, W14 m ρ c (Proc.devRef .tc r) = W7 m ρ c (Proc.devRef .tc r) := fun r h =>
  (W14_of m ρ c r ((by decide : ∀ r ∈ wordRefs, r ∉ hostOps4_W) r h)).trans (words13 m ρ c r h)
theorem words15 : ∀ r ∈ wordRefs, W15 m ρ c (Proc.devRef .tc r) = W7 m ρ c (Proc.devRef .tc r) := fun r h =>
  (W15_of m ρ c r ((by decide : ∀ r ∈ wordRefs, ∀ w : Fin cfg4.W, Pipeline.arrRef spec4 w = r → (cfg4.win w).isOut = false) r h)).trans (words14 m ρ c r h)
theorem words16 : ∀ r ∈ wordRefs, W16 m ρ c (Proc.devRef .tc r) = W7 m ρ c (Proc.devRef .tc r) := fun r h =>
  (W16_of m ρ c r ((by decide : ∀ r ∈ wordRefs, ∀ w : Fin cfg5.W, Pipeline.arrRef spec5 w = r → (cfg5.win w).isOut = false) r h)).trans (words15 m ρ c r h)
theorem words17 : ∀ r ∈ wordRefs, W17 m ρ c (Proc.devRef .tc r) = W7 m ρ c (Proc.devRef .tc r) := fun r h =>
  (W17_of m ρ c r ((by decide : ∀ r ∈ wordRefs, r ∉ hostOps6_W) r h)).trans (words16 m ρ c r h)
theorem words18 : ∀ r ∈ wordRefs, W18 m ρ c (Proc.devRef .tc r) = W7 m ρ c (Proc.devRef .tc r) := fun r h =>
  (W18_of m ρ c r ((by decide : ∀ r ∈ wordRefs, ∀ w : Fin cfg6.W, Pipeline.arrRef spec6 w = r → (cfg6.win w).isOut = false) r h)).trans (words17 m ρ c r h)
theorem words19 : ∀ r ∈ wordRefs, W19 m ρ c (Proc.devRef .tc r) = W7 m ρ c (Proc.devRef .tc r) := fun r h =>
  (W19_of m ρ c r ((by decide : ∀ r ∈ wordRefs, r ∉ hostOps7_W) r h)).trans (words18 m ρ c r h)

variable (hE : ∀ (c : Dev nD) (i : Fin 2) (e : Fin 800000), BitVec.toNat (edgeArr m c (ix2 i e)) < 50000)
include hE

theorem src_lt (c : Dev nD) (t : Fin 200) (k : Fin 4000) : BitVec.toNat (srcArr m c (ix3 t 0 k)) < 50000 := by
  rw [show srcArr m c (ix3 t 0 k) = _ from block_apply _ t k, ends_apply ![0, 0] _ _ 0 rfl rfl]
  exact hE c 0 _

theorem dst_lt (c : Dev nD) (r : BitVec 32) (t : Fin 200) (k : Fin 4000) : BitVec.toNat (dstArr m c r (ix3 t 0 k)) < 50008 := by
  rw [show dstArr m c r (ix3 t 0 k) = _ from block_apply _ t k, target_apply]
  split
  · exact Nat.lt_trans (hE c 1 _) (by decide)
  · decide

/-- With every edge end the number of a node, every word a scatter call reads names a row of its array. -/
theorem wordsOk : WordsOk m ρ where
  w1 c t := ⟨fun k => by
      rw [iblk1_0, show V8 m ρ c main_v2 = _ from (words8 m ρ c main_v2 (by decide)).trans (src_at7 m ρ c)]; exact src_lt m hE c _ k,
    fun k => by
      rw [iblk1_1, show V8 m ρ c main_v8 = _ from (words8 m ρ c main_v8 (by decide)).trans (dst0_at7 m ρ c)]; exact dst_lt m hE c _ _ k⟩
  w2 c t := ⟨fun k => by
      rw [iblk2_0, show V10 m ρ c main_v2 = _ from (words10 m ρ c main_v2 (by decide)).trans (src_at7 m ρ c)]; exact src_lt m hE c _ k,
    fun k => by
      rw [iblk2_1, show V10 m ρ c main_v14 = _ from (words10 m ρ c main_v14 (by decide)).trans (dst1_at7 m ρ c)]; exact dst_lt m hE c _ _ k⟩
  w3 c t := ⟨fun k => by
      rw [iblk3_0, show V12 m ρ c main_v2 = _ from (words12 m ρ c main_v2 (by decide)).trans (src_at7 m ρ c)]; exact src_lt m hE c _ k,
    fun k => by
      rw [iblk3_1, show V12 m ρ c main_v20 = _ from (words12 m ρ c main_v20 (by decide)).trans (dst2_at7 m ρ c)]; exact dst_lt m hE c _ _ k⟩
  w5 c t := ⟨fun k => by
      rw [iblk5_0, show V15 m ρ c main_v2 = _ from (words15 m ρ c main_v2 (by decide)).trans (src_at7 m ρ c)]; exact src_lt m hE c _ k,
    fun k => by
      rw [iblk5_1, show V15 m ρ c main_v8 = _ from (words15 m ρ c main_v8 (by decide)).trans (dst0_at7 m ρ c)]; exact dst_lt m hE c _ _ k⟩
  w6 c t := ⟨fun k => by
      rw [iblk6_0, show V17 m ρ c main_v2 = _ from (words17 m ρ c main_v2 (by decide)).trans (src_at7 m ρ c)]; exact src_lt m hE c _ k,
    fun k => by
      rw [iblk6_1, show V17 m ρ c main_v14 = _ from (words17 m ρ c main_v14 (by decide)).trans (dst1_at7 m ρ c)]; exact dst_lt m hE c _ _ k⟩
  w7 c t := ⟨fun k => by
      rw [iblk7_0, show V19 m ρ c main_v2 = _ from (words19 m ρ c main_v2 (by decide)).trans (src_at7 m ρ c)]; exact src_lt m hE c _ k,
    fun k => by
      rw [iblk7_1, show V19 m ρ c main_v20 = _ from (words19 m ρ c main_v20 (by decide)).trans (dst2_at7 m ρ c)]; exact dst_lt m hE c _ _ k⟩

end Cert.KernelIdeal.Gen

end
-- ==== Proof.Ranges.lean ====
module

public import proofs.«01_k».proof.Pre_edges_in_range
public import Idealize.ShloMosaic.Lib.ReduceAll
public import Idealize.ShloMosaic.Lib.WordCmp
public import Idealize.ShloMosaic.Lib.Pointwise
public import Idealize.ShloMosaic.PureOps.Ideal

@[expose] public section

/-! What a precondition says, element by element. -/

namespace Cert.Ranges

open Idealize.ShloMosaic

variable {F : FTy → Type} [FloatOps F]

/-- Every word is at least 0 and below `k`, as one bit: then each word's natural is below `k`. -/
theorem lt_of_all {s t u : Shape} {axes : List (Fin s.rank)} [Subsingleton t.Idx] {k : ℕ} (hk : k < 2 ^ 31) (x : IVec s 32) (z w : IVec s 32)
    (hz : ∀ i, z i = 0#32) (hw : ∀ i, w i = BitVec.ofNat 32 k) (init : IVec u 1) (h : s.ReducesTo axes t) (hu : 0 < u.numel) (j : t.Idx)
    (e : Host.reduce IntOp.andi (andi (cmpi .sge x z) (cmpi .slt x w)) init h hu j = 1#1) (i : s.Idx) : (x i).toNat < k := by
  have e' := Host.reduce_andi_all _ _ _ _ _ e i
  have e'' : IntOp.andi (IntOp.cmpi .sge (x i) (z i)) (IntOp.cmpi .slt (x i) (w i)) = 1#1 := e'
  rw [hz, hw, WordCmp.andi_sge_zero_slt_ofNat hk] at e''
  by_contra hn
  rw [decide_eq_false hn] at e''
  exact absurd e'' (by decide)

/-- The magnitude of every value is below infinity, as one bit: then no value is infinite. -/
theorem finite_of_all {s t u : Shape} {axes : List (Fin s.rank)} [Subsingleton t.Idx] (x w : FVec Ideal s .f32)
    (hw : ∀ i, w i = Ideal.ofBits .f32 0x7F800000#32) (init : IVec u 1) (h : s.ReducesTo axes t) (hu : 0 < u.numel) (j : t.Idx)
    (e : Host.reduce IntOp.andi (cmpf .olt (Host.absf x) w) init h hu j = 1#1) (i : s.Idx) :
    (x i : EReal) ≠ ⊤ ∧ (x i : EReal) ≠ ⊥ := by
  have e' := Host.reduce_andi_all _ _ _ _ _ e i
  have e'' : Ideal.cmp .olt (max (x i : EReal) (-(x i : EReal))) (w i) = 1#1 := e'
  have htop : Ideal.ofBits .f32 0x7F800000#32 = ⊤ := by simp [Ideal.ofBits, Ideal.ieee]
  rw [hw, htop] at e''
  have hlt : max (x i : EReal) (-(x i : EReal)) < ⊤ := by
    by_contra hn
    have : Ideal.cmp .olt (max (x i : EReal) (-(x i : EReal))) ⊤ = 0#1 := by simp [Ideal.cmp, hn]
    rw [this] at e''
    exact absurd e'' (by decide)
  refine ⟨fun hx => ?_, fun hx => ?_⟩ <;> rw [hx] at hlt <;> simp at hlt

theorem and_one {a b : IVec ⟨0, ![]⟩ 1} {j} (h : andi a b j = 1#1) : a j = 1#1 ∧ b j = 1#1 := IntOp.andi_eq_one.1 h

instance : Subsingleton (Shape.Idx ⟨0, ![]⟩) := ⟨fun _ _ => funext fun d => d.elim0⟩

/-- The edge precondition: both ends of every edge name a node. -/
theorem edges [Cert.Pre_edges_in_range.Facts] {a0 a1 a2 a3 a4 a5 a6 a7 a8 a9 a10 a11 a12 a13 a14}
    (h : Cert.Pre_edges_in_range.fn (F := F) a0 a1 a2 a3 a4 a5 a6 a7 a8 a9 a10 a11 a12 a13 a14 = fun _ => 1#1) (i) :
    (a1 i).toNat < 50000 := by
  have h0 := congrFun h ix0
  unfold Cert.Pre_edges_in_range.fn at h0
  exact lt_of_all (k := 50000) (by decide) a1 _ _ (fun _ => rfl) (fun _ => rfl) _ _ _ ix0 h0 i

end Cert.Ranges
-- ==== Proof.GraphRange.lean ====
module

public import proofs.«01_k».proof.Pre_graph_in_range
public import proofs.«01_k».proof.Proof.Ranges

@[expose] public section

namespace Cert.Ranges

open Idealize.ShloMosaic

/-- The precondition of the value claim: node features and edge ends are in range, and the embeddings and the
first layer's relation weights are finite. -/
theorem graph [Cert.Pre_graph_in_range.Facts] {a0 a1 a2 a3 a4 a5 a6 a7 a8 a9 a10 a11 a12 a13 a14}
    (h : Cert.Pre_graph_in_range.fn (F := Ideal) a0 a1 a2 a3 a4 a5 a6 a7 a8 a9 a10 a11 a12 a13 a14 = fun _ => 1#1) :
    (∀ i, (a1 i).toNat < 50000) ∧ (∀ i, (a0 i).toNat < 8)
      ∧ (∀ i, (a4 i : EReal) ≠ ⊤ ∧ (a4 i : EReal) ≠ ⊥) ∧ (∀ i, (a5 i : EReal) ≠ ⊤ ∧ (a5 i : EReal) ≠ ⊥)
      ∧ (∀ i, (a6 i : EReal) ≠ ⊤ ∧ (a6 i : EReal) ≠ ⊥) ∧ (∀ i, (a8 i : EReal) ≠ ⊤ ∧ (a8 i : EReal) ≠ ⊥) := by
  have h0 := congrFun h ix0
  unfold Cert.Pre_graph_in_range.fn Cert.Pre_graph_in_range.fn_part1 at h0
  obtain ⟨h1, r8⟩ := and_one h0
  obtain ⟨h1, r6⟩ := and_one h1
  obtain ⟨h1, r5⟩ := and_one h1
  obtain ⟨h1, r4⟩ := and_one h1
  obtain ⟨r1, r0⟩ := and_one h1
  exact ⟨lt_of_all (k := 50000) (by decide) a1 _ _ (fun _ => rfl) (fun _ => rfl) _ _ _ ix0 r1,
    lt_of_all (k := 8) (by decide) a0 _ _ (fun _ => rfl) (fun _ => rfl) _ _ _ ix0 r0,
    finite_of_all a4 _ (fun _ => rfl) _ _ _ ix0 r4, finite_of_all a5 _ (fun _ => rfl) _ _ _ ix0 r5,
    finite_of_all a6 _ (fun _ => rfl) _ _ _ ix0 r6, finite_of_all a8 _ (fun _ => rfl) _ _ _ ix0 r8⟩

end Cert.Ranges
-- ==== Proof.KernelIdeal.ScatterValue.lean ====
module

public import proofs.«01_k».proof.Proof.KernelIdeal.HostRead

@[expose] public section

set_option maxRecDepth 16384

noncomputable section

namespace Cert.KernelIdeal.Gen

open Idealize.ShloMosaic Idealize.ShloMosaic.TcCoe Idealize.ShloMosaic.Tactic

/-! # The scatter calls as sums over the edges -/

/-- What edge `e` adds to row `r`, column `j`: its source's entry when its target is `r`, zero otherwise and beyond the last edge. -/
def edgeTerm (src dst : Fin 800000 → BitVec 32) (h : Vec Ideal S50000x96 .f32) (r : ℕ) (j : Fin 96) (e : ℕ) : EReal :=
  if he : e < 800000 then
    if (dst ⟨e, he⟩).toNat = r then
      if hs : (src ⟨e, he⟩).toNat < 50000 then h (ix2 ⟨(src ⟨e, he⟩).toNat, hs⟩ j) else 0
    else 0
  else 0

/-- The running sums after `k` edges of block `t`, at one element: what they started from plus the edges' terms. -/
theorem edgesAdd_apply (src dst : Fin 800000 → BitVec 32) (hs : ∀ e, (src e).toNat < 50000) (s d : Vec Ideal S1x1x4000 .i32) (t : ℕ) (ht : t < 200)
    (es : ∀ k : Fin 4000, s (ix3 0 0 k) = src ⟨t * 4000 + k.val, by omega⟩) (ed : ∀ k : Fin 4000, d (ix3 0 0 k) = dst ⟨t * 4000 + k.val, by omega⟩)
    (h : Vec Ideal S50000x96 .f32) (acc : Vec Ideal S50008x96 .f32) (r : Fin 50008) (j : Fin 96) (k : ℕ) (hk : k ≤ 4000) :
    edgesAdd s d h acc k (ix2 r j) = acc (ix2 r j) + ∑ e ∈ Finset.range k, edgeTerm src dst h r.val j (t * 4000 + e) := by
  induction k with
  | zero => simp [edgesAdd]
  | succ k ih =>
    have hk' : k < 4000 := hk
    rw [Finset.sum_range_succ, ← add_assoc, ← ih (Nat.le_of_lt hk'), edgesAdd, dif_pos hk', rowAdd, es, ed]
    unfold edgeTerm
    rw [dif_pos (show t * 4000 + k < 800000 by omega)]
    by_cases hr : (dst ⟨t * 4000 + k, by omega⟩).toNat = r.val
    · rw [if_pos (show ((ix2 r j : S50008x96.Idx) 0).val = _ from hr.symm), if_pos hr, dif_pos (hs _), dif_pos (hs _)]
      rfl
    · rw [if_neg (show ¬ ((ix2 r j : S50008x96.Idx) 0).val = _ from fun h => hr h.symm), if_neg hr, add_zero]

/-- After all 200 blocks row `r` of the sums holds the sum of the source rows of the edges whose target is `r`. -/
theorem blocks_sum {N : ℕ} (hN : N = 200) (src dst : Fin 800000 → BitVec 32) (hs : ∀ e, (src e).toNat < 50000)
    (s d : Fin N → Vec Ideal S1x1x4000 .i32)
    (es : ∀ (t : Fin N) (k : Fin 4000), s t (ix3 0 0 k) = src ⟨t.val * 4000 + k.val, by omega⟩)
    (ed : ∀ (t : Fin N) (k : Fin 4000), d t (ix3 0 0 k) = dst ⟨t.val * 4000 + k.val, by omega⟩)
    (h : Vec Ideal S50000x96 .f32) (S : (n : ℕ) → n < N → Vec Ideal S50008x96 .f32)
    (S0 : ∀ hn, S 0 hn = edgesAdd (s ⟨0, hn⟩) (d ⟨0, hn⟩) h (k1_pay1 (F := Ideal)) 4000)
    (SS : ∀ n hn, S (n + 1) hn = edgesAdd (s ⟨n + 1, hn⟩) (d ⟨n + 1, hn⟩) h (S n (Nat.lt_of_succ_lt hn)) 4000)
    (r : Fin 50008) (j : Fin 96) (hn : 199 < N) :
    S 199 hn (ix2 r j) = ∑ e ∈ Finset.univ.filter (fun e => (dst e).toNat = r.val), h (ix2 ⟨(src e).toNat, hs e⟩ j) := by
  subst hN
  have step : ∀ n (hn : n < 200), S n hn (ix2 r j) = ∑ e ∈ Finset.range ((n + 1) * 4000), edgeTerm src dst h r.val j e := by
    intro n
    induction n with
    | zero =>
      intro hn
      have e := edgesAdd_apply src dst hs (s ⟨0, hn⟩) (d ⟨0, hn⟩) 0 hn (es ⟨0, hn⟩) (ed ⟨0, hn⟩) h (k1_pay1 (F := Ideal)) r j 4000 (Nat.le_refl 4000)
      rw [S0, e]
      have z : (k1_pay1 (F := Ideal)) (ix2 r j) = 0 := Ideal.ofBits_zero_f32
      rw [z, zero_add]
      simp only [Nat.zero_mul, Nat.zero_add, Nat.one_mul]
    | succ n ih =>
      intro hn
      have e := edgesAdd_apply src dst hs (s ⟨n + 1, hn⟩) (d ⟨n + 1, hn⟩) (n + 1) hn (es ⟨n + 1, hn⟩) (ed ⟨n + 1, hn⟩) h
        (S n (Nat.lt_of_succ_lt hn)) r j 4000 (Nat.le_refl 4000)
      rw [SS, e, ih, show (n + 1 + 1) * 4000 = (n + 1) * 4000 + 4000 by omega,
        Finset.sum_range_add]
  rw [step, Finset.sum_filter, show (199 + 1) * 4000 = 800000 from rfl, Finset.sum_range]
  refine Finset.sum_congr rfl fun e _ => ?_
  unfold edgeTerm
  rw [dif_pos e.isLt, dif_pos (hs _)]

section
variable {F : FTy → Type} [FloatOps F] (V : (c : Dev nD) → (b : Ref sig .tc) → Buf (Elt F) ((c : Thread nD τ).loc b)) (c : Dev nD)

theorem idx1_2 : ∀ t : Fin cfg1.N, win1_2.index t 0 = 0 ∧ win1_2.index t 1 = 0 := by decide +kernel
/-- Call 1's features block is the whole array, at every point. -/
theorem iblk1_2 (t : Fin cfg1.N) : (iblk1 V c 2 t : Vec F S50000x96 .f32) = (V c main_v21 : Vec F S50000x96 .f32) := by
  have h := idx1_2 t
  funext y
  idx_vars y
  blk_ext [iblk1, h.1, h.2]

/-- Call 1's result array holds the sums after the last block. -/
theorem arr1_3 : (dat1 V c).arrAt 3 cfg1.N = sums1 V c 199 (by decide +kernel) := by
  refine (dat1 V c).arrAt_eq_of_after_last 3 ⟨199, by decide +kernel⟩ (by decide +kernel) _ fun j => ?_
  rw [after1_3]
  rfl
end

end Cert.KernelIdeal.Gen

end
-- ==== Proof.Mean.lean ====
module

public import Idealize.ShloMosaic.PureOps.Ideal
public import Mathlib.Data.EReal.Inv

@[expose] public section

/-! # Means over a relation's edges, before and after the linear map

Sums of extended reals over a finite set of edges, multiplied by a weight or divided by the number of edges. -/

namespace Cert.Mean

open Idealize.ShloMosaic

variable {E : Type*} (s : Finset E)

/-- A sum of nonnegative terms times a weight is the sum of the products, whatever the weight. -/
theorem sum_mul_nonneg (f : E → EReal) (w : EReal) (hf : ∀ e, 0 ≤ f e) : (∑ e ∈ s, f e) * w = ∑ e ∈ s, f e * w := by
  classical
  induction s using Finset.induction_on with
  | empty => simp
  | insert a s ha ih =>
    rw [Finset.sum_insert ha, Finset.sum_insert ha, EReal.right_distrib_of_nonneg (hf a) (Finset.sum_nonneg fun e _ => hf e), ih]

/-- A sum of finite terms times a finite weight is the sum of the products. -/
theorem sum_mul_finite (f : E → EReal) (w : EReal) (hf : ∀ e, f e ≠ ⊤ ∧ f e ≠ ⊥) (hw : w ≠ ⊤ ∧ w ≠ ⊥) :
    (∑ e ∈ s, f e) * w = ∑ e ∈ s, f e * w := by
  classical
  have hr : ∀ e, f e = ((f e).toReal : EReal) := fun e => (EReal.coe_toReal (hf e).1 (hf e).2).symm
  have hsum : ∀ t : Finset E, ∑ e ∈ t, f e = ((∑ e ∈ t, (f e).toReal : ℝ) : EReal) := fun t => by
    induction t using Finset.induction_on with
    | empty => simp
    | insert a t ha ih => rw [Finset.sum_insert ha, Finset.sum_insert ha, ih, EReal.coe_add, ← hr a]
  induction s using Finset.induction_on with
  | empty => simp
  | insert a s ha ih =>
    rw [Finset.sum_insert ha, Finset.sum_insert ha, ← ih, hsum s, hr a, ← EReal.coe_toReal hw.1 hw.2]
    norm_cast
    exact add_mul _ _ _

/-- A sum times a nonnegative finite factor is the sum of the products. -/
theorem sum_mul_factor (f : E → EReal) (a : EReal) (h0 : 0 ≤ a) (ht : a ≠ ⊤) : (∑ e ∈ s, f e) * a = ∑ e ∈ s, f e * a := by
  classical
  induction s using Finset.induction_on with
  | empty => simp
  | insert b s hb ih => rw [Finset.sum_insert hb, Finset.sum_insert hb, EReal.right_distrib_of_nonneg_of_ne_top h0 ht, ih]

/-- The number of a set's members, as the sum of a one for each. -/
noncomputable def count : EReal := ∑ _e ∈ s, 1

/-- The larger of a count and one is a positive number. -/
theorem one_le : (0 : EReal) < max (count s) 1 := lt_of_lt_of_le zero_lt_one (le_max_right _ _)

/-- Scaling each feature's sum by one over the count and then applying the linear map gives the mean of the edges' mapped features, as soon as
    each feature's sum may be multiplied term by term. -/
theorem mean_map {K : ℕ} (f : E → Fin K → EReal) (w : Fin K → EReal) (hD : ∀ k, (∑ e ∈ s, f e k) * w k = ∑ e ∈ s, f e k * w k) :
    ∑ k, (∑ e ∈ s, f e k) * Ideal.div 1 (max (count s) 1) * w k = Ideal.div (∑ e ∈ s, ∑ k, f e k * w k) (max (count s) 1) := by
  have hc : max (count s) 1 ≠ 0 := (one_le s).ne'
  have h0 : 0 ≤ (max (count s) 1)⁻¹ := EReal.inv_nonneg_of_nonneg (one_le s).le
  have ht : (max (count s) 1)⁻¹ ≠ ⊤ := (EReal.inv_lt_top _).ne
  unfold Ideal.div
  rw [if_neg hc, if_neg hc, one_mul, Finset.sum_comm, sum_mul_factor _ _ _ h0 ht]
  refine Finset.sum_congr rfl fun k _ => ?_
  rw [← hD k, mul_right_comm]

end Cert.Mean
-- ==== Proof.Model.lean ====
module

public import proofs.«01_k».proof.Proof.Mean

@[expose] public section

/-! # The network as functions of indices

Three embeddings side by side, two relational layers and the mean over each graph, over the extended reals. A layer is written twice: with the mean
of each relation's mapped features, and with the linear map of the scaled sum of the features. -/

namespace Cert.Model

open Idealize.ShloMosaic Cert.Mean

noncomputable section

/-- The edges of relation `r` that end in node `n`. -/
def into (ed : Fin 2 → Fin 800000 → BitVec 32) (ty : Fin 800000 → BitVec 32) (r n : ℕ) : Finset (Fin 800000) :=
  Finset.univ.filter fun e => ty e = BitVec.ofNat 32 r ∧ (ed 1 e).toNat = n

/-- The node an edge starts from. -/
def source (ed : Fin 2 → Fin 800000 → BitVec 32) (hE : ∀ i e, (ed i e).toNat < 50000) (e : Fin 800000) : Fin 50000 := ⟨(ed 0 e).toNat, hE 0 e⟩

variable (ed : Fin 2 → Fin 800000 → BitVec 32) (ty : Fin 800000 → BitVec 32) (hE : ∀ i e, (ed i e).toNat < 50000)

/-- The sum of the source rows over the edges of relation `r` into node `n`. -/
def gathered {K : ℕ} (h : Fin 50000 → Fin K → EReal) (r : ℕ) (n : Fin 50000) (k : Fin K) : EReal := ∑ e ∈ into ed ty r n.val, h (source ed hE e) k

/-- One over the number of edges of relation `r` into node `n`, at most one. -/
def inverse (r : ℕ) (n : Fin 50000) : EReal := Ideal.div 1 (max (count (into ed ty r n.val)) 1)

/-- Relation `r`'s part of a layer: the mean of the mapped source rows. -/
def meanPart {K : ℕ} (h : Fin 50000 → Fin K → EReal) (w : Fin 3 → Fin K → Fin 96 → EReal) (r : Fin 3) (n : Fin 50000) (o : Fin 96) : EReal :=
  Ideal.div (∑ e ∈ into ed ty r.val n.val, ∑ k, h (source ed hE e) k * w r k o) (max (count (into ed ty r.val n.val)) 1)

/-- Relation `r`'s part of a layer: the scaled sum of the source rows, mapped. -/
def scaledPart {K : ℕ} (h : Fin 50000 → Fin K → EReal) (w : Fin 3 → Fin K → Fin 96 → EReal) (r : Fin 3) (n : Fin 50000) (o : Fin 96) : EReal :=
  ∑ k, gathered ed ty hE h r.val n k * inverse ed ty r.val n * w r k o

/-- A layer from its three relations' parts. -/
def layerOf {K : ℕ} (part : Fin 3 → Fin 50000 → Fin 96 → EReal) (h : Fin 50000 → Fin K → EReal) (wr : Fin K → Fin 96 → EReal) (b : Fin 96 → EReal)
    (n : Fin 50000) (o : Fin 96) : EReal :=
  max (∑ k, h n k * wr k o + b o + part 0 n o + part 1 n o + part 2 n o) 0

/-- A layer with the means of the mapped rows. -/
def layer {K : ℕ} (h : Fin 50000 → Fin K → EReal) (wr : Fin K → Fin 96 → EReal) (w : Fin 3 → Fin K → Fin 96 → EReal) (b : Fin 96 → EReal) :
    Fin 50000 → Fin 96 → EReal := layerOf (meanPart ed ty hE h w) h wr b

/-- A layer with the mapped sums of the rows. -/
def layerScaled {K : ℕ} (h : Fin 50000 → Fin K → EReal) (wr : Fin K → Fin 96 → EReal) (w : Fin 3 → Fin K → Fin 96 → EReal) (b : Fin 96 → EReal) :
    Fin 50000 → Fin 96 → EReal := layerOf (scaledPart ed ty hE h w) h wr b

/-- A layer's entries are not negative. -/
theorem layer_nonneg {K : ℕ} (h : Fin 50000 → Fin K → EReal) (wr : Fin K → Fin 96 → EReal) (w : Fin 3 → Fin K → Fin 96 → EReal) (b : Fin 96 → EReal)
    (n : Fin 50000) (o : Fin 96) : 0 ≤ layer ed ty hE h wr w b n o := le_max_right _ _

/-- The two ways of writing a layer agree when the features and the relations' weights are finite. -/
theorem layerScaled_of_finite {K : ℕ} (h : Fin 50000 → Fin K → EReal) (wr : Fin K → Fin 96 → EReal) (w : Fin 3 → Fin K → Fin 96 → EReal)
    (b : Fin 96 → EReal) (hh : ∀ n k, h n k ≠ ⊤ ∧ h n k ≠ ⊥) (hw : ∀ r k o, w r k o ≠ ⊤ ∧ w r k o ≠ ⊥) :
    layerScaled ed ty hE h wr w b = layer ed ty hE h wr w b := by
  have e : scaledPart ed ty hE h w = meanPart ed ty hE h w := funext fun r => funext fun n => funext fun o =>
    mean_map _ _ _ fun k => sum_mul_finite _ _ _ (fun e => hh _ k) (hw r k o)
  unfold layerScaled layer
  rw [e]

/-- The two ways of writing a layer agree when the features are not negative. -/
theorem layerScaled_of_nonneg {K : ℕ} (h : Fin 50000 → Fin K → EReal) (wr : Fin K → Fin 96 → EReal) (w : Fin 3 → Fin K → Fin 96 → EReal)
    (b : Fin 96 → EReal) (hh : ∀ n k, 0 ≤ h n k) : layerScaled ed ty hE h wr w b = layer ed ty hE h wr w b := by
  have e : scaledPart ed ty hE h w = meanPart ed ty hE h w := funext fun r => funext fun n => funext fun o =>
    mean_map _ _ _ fun k => sum_mul_nonneg _ _ _ fun e => hh _ k
  unfold layerScaled layer
  rw [e]

/-- The embedded features of node `n`: 24 columns from each of three tables. -/
def embedded (x : Fin 50000 → Fin 3 → BitVec 32) (hx : ∀ n i, (x n i).toNat < 8) (a b : Fin 8 → Fin 24 → EReal) (p : Fin 25 → Fin 24 → EReal)
    (n : Fin 50000) (j : Fin 72) : EReal :=
  if h1 : j.val < 24 then a ⟨(x n 0).toNat, hx n 0⟩ ⟨j.val, h1⟩
  else if h2 : j.val < 48 then b ⟨(x n 1).toNat, hx n 1⟩ ⟨j.val - 24, by omega⟩
  else p ⟨(x n 2).toNat, (hx n 2).trans (by decide)⟩ ⟨j.val - 48, by omega⟩

/-- Embedded features are finite when the tables are. -/
theorem embedded_finite (x : Fin 50000 → Fin 3 → BitVec 32) (hx : ∀ n i, (x n i).toNat < 8) (a b : Fin 8 → Fin 24 → EReal) (p : Fin 25 → Fin 24 → EReal)
    (ha : ∀ i j, a i j ≠ ⊤ ∧ a i j ≠ ⊥) (hb : ∀ i j, b i j ≠ ⊤ ∧ b i j ≠ ⊥) (hp : ∀ i j, p i j ≠ ⊤ ∧ p i j ≠ ⊥) (n : Fin 50000) (j : Fin 72) :
    embedded x hx a b p n j ≠ ⊤ ∧ embedded x hx a b p n j ≠ ⊥ := by
  unfold embedded
  split
  · exact ha _ _
  · split
    · exact hb _ _
    · exact hp _ _

/-- The nodes of graph `g`. -/
def members (bt : Fin 50000 → BitVec 32) (g : ℕ) : Finset (Fin 50000) := Finset.univ.filter fun n => (bt n).toNat = g

/-- The class scores of graph `g`: the mean of its nodes' features, mapped, plus the bias. -/
def scores (bt : Fin 50000 → BitVec 32) (h : Fin 50000 → Fin 96 → EReal) (lw : Fin 96 → Fin 16 → EReal) (lb : Fin 16 → EReal) (g : Fin 512) (q : Fin 16) : EReal :=
  ∑ o, Ideal.div (∑ n ∈ members bt g.val, h n o) (max (count (members bt g.val)) 1) * lw o q + lb q

end

end Cert.Model
-- ==== Proof.KernelIdeal.SumsValue.lean ====
module

public import proofs.«01_k».proof.Proof.KernelIdeal.ScatterValue
public import proofs.«01_k».proof.Proof.Model

@[expose] public section

set_option maxRecDepth 16384

noncomputable section

namespace Cert.KernelIdeal.Gen

open Idealize.ShloMosaic Idealize.ShloMosaic.TcCoe Idealize.ShloMosaic.Tactic

/-! # The relations' sums after each scatter call -/

section
variable {F : FTy → Type} [FloatOps F] (V : (c : Dev nD) → (b : Ref sig .tc) → Buf (Elt F) ((c : Thread nD τ).loc b)) (c : Dev nD)

/-! Each call reads the whole features array at every point, and leaves its last sums in its result array. -/

theorem idx2_2 : ∀ t : Fin cfg2.N, win2_2.index t 0 = 0 ∧ win2_2.index t 1 = 0 := by decide +kernel
theorem iblk2_2 (t : Fin cfg2.N) : (iblk2 V c 2 t : Vec F S50000x96 .f32) = (V c main_v21 : Vec F S50000x96 .f32) := by
  funext y; idx_vars y; blk_ext [iblk2, (idx2_2 t).1, (idx2_2 t).2]
theorem arr2_3 : (dat2 V c).arrAt 3 cfg2.N = sums2 V c 199 (by decide +kernel) :=
  (dat2 V c).arrAt_eq_of_after_last 3 ⟨199, by decide +kernel⟩ (by decide +kernel) _ fun j => by rw [after2_3]; rfl

theorem idx3_2 : ∀ t : Fin cfg3.N, win3_2.index t 0 = 0 ∧ win3_2.index t 1 = 0 := by decide +kernel
theorem iblk3_2 (t : Fin cfg3.N) : (iblk3 V c 2 t : Vec F S50000x96 .f32) = (V c main_v21 : Vec F S50000x96 .f32) := by
  funext y; idx_vars y; blk_ext [iblk3, (idx3_2 t).1, (idx3_2 t).2]
theorem arr3_3 : (dat3 V c).arrAt 3 cfg3.N = sums3 V c 199 (by decide +kernel) :=
  (dat3 V c).arrAt_eq_of_after_last 3 ⟨199, by decide +kernel⟩ (by decide +kernel) _ fun j => by rw [after3_3]; rfl

theorem idx5_2 : ∀ t : Fin cfg5.N, win5_2.index t 0 = 0 ∧ win5_2.index t 1 = 0 := by decide +kernel
theorem iblk5_2 (t : Fin cfg5.N) : (iblk5 V c 2 t : Vec F S50000x96 .f32) = (V c main_v51 : Vec F S50000x96 .f32) := by
  funext y; idx_vars y; blk_ext [iblk5, (idx5_2 t).1, (idx5_2 t).2]
theorem arr5_3 : (dat5 V c).arrAt 3 cfg5.N = sums5 V c 199 (by decide +kernel) :=
  (dat5 V c).arrAt_eq_of_after_last 3 ⟨199, by decide +kernel⟩ (by decide +kernel) _ fun j => by rw [after5_3]; rfl

theorem idx6_2 : ∀ t : Fin cfg6.N, win6_2.index t 0 = 0 ∧ win6_2.index t 1 = 0 := by decide +kernel
theorem iblk6_2 (t : Fin cfg6.N) : (iblk6 V c 2 t : Vec F S50000x96 .f32) = (V c main_v51 : Vec F S50000x96 .f32) := by
  funext y; idx_vars y; blk_ext [iblk6, (idx6_2 t).1, (idx6_2 t).2]
theorem arr6_3 : (dat6 V c).arrAt 3 cfg6.N = sums6 V c 199 (by decide +kernel) :=
  (dat6 V c).arrAt_eq_of_after_last 3 ⟨199, by decide +kernel⟩ (by decide +kernel) _ fun j => by rw [after6_3]; rfl

theorem idx7_2 : ∀ t : Fin cfg7.N, win7_2.index t 0 = 0 ∧ win7_2.index t 1 = 0 := by decide +kernel
theorem iblk7_2 (t : Fin cfg7.N) : (iblk7 V c 2 t : Vec F S50000x96 .f32) = (V c main_v51 : Vec F S50000x96 .f32) := by
  funext y; idx_vars y; blk_ext [iblk7, (idx7_2 t).1, (idx7_2 t).2]
theorem arr7_3 : (dat7 V c).arrAt 3 cfg7.N = sums7 V c 199 (by decide +kernel) :=
  (dat7 V c).arrAt_eq_of_after_last 3 ⟨199, by decide +kernel⟩ (by decide +kernel) _ fun j => by rw [after7_3]; rfl
end

variable (m : (ℓ : Loc nD τ sig) → Buf (Elt Ideal) ℓ) (ρ : Dev nD → PrngReg) (c : Dev nD)

/-- The edges' ends and the edges' types at launch. -/
abbrev edOf : Fin 2 → Fin 800000 → BitVec 32 := fun i e => edgeArr m c (ix2 i e)
abbrev tyOf : Fin 800000 → BitVec 32 := fun e => typeArr m c (ix1 e)

variable (hE : ∀ (i : Fin 2) (e : Fin 800000), (edOf m c i e).toNat < 50000)

include hE in
/-- An edge's target is node `n` exactly when the edge has the relation's type and ends in `n`. -/
theorem target_eq (r : ℕ) (n : Fin 50000) (e : Fin 800000) :
    (target (BitVec.ofNat 32 r) (edgeArr m c) (typeArr m c) (ix1 e)).toNat = n.val
      ↔ tyOf m c e = BitVec.ofNat 32 r ∧ (edOf m c 1 e).toNat = n.val := by
  rw [target_apply]
  by_cases h : typeArr m c (ix1 e) = BitVec.ofNat 32 r
  · rw [if_pos h]; exact ⟨fun p => ⟨h, p⟩, fun p => p.2⟩
  · rw [if_neg h]
    have : (50000#32 : BitVec 32).toNat = 50000 := by decide
    exact ⟨fun p => by omega, fun p => absurd p.1 h⟩

/-- The sums over the blocks of edge ends, at a node's row: one relation's sum of the source rows over the edges into the node. -/
theorem relation_sum {N : ℕ} (hN : N = 200) (r : ℕ) (x : Vec Ideal S50000x96 .f32) (s d : Fin N → Vec Ideal S1x1x4000 .i32)
    (es : ∀ (t : Fin N) (k : Fin 4000), s t (ix3 0 0 k) = srcArr m c (ix3 ⟨t.val, hN ▸ t.isLt⟩ 0 k))
    (ed : ∀ (t : Fin N) (k : Fin 4000), d t (ix3 0 0 k) = dstArr m c (BitVec.ofNat 32 r) (ix3 ⟨t.val, hN ▸ t.isLt⟩ 0 k))
    (h : Fin N → Vec Ideal S50000x96 .f32) (hx : ∀ t, h t = x)
    (n : Fin 50000) (j : Fin 96) (hn : 199 < N) :
    runSums s d h 199 hn (ix2 ⟨n.val, by omega⟩ j) = Model.gathered (edOf m c) (tyOf m c) hE (fun n k => x (ix2 n k)) r n j := by
  obtain rfl : h = fun _ => x := funext hx
  have src_eq : ∀ e, ends ![0, 0] slices_S2x800000_S1x800000_0_0 (edgeArr m c) (ix1 e) = edOf m c 0 e := fun e =>
    ends_apply ![0, 0] _ _ 0 rfl rfl e
  have key := blocks_sum hN (fun e => edOf m c 0 e) (fun e => target (BitVec.ofNat 32 r) (edgeArr m c) (typeArr m c) (ix1 e)) (fun e => hE 0 e) s d
    (fun t k => (es t k).trans ((block_apply _ _ k).trans (src_eq _))) (fun t k => (ed t k).trans (block_apply _ _ k)) x (runSums s d fun _ => x) (fun _ => rfl) (fun _ _ => rfl) ⟨n.val, by omega⟩ j hn
  rw [key]
  unfold Model.gathered Model.into
  refine Finset.sum_congr (Finset.filter_congr fun e _ => target_eq m c hE r n e) fun e _ => rfl

theorem sum1 (n : Fin 50000) (j : Fin 96) : (W9 m ρ c (Proc.devRef .tc main_v22) : Vec Ideal S50008x96 .f32) (ix2 ⟨n.val, by omega⟩ j)
    = Model.gathered (edOf m c) (tyOf m c) hE (fun n k => (W8 m ρ c (Proc.devRef .tc main_v21) : Vec Ideal S50000x96 .f32) (ix2 n k)) 0 n j := by
  refine (congrFun ((W9_arr m ρ c 3).trans (arr1_3 (V8 m ρ) c)) _).trans ?_
  exact relation_sum m c hE N_1 0 _ (fun t => iblk1 (V8 m ρ) c 0 t) (fun t => iblk1 (V8 m ρ) c 1 t)
    (fun t k => (iblk1_0 _ c t k).trans (congrFun ((words8 m ρ c main_v2 (by decide)).trans (src_at7 m ρ c)) _))
    (fun t k => (iblk1_1 _ c t k).trans (congrFun ((words8 m ρ c main_v8 (by decide)).trans (dst0_at7 m ρ c)) _))
    _ (iblk1_2 (V8 m ρ) c) n j _

theorem sum2 (n : Fin 50000) (j : Fin 96) : (W11 m ρ c (Proc.devRef .tc main_v24) : Vec Ideal S50008x96 .f32) (ix2 ⟨n.val, by omega⟩ j)
    = Model.gathered (edOf m c) (tyOf m c) hE (fun n k => (W10 m ρ c (Proc.devRef .tc main_v21) : Vec Ideal S50000x96 .f32) (ix2 n k)) 1 n j := by
  refine (congrFun ((W11_arr m ρ c 3).trans (arr2_3 (V10 m ρ) c)) _).trans ?_
  exact relation_sum m c hE N_2 1 _ (fun t => iblk2 (V10 m ρ) c 0 t) (fun t => iblk2 (V10 m ρ) c 1 t)
    (fun t k => (iblk2_0 _ c t k).trans (congrFun ((words10 m ρ c main_v2 (by decide)).trans (src_at7 m ρ c)) _))
    (fun t k => (iblk2_1 _ c t k).trans (congrFun ((words10 m ρ c main_v14 (by decide)).trans (dst1_at7 m ρ c)) _))
    _ (iblk2_2 (V10 m ρ) c) n j _

theorem sum3 (n : Fin 50000) (j : Fin 96) : (W13 m ρ c (Proc.devRef .tc main_v26) : Vec Ideal S50008x96 .f32) (ix2 ⟨n.val, by omega⟩ j)
    = Model.gathered (edOf m c) (tyOf m c) hE (fun n k => (W12 m ρ c (Proc.devRef .tc main_v21) : Vec Ideal S50000x96 .f32) (ix2 n k)) 2 n j := by
  refine (congrFun ((W13_arr m ρ c 3).trans (arr3_3 (V12 m ρ) c)) _).trans ?_
  exact relation_sum m c hE N_3 2 _ (fun t => iblk3 (V12 m ρ) c 0 t) (fun t => iblk3 (V12 m ρ) c 1 t)
    (fun t k => (iblk3_0 _ c t k).trans (congrFun ((words12 m ρ c main_v2 (by decide)).trans (src_at7 m ρ c)) _))
    (fun t k => (iblk3_1 _ c t k).trans (congrFun ((words12 m ρ c main_v20 (by decide)).trans (dst2_at7 m ρ c)) _))
    _ (iblk3_2 (V12 m ρ) c) n j _

theorem sum5 (n : Fin 50000) (j : Fin 96) : (W16 m ρ c (Proc.devRef .tc main_v52) : Vec Ideal S50008x96 .f32) (ix2 ⟨n.val, by omega⟩ j)
    = Model.gathered (edOf m c) (tyOf m c) hE (fun n k => (W15 m ρ c (Proc.devRef .tc main_v51) : Vec Ideal S50000x96 .f32) (ix2 n k)) 0 n j := by
  refine (congrFun ((W16_arr m ρ c 3).trans (arr5_3 (V15 m ρ) c)) _).trans ?_
  exact relation_sum m c hE N_5 0 _ (fun t => iblk5 (V15 m ρ) c 0 t) (fun t => iblk5 (V15 m ρ) c 1 t)
    (fun t k => (iblk5_0 _ c t k).trans (congrFun ((words15 m ρ c main_v2 (by decide)).trans (src_at7 m ρ c)) _))
    (fun t k => (iblk5_1 _ c t k).trans (congrFun ((words15 m ρ c main_v8 (by decide)).trans (dst0_at7 m ρ c)) _))
    _ (iblk5_2 (V15 m ρ) c) n j _

theorem sum6 (n : Fin 50000) (j : Fin 96) : (W18 m ρ c (Proc.devRef .tc main_v54) : Vec Ideal S50008x96 .f32) (ix2 ⟨n.val, by omega⟩ j)
    = Model.gathered (edOf m c) (tyOf m c) hE (fun n k => (W17 m ρ c (Proc.devRef .tc main_v51) : Vec Ideal S50000x96 .f32) (ix2 n k)) 1 n j := by
  refine (congrFun ((W18_arr m ρ c 3).trans (arr6_3 (V17 m ρ) c)) _).trans ?_
  exact relation_sum m c hE N_6 1 _ (fun t => iblk6 (V17 m ρ) c 0 t) (fun t => iblk6 (V17 m ρ) c 1 t)
    (fun t k => (iblk6_0 _ c t k).trans (congrFun ((words17 m ρ c main_v2 (by decide)).trans (src_at7 m ρ c)) _))
    (fun t k => (iblk6_1 _ c t k).trans (congrFun ((words17 m ρ c main_v14 (by decide)).trans (dst1_at7 m ρ c)) _))
    _ (iblk6_2 (V17 m ρ) c) n j _

theorem sum7 (n : Fin 50000) (j : Fin 96) : (W20 m ρ c (Proc.devRef .tc main_v56) : Vec Ideal S50008x96 .f32) (ix2 ⟨n.val, by omega⟩ j)
    = Model.gathered (edOf m c) (tyOf m c) hE (fun n k => (W19 m ρ c (Proc.devRef .tc main_v51) : Vec Ideal S50000x96 .f32) (ix2 n k)) 2 n j := by
  refine (congrFun ((W20_arr m ρ c 3).trans (arr7_3 (V19 m ρ) c)) _).trans ?_
  exact relation_sum m c hE N_7 2 _ (fun t => iblk7 (V19 m ρ) c 0 t) (fun t => iblk7 (V19 m ρ) c 1 t)
    (fun t k => (iblk7_0 _ c t k).trans (congrFun ((words19 m ρ c main_v2 (by decide)).trans (src_at7 m ρ c)) _))
    (fun t k => (iblk7_1 _ c t k).trans (congrFun ((words19 m ρ c main_v20 (by decide)).trans (dst2_at7 m ρ c)) _))
    _ (iblk7_2 (V19 m ρ) c) n j _

end Cert.KernelIdeal.Gen

end
-- ==== Proof.KernelIdeal.Payload.lean ====
module

public import proofs.«01_k».proof.Proof.KernelIdeal.Dense
public import proofs.«01_k».proof.Proof.KernelIdeal.Embed
public import proofs.«01_k».proof.Proof.KernelIdeal.Pool
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

/-! # What the bodies store, at one element -/

/-- The comparison of two words, as a real: one when they are equal and zero otherwise. -/
theorem flag (u v : BitVec 32) :
    (FloatOps.sitofp .f32 (BitVec.setWidth 32 (IntOp.cmpi .eq u v)) : Ideal .f32) = if u = v then 1 else 0 := by
  by_cases h : u = v
  · subst h
    rw [if_pos rfl, show IntOp.cmpi CmpIPredicate.eq u u = 1#1 from by simp [IntOp.cmpi]]
    simp [FloatOps.sitofp]
  · rw [if_neg h, show IntOp.cmpi CmpIPredicate.eq u v = 0#1 from by simp [IntOp.cmpi, beq_eq_false_iff_ne.2 h]]
    simp [FloatOps.sitofp]

/-- A word equals the word of a small number exactly when its value is the number. -/
theorem word_eq_iff (u : BitVec 32) (n : ℕ) (hn : n < 2 ^ 32) : u = BitVec.ofNat 32 n ↔ u.toNat = n := by
  constructor
  · rintro rfl; rw [BitVec.toNat_ofNat]; omega
  · rintro rfl; simp

/-- A sum of flagged entries is the entry of the one flagged row. -/
theorem sum_flag {K : ℕ} (u : BitVec 32) (hK : K ≤ 2 ^ 32) (hu : u.toNat < K) (f : Fin K → EReal) :
    ∑ k : Fin K, (if u = BitVec.ofNat 32 k.val then 1 else 0) * f k = f ⟨u.toNat, hu⟩ := by
  rw [Finset.sum_eq_single ⟨u.toNat, hu⟩]
  · rw [if_pos ((word_eq_iff u _ (by omega)).2 rfl), one_mul]
  · intro k _ hk
    rw [if_neg fun h => hk (Fin.ext ((word_eq_iff u _ (by omega)).1 h).symm), zero_mul]
  · intro h; exact absurd (Finset.mem_univ _) h

/-- A window read at an index is the array read at the index its offsets shift to. -/
theorem window_at {α : Type} {s : Shape} (x : s.Idx → α) (off size : Fin s.rank → ℕ) (inb : ∀ a, off a + size a ≤ s.size a)
    (y : (Rect.unit off size inb).shape.Idx) (z : s.Idx) (h : ∀ a, (z a).val = off a + (y a).val) : VecWindow.window x off size inb y = x z :=
  congrArg x (funext fun a => Fin.ext ((congrArg (off a + ·) (Nat.one_mul _)).trans (h a).symm))

/-- The first layer's stored entry. -/
theorem dense4_apply (x0 x1 x2 x3 : Vec Ideal S2000x96 .f32) (x4 : Vec Ideal S2000x3 .f32) (x5 : Vec Ideal S72x96 .f32)
    (x6 : Vec Ideal S3x72x96 .f32) (x7 : Vec Ideal S1x96 .f32) (i : Fin 2000) (o : Fin 96) :
    dense4 x0 x1 x2 x3 x4 x5 x6 x7 (ix2 i o)
      = max (∑ k : Fin 72, x0 (ix2 i ⟨k.val, by omega⟩) * x5 (ix2 k o) + x7 (ix2 0 o)
          + ∑ k : Fin 72, x1 (ix2 i ⟨k.val, by omega⟩) * x4 (ix2 i 0) * x6 (ix3 0 k o)
          + ∑ k : Fin 72, x2 (ix2 i ⟨k.val, by omega⟩) * x4 (ix2 i 1) * x6 (ix3 1 k o)
          + ∑ k : Fin 72, x3 (ix2 i ⟨k.val, by omega⟩) * x4 (ix2 i 2) * x6 (ix3 2 k o)) 0 := by
  have w (x : Vec Ideal S2000x96 .f32) (k : Fin 72) : VecWindow.window x ![0, 0] ![2000, 72] inb_S2000x96_S2000x72_0_0 (ix2 i k) = x (ix2 i ⟨k.val, by omega⟩) :=
    window_at x _ _ _ _ _ fun | ⟨0, _⟩ => (Nat.zero_add _).symm | ⟨1, _⟩ => (Nat.zero_add _).symm
  have c0 : VecWindow.window x4 ![0, 0] ![2000, 1] inb_S2000x3_S2000x1_0_0 (ix2 i 0) = x4 (ix2 i 0) :=
    window_at x4 _ _ _ _ _ fun | ⟨0, _⟩ => (Nat.zero_add _).symm | ⟨1, _⟩ => rfl
  have c1 : VecWindow.window x4 ![0, 1] ![2000, 1] inb_S2000x3_S2000x1_0_1 (ix2 i 0) = x4 (ix2 i 1) :=
    window_at x4 _ _ _ _ _ fun | ⟨0, _⟩ => (Nat.zero_add _).symm | ⟨1, _⟩ => rfl
  have c2 : VecWindow.window x4 ![0, 2] ![2000, 1] inb_S2000x3_S2000x1_0_2 (ix2 i 0) = x4 (ix2 i 2) :=
    window_at x4 _ _ _ _ _ fun | ⟨0, _⟩ => (Nat.zero_add _).symm | ⟨1, _⟩ => rfl
  have r0 (k : Fin 72) : VecWindow.window x6 ![0, 0, 0] ![1, 72, 96] inb_S3x72x96_S1x72x96_0_0_0 (ix3 0 k o) = x6 (ix3 0 k o) :=
    window_at x6 _ _ _ _ _ fun | ⟨0, _⟩ => rfl | ⟨1, _⟩ => (Nat.zero_add _).symm | ⟨2, _⟩ => (Nat.zero_add _).symm
  have r1 (k : Fin 72) : VecWindow.window x6 ![1, 0, 0] ![1, 72, 96] inb_S3x72x96_S1x72x96_1_0_0 (ix3 0 k o) = x6 (ix3 1 k o) :=
    window_at x6 _ _ _ _ _ fun | ⟨0, _⟩ => rfl | ⟨1, _⟩ => (Nat.zero_add _).symm | ⟨2, _⟩ => (Nat.zero_add _).symm
  have r2 (k : Fin 72) : VecWindow.window x6 ![2, 0, 0] ![1, 72, 96] inb_S3x72x96_S1x72x96_2_0_0 (ix3 0 k o) = x6 (ix3 2 k o) :=
    window_at x6 _ _ _ _ _ fun | ⟨0, _⟩ => rfl | ⟨1, _⟩ => (Nat.zero_add _).symm | ⟨2, _⟩ => (Nat.zero_add _).symm
  pointwise [dense4, k4_pay1, k4_pay2, k4_pay3]
  simp only [w, c0, c1, c2, r0, r1, r2]

/-- The second layer's stored entry. -/
theorem dense8_apply (x0 x1 x2 x3 : Vec Ideal S2000x96 .f32) (x4 : Vec Ideal S2000x3 .f32) (x5 : Vec Ideal S96x96 .f32)
    (x6 : Vec Ideal S3x96x96 .f32) (x7 : Vec Ideal S1x96 .f32) (i : Fin 2000) (o : Fin 96) :
    dense8 x0 x1 x2 x3 x4 x5 x6 x7 (ix2 i o)
      = max (∑ k : Fin 96, x0 (ix2 i k) * x5 (ix2 k o) + x7 (ix2 0 o)
          + ∑ k : Fin 96, x1 (ix2 i k) * x4 (ix2 i 0) * x6 (ix3 0 k o)
          + ∑ k : Fin 96, x2 (ix2 i k) * x4 (ix2 i 1) * x6 (ix3 1 k o)
          + ∑ k : Fin 96, x3 (ix2 i k) * x4 (ix2 i 2) * x6 (ix3 2 k o)) 0 := by
  have c0 : VecWindow.window x4 ![0, 0] ![2000, 1] inb_S2000x3_S2000x1_0_0 (ix2 i 0) = x4 (ix2 i 0) :=
    window_at x4 _ _ _ _ _ fun | ⟨0, _⟩ => (Nat.zero_add _).symm | ⟨1, _⟩ => rfl
  have c1 : VecWindow.window x4 ![0, 1] ![2000, 1] inb_S2000x3_S2000x1_0_1 (ix2 i 0) = x4 (ix2 i 1) :=
    window_at x4 _ _ _ _ _ fun | ⟨0, _⟩ => (Nat.zero_add _).symm | ⟨1, _⟩ => rfl
  have c2 : VecWindow.window x4 ![0, 2] ![2000, 1] inb_S2000x3_S2000x1_0_2 (ix2 i 0) = x4 (ix2 i 2) :=
    window_at x4 _ _ _ _ _ fun | ⟨0, _⟩ => (Nat.zero_add _).symm | ⟨1, _⟩ => rfl
  have r0 (k : Fin 96) : VecWindow.window x6 ![0, 0, 0] ![1, 96, 96] inb_S3x96x96_S1x96x96_0_0_0 (ix3 0 k o) = x6 (ix3 0 k o) :=
    window_at x6 _ _ _ _ _ fun | ⟨0, _⟩ => rfl | ⟨1, _⟩ => (Nat.zero_add _).symm | ⟨2, _⟩ => (Nat.zero_add _).symm
  have r1 (k : Fin 96) : VecWindow.window x6 ![1, 0, 0] ![1, 96, 96] inb_S3x96x96_S1x96x96_1_0_0 (ix3 0 k o) = x6 (ix3 1 k o) :=
    window_at x6 _ _ _ _ _ fun | ⟨0, _⟩ => rfl | ⟨1, _⟩ => (Nat.zero_add _).symm | ⟨2, _⟩ => (Nat.zero_add _).symm
  have r2 (k : Fin 96) : VecWindow.window x6 ![2, 0, 0] ![1, 96, 96] inb_S3x96x96_S1x96x96_2_0_0 (ix3 0 k o) = x6 (ix3 2 k o) :=
    window_at x6 _ _ _ _ _ fun | ⟨0, _⟩ => rfl | ⟨1, _⟩ => (Nat.zero_add _).symm | ⟨2, _⟩ => (Nat.zero_add _).symm
  pointwise [dense8, k8_pay1, k8_pay2, k8_pay3]
  simp only [c0, c1, c2, r0, r1, r2]

/-- The first table's columns of the embedding: the row the node's word names. -/
theorem pay3_apply (v : Vec Ideal S2000x1 .i32) (x : Vec Ideal S8x24 .f32) (i : Fin 2000) (j : Fin 24) (hv : BitVec.toNat (v (ix2 i 0)) < 8) :
    k0_pay3 v x (ix2 i j) = x (ix2 ⟨BitVec.toNat (v (ix2 i 0)), hv⟩ j) := by
  pointwise [k0_pay3]
  simp only [flag]
  exact sum_flag _ (by decide) hv fun k => x (ix2 k j)

/-- The second table's columns. -/
theorem pay4_apply (v : Vec Ideal S2000x1 .i32) (x : Vec Ideal S8x24 .f32) (i : Fin 2000) (j : Fin 24) (hv : BitVec.toNat (v (ix2 i 0)) < 8) :
    k0_pay4 v x (ix2 i j) = x (ix2 ⟨BitVec.toNat (v (ix2 i 0)), hv⟩ j) := by
  pointwise [k0_pay4]
  simp only [flag]
  exact sum_flag _ (by decide) hv fun k => x (ix2 k j)

/-- A small word is its own minimum with 24. -/
theorem min_small (u : BitVec 32) (h : u.toNat < 8) : IntOp.minsi u 24#32 = u := by
  unfold IntOp.minsi
  have : u.toInt = u.toNat := BitVec.toInt_eq_toNat_of_lt (by omega)
  simp [BitVec.slt, this]
  omega

/-- The third table's columns. -/
theorem pay5_apply (v : Vec Ideal S2000x1 .i32) (x : Vec Ideal S25x24 .f32) (i : Fin 2000) (j : Fin 24) (hv : BitVec.toNat (v (ix2 i 0)) < 8) :
    k0_pay5 v x (ix2 i j) = x (ix2 ⟨BitVec.toNat (v (ix2 i 0)), hv.trans (by decide)⟩ j) := by
  pointwise [k0_pay5]
  simp only [flag, min_small _ hv]
  exact sum_flag _ (by decide) (hv.trans (by decide)) fun k => x (ix2 k j)

/-- The sums after a block of nodes: the block's rows whose graph word names the row are added. -/
theorem pay9_4_apply (v : Vec Ideal S2000x1 .i32) (a : Vec Ideal S512x96 .f32) (x : Vec Ideal S2000x96 .f32) (g : Fin 512) (j : Fin 96) :
    k9_pay4 v a x (ix2 g j) = a (ix2 g j) + ∑ k : Fin 2000, if BitVec.toNat (v (ix2 k 0)) = g.val then x (ix2 k j) else 0 := by
  pointwise [k9_pay4, k9_pay3]
  refine congrArg (a (ix2 g j) + ·) (Finset.sum_congr rfl fun k _ => ?_)
  rw [flag]
  simp only [word_eq_iff _ g.val (by omega), ite_mul, one_mul, zero_mul]

/-- The counts after a block of nodes. -/
theorem pay9_5_apply (v : Vec Ideal S2000x1 .i32) (a : Vec Ideal S512x128 .f32) (g : Fin 512) (j : Fin 128) :
    k9_pay5 v a (ix2 g j) = a (ix2 g j) + ∑ k : Fin 2000, if BitVec.toNat (v (ix2 k 0)) = g.val then 1 else 0 := by
  pointwise [k9_pay5, k9_pay3]
  refine congrArg (a (ix2 g j) + ·) (Finset.sum_congr rfl fun k _ => ?_)
  rw [flag]
  simp only [word_eq_iff _ g.val (by omega)]

/-- The class scores stored from the sums and the counts. -/
theorem logits_apply (sm : Vec Ideal S512x96 .f32) (cn : Vec Ideal S512x128 .f32) (w : Vec Ideal S96x16 .f32) (b : Vec Ideal S1x16 .f32) (g : Fin 512) (q : Fin 16) :
    logits sm cn w b (ix2 g q) = ∑ k : Fin 96, Ideal.div (sm (ix2 g k)) (max (cn (ix2 g 0)) 1) * w (ix2 k q) + b (ix2 0 q) := by
  have c0 : VecWindow.window cn ![0, 0] ![512, 1] inb_S512x128_S512x1_0_0 (ix2 g 0) = cn (ix2 g 0) :=
    window_at cn _ _ _ _ _ fun | ⟨0, _⟩ => (Nat.zero_add _).symm | ⟨1, _⟩ => rfl
  pointwise [logits, k9_pay6]
  simp only [c0]

end Cert.KernelIdeal.Gen

end
-- ==== Proof.KernelIdeal.EmbedValue.lean ====
module

public import proofs.«01_k».proof.Proof.KernelIdeal.HostRead
public import proofs.«01_k».proof.Proof.KernelIdeal.Payload
public import proofs.«01_k».proof.Proof.Model

@[expose] public section

set_option maxRecDepth 16384

noncomputable section

namespace Cert.KernelIdeal.Gen

open Idealize.ShloMosaic Idealize.ShloMosaic.TcCoe Idealize.ShloMosaic.Tactic

/-! # The embedding call's result array -/

/-- A row of the embedding's array: the embedded features, then a one, then zeros. -/
def padded (h : Fin 50000 → Fin 72 → EReal) (n : Fin 50000) (j : Fin 96) : EReal :=
  if hj : j.val < 72 then h n ⟨j.val, hj⟩ else if j.val = 72 then 1 else 0

/-- A row of a point's block. -/
theorem embed_apply (x0 : Vec Ideal S2000x3 .i32) (x1 x2 : Vec Ideal S8x24 .f32) (x3 : Vec Ideal S25x24 .f32) (x : Fin 50000 → Fin 3 → BitVec 32)
    (hx : ∀ n i, (x n i).toNat < 8) (i : Fin 2000) (n : Fin 50000) (e : ∀ k, x0 (ix2 i k) = x n k) (j : Fin 96) :
    embed x0 x1 x2 x3 (ix2 i j)
      = padded (Model.embedded x hx (fun a b => x1 (ix2 a b)) (fun a b => x2 (ix2 a b)) (fun a b => x3 (ix2 a b))) n j := by
  have w0 : VecWindow.window x0 ![0, 0] S2000x1.size inb_S2000x3_S2000x1_0_0 (ix2 i 0) = x n 0 :=
    (window_at x0 ![0, 0] S2000x1.size inb_S2000x3_S2000x1_0_0 (ix2 i 0) (ix2 i 0) fun | ⟨0, _⟩ => (Nat.zero_add _).symm | ⟨1, _⟩ => rfl).trans (e 0)
  have w1 : VecWindow.window x0 ![0, 1] S2000x1.size inb_S2000x3_S2000x1_0_1 (ix2 i 0) = x n 1 :=
    (window_at x0 ![0, 1] S2000x1.size inb_S2000x3_S2000x1_0_1 (ix2 i 0) (ix2 i 1) fun | ⟨0, _⟩ => (Nat.zero_add _).symm | ⟨1, _⟩ => rfl).trans (e 1)
  have w2 : VecWindow.window x0 ![0, 2] S2000x1.size inb_S2000x3_S2000x1_0_2 (ix2 i 0) = x n 2 :=
    (window_at x0 ![0, 2] S2000x1.size inb_S2000x3_S2000x1_0_2 (ix2 i 0) (ix2 i 2) fun | ⟨0, _⟩ => (Nat.zero_add _).symm | ⟨1, _⟩ => rfl).trans (e 2)
  unfold embed padded Model.embedded
  change (if h1 : j.val < 24 then _ else if h2 : j.val < 48 then _ else if h3 : j.val < 72 then _ else if j.val = 72 then _ else _) = _
  by_cases h3 : j.val < 72
  · rw [dif_pos h3]
    by_cases h1 : j.val < 24
    · rw [dif_pos h1, dif_pos h1]
      exact (pay3_apply _ x1 i ⟨j.val, h1⟩ (by rw [w0]; exact hx n 0)).trans (by congr)
    · rw [dif_neg h1, dif_neg h1]
      by_cases h2 : j.val < 48
      · rw [dif_pos h2, dif_pos h2]
        exact (pay4_apply _ x2 i ⟨j.val - 24, by omega⟩ (by rw [w1]; exact hx n 1)).trans (by congr)
      · rw [dif_neg h2, dif_neg h2, dif_pos h3]
        exact (pay5_apply _ x3 i ⟨j.val - 48, by omega⟩ (by rw [w2]; exact hx n 2)).trans (by congr)
  · rw [dif_neg (by omega), dif_neg (by omega), dif_neg h3, dif_neg h3]
    congr 1
    · exact Ideal.ofBits_one_f32
    · exact Ideal.ofBits_zero_f32

variable (V : (c : Dev nD) → (b : Ref sig .tc) → Buf (Elt Ideal) ((c : Thread nD τ).loc b)) (c : Dev nD)

theorem idx0 : ∀ t : Fin cfg0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0 := by decide +kernel

theorem iblk0_0 (t : Fin cfg0.N) (i : Fin 2000) (k : Fin 3) : (iblk0 V c 0 t : Vec Ideal S2000x3 .i32) (ix2 i k)
    = (V c main_arg0 : Vec Ideal S50000x3 .i32) (ix2 ⟨t.val * 2000 + i.val, by have := Nat.lt_of_lt_of_eq t.isLt N_0; omega⟩ k) := by
  obtain ⟨h0, h1, -⟩ := idx0 t
  blk_ext [iblk0, h0, h1]

theorem iblk0_1 (t : Fin cfg0.N) (i : Fin 8) (k : Fin 24) : (iblk0 V c 1 t : Vec Ideal S8x24 .f32) (ix2 i k) = (V c main_arg4 : Vec Ideal S8x24 .f32) (ix2 i k) := by
  obtain ⟨-, -, h0, h1, -⟩ := idx0 t
  blk_ext [iblk0, h0, h1]

theorem iblk0_2 (t : Fin cfg0.N) (i : Fin 8) (k : Fin 24) : (iblk0 V c 2 t : Vec Ideal S8x24 .f32) (ix2 i k) = (V c main_arg5 : Vec Ideal S8x24 .f32) (ix2 i k) := by
  obtain ⟨-, -, -, -, h0, h1, -⟩ := idx0 t
  blk_ext [iblk0, h0, h1]

theorem iblk0_3 (t : Fin cfg0.N) (i : Fin 25) (k : Fin 24) : (iblk0 V c 3 t : Vec Ideal S25x24 .f32) (ix2 i k) = (V c main_arg6 : Vec Ideal S25x24 .f32) (ix2 i k) := by
  obtain ⟨-, -, -, -, -, -, h0, h1, -⟩ := idx0 t
  blk_ext [iblk0, h0, h1]

/-- The embedding's array after the call. -/
theorem arr0_4 (hx : ∀ n i, BitVec.toNat ((V c main_arg0 : Vec Ideal S50000x3 .i32) (ix2 n i)) < 8) :
    (dat0 V c).arrAt 4 cfg0.N = (fun i => padded (Model.embedded (fun n i => (V c main_arg0 : Vec Ideal S50000x3 .i32) (ix2 n i)) hx
      (fun a b => (V c main_arg4 : Vec Ideal S8x24 .f32) (ix2 a b)) (fun a b => (V c main_arg5 : Vec Ideal S8x24 .f32) (ix2 a b))
      (fun a b => (V c main_arg6 : Vec Ideal S25x24 .f32) (ix2 a b))) (i 0) (i 1) : Vec Ideal S50000x96 .f32) := by
  refine (dat0 V c).arrAt_eq_of_covers 4 _ (by decide +kernel) fun t hf y => ?_
  obtain ⟨-, -, -, -, -, -, -, -, h0, h1⟩ := idx0 t
  blk_simp
  rw [after0_4]
  unfold outs0
  idx_vars y
  have hb : t.val < 25 := Nat.lt_of_lt_of_eq t.isLt N_0
  rw [show ((View.whole main_v21).slice (win0_4.rect t)).emb (ix2 y0 y1) = ix2 (⟨t.val * 2000 + y0.val, by omega⟩ : Fin 50000) y1 from by blk_ext [h0, h1]]
  refine (embed_apply _ _ _ _ _ hx y0 ⟨t.val * 2000 + y0.val, by omega⟩ (fun k => iblk0_0 V c t y0 k) y1).trans ?_
  simp only [iblk0_1, iblk0_2, iblk0_3]
  rfl

end Cert.KernelIdeal.Gen

end
-- ==== Proof.KernelIdeal.DenseValue.lean ====
module

public import proofs.«01_k».proof.Proof.KernelIdeal.HostRead
public import proofs.«01_k».proof.Proof.KernelIdeal.Payload
public import proofs.«01_k».proof.Proof.Model

@[expose] public section

set_option maxRecDepth 16384

noncomputable section

namespace Cert.KernelIdeal.Gen

open Idealize.ShloMosaic Idealize.ShloMosaic.TcCoe Idealize.ShloMosaic.Tactic

/-! # The layers' result arrays -/

variable (V : (c : Dev nD) → (b : Ref sig .tc) → Buf (Elt Ideal) ((c : Thread nD τ).loc b)) (c : Dev nD)

/-! ## The first layer's call -/

theorem idxRows4 : ∀ t : Fin cfg4.N, win4_0.index t 0 = t.val ∧ win4_0.index t 1 = 0 ∧ win4_1.index t 0 = t.val ∧ win4_1.index t 1 = 0 ∧ win4_2.index t 0 = t.val ∧ win4_2.index t 1 = 0 ∧ win4_3.index t 0 = t.val ∧ win4_3.index t 1 = 0 ∧ win4_4.index t 0 = t.val ∧ win4_4.index t 1 = 0 ∧ win4_8.index t 0 = t.val ∧ win4_8.index t 1 = 0 := by decide +kernel
theorem idxWhole4 : ∀ t : Fin cfg4.N, win4_5.index t 0 = 0 ∧ win4_5.index t 1 = 0 ∧ win4_6.index t 0 = 0 ∧ win4_6.index t 1 = 0 ∧ win4_6.index t 2 = 0 ∧ win4_7.index t 0 = 0 ∧ win4_7.index t 1 = 0 := by decide +kernel

theorem iblk4_0 (t : Fin cfg4.N) (i : Fin 2000) (k : Fin 96) : (iblk4 V c 0 t : Vec Ideal S2000x96 .f32) (ix2 i k)
    = (V c main_v21 : Vec Ideal S50000x96 .f32) (ix2 ⟨t.val * 2000 + i.val, by have := Nat.lt_of_lt_of_eq t.isLt N_4; omega⟩ k) := by
  obtain ⟨h0, h1, -⟩ := idxRows4 t
  blk_ext [iblk4, h0, h1]

theorem iblk4_1 (t : Fin cfg4.N) (i : Fin 2000) (k : Fin 96) : (iblk4 V c 1 t : Vec Ideal S2000x96 .f32) (ix2 i k)
    = (V c main_v23 : Vec Ideal S50000x96 .f32) (ix2 ⟨t.val * 2000 + i.val, by have := Nat.lt_of_lt_of_eq t.isLt N_4; omega⟩ k) := by
  obtain ⟨-, -, h0, h1, -⟩ := idxRows4 t
  blk_ext [iblk4, h0, h1]

theorem iblk4_2 (t : Fin cfg4.N) (i : Fin 2000) (k : Fin 96) : (iblk4 V c 2 t : Vec Ideal S2000x96 .f32) (ix2 i k)
    = (V c main_v25 : Vec Ideal S50000x96 .f32) (ix2 ⟨t.val * 2000 + i.val, by have := Nat.lt_of_lt_of_eq t.isLt N_4; omega⟩ k) := by
  obtain ⟨-, -, -, -, h0, h1, -⟩ := idxRows4 t
  blk_ext [iblk4, h0, h1]

theorem iblk4_3 (t : Fin cfg4.N) (i : Fin 2000) (k : Fin 96) : (iblk4 V c 3 t : Vec Ideal S2000x96 .f32) (ix2 i k)
    = (V c main_v27 : Vec Ideal S50000x96 .f32) (ix2 ⟨t.val * 2000 + i.val, by have := Nat.lt_of_lt_of_eq t.isLt N_4; omega⟩ k) := by
  obtain ⟨-, -, -, -, -, -, h0, h1, -⟩ := idxRows4 t
  blk_ext [iblk4, h0, h1]

theorem iblk4_4 (t : Fin cfg4.N) (i : Fin 2000) (k : Fin 3) : (iblk4 V c 4 t : Vec Ideal S2000x3 .f32) (ix2 i k)
    = (V c main_v49 : Vec Ideal S50000x3 .f32) (ix2 ⟨t.val * 2000 + i.val, by have := Nat.lt_of_lt_of_eq t.isLt N_4; omega⟩ k) := by
  obtain ⟨-, -, -, -, -, -, -, -, h0, h1, -⟩ := idxRows4 t
  blk_ext [iblk4, h0, h1]

theorem iblk4_5 (t : Fin cfg4.N) (k : Fin 72) (o : Fin 96) : (iblk4 V c 5 t : Vec Ideal S72x96 .f32) (ix2 k o) = (V c main_arg7 : Vec Ideal S72x96 .f32) (ix2 k o) := by
  obtain ⟨h0, h1, -⟩ := idxWhole4 t
  blk_ext [iblk4, h0, h1]

theorem iblk4_6 (t : Fin cfg4.N) (r : Fin 3) (k : Fin 72) (o : Fin 96) :
    (iblk4 V c 6 t : Vec Ideal S3x72x96 .f32) (ix3 r k o) = (V c main_arg8 : Vec Ideal S3x72x96 .f32) (ix3 r k o) := by
  obtain ⟨-, -, h0, h1, h2, -⟩ := idxWhole4 t
  blk_ext [iblk4, h0, h1, h2]

theorem iblk4_7 (t : Fin cfg4.N) (o : Fin 96) : (iblk4 V c 7 t : Vec Ideal S1x96 .f32) (ix2 0 o) = (V c main_v50 : Vec Ideal S1x96 .f32) (ix2 0 o) := by
  obtain ⟨-, -, -, -, -, h0, h1⟩ := idxWhole4 t
  blk_ext [iblk4, h0, h1]

/-- The first layer's array after the call, when the call finds the features, the relations' sums and the inverse counts given by functions of the indices. -/
theorem arr4_8 (h : Fin 50000 → Fin 72 → EReal) (S : Fin 3 → Fin 50000 → Fin 72 → EReal) (inv : Fin 3 → Fin 50000 → EReal)
    (wr : Fin 72 → Fin 96 → EReal) (w : Fin 3 → Fin 72 → Fin 96 → EReal) (b : Fin 96 → EReal)
    (eh : ∀ n k, (V c main_v21 : Vec Ideal S50000x96 .f32) (ix2 n ⟨k.val, by omega⟩) = h n k)
    (e0 : ∀ n k, (V c main_v23 : Vec Ideal S50000x96 .f32) (ix2 n ⟨k.val, by omega⟩) = S 0 n k)
    (e1 : ∀ n k, (V c main_v25 : Vec Ideal S50000x96 .f32) (ix2 n ⟨k.val, by omega⟩) = S 1 n k)
    (e2 : ∀ n k, (V c main_v27 : Vec Ideal S50000x96 .f32) (ix2 n ⟨k.val, by omega⟩) = S 2 n k)
    (ei : ∀ n r, (V c main_v49 : Vec Ideal S50000x3 .f32) (ix2 n r) = inv r n) (ewr : ∀ k o, (V c main_arg7 : Vec Ideal S72x96 .f32) (ix2 k o) = wr k o)
    (ew : ∀ r k o, (V c main_arg8 : Vec Ideal S3x72x96 .f32) (ix3 r k o) = w r k o) (eb : ∀ o, (V c main_v50 : Vec Ideal S1x96 .f32) (ix2 0 o) = b o) :
    (dat4 V c).arrAt 8 cfg4.N
      = (fun i => Model.layerOf (fun r n o => ∑ k, S r n k * inv r n * w r k o) h wr b (i 0) (i 1) : Vec Ideal S50000x96 .f32) := by
  refine (dat4 V c).arrAt_eq_of_covers 8 _ (by decide +kernel) fun t hf y => ?_
  obtain ⟨-, -, -, -, -, -, -, -, -, -, h0, h1⟩ := idxRows4 t
  blk_simp
  rw [after4_8]
  unfold outs4
  idx_vars y
  have hb : t.val < 25 := Nat.lt_of_lt_of_eq t.isLt N_4
  rw [show ((View.whole main_v51).slice (win4_8.rect t)).emb (ix2 y0 y1) = ix2 (⟨t.val * 2000 + y0.val, by omega⟩ : Fin 50000) y1 from by blk_ext [h0, h1]]
  refine (dense4_apply _ _ _ _ _ _ _ _ y0 y1).trans ?_
  simp only [iblk4_0, iblk4_1, iblk4_2, iblk4_3, iblk4_4, iblk4_5, iblk4_6, iblk4_7, eh, e0, e1, e2, ei, ewr, ew, eb]
  rfl

/-! ## The second layer's call -/

theorem idxRows8 : ∀ t : Fin cfg8.N, win8_0.index t 0 = t.val ∧ win8_0.index t 1 = 0 ∧ win8_1.index t 0 = t.val ∧ win8_1.index t 1 = 0 ∧ win8_2.index t 0 = t.val ∧ win8_2.index t 1 = 0 ∧ win8_3.index t 0 = t.val ∧ win8_3.index t 1 = 0 ∧ win8_4.index t 0 = t.val ∧ win8_4.index t 1 = 0 ∧ win8_8.index t 0 = t.val ∧ win8_8.index t 1 = 0 := by decide +kernel
theorem idxWhole8 : ∀ t : Fin cfg8.N, win8_5.index t 0 = 0 ∧ win8_5.index t 1 = 0 ∧ win8_6.index t 0 = 0 ∧ win8_6.index t 1 = 0 ∧ win8_6.index t 2 = 0 ∧ win8_7.index t 0 = 0 ∧ win8_7.index t 1 = 0 := by decide +kernel

theorem iblk8_0 (t : Fin cfg8.N) (i : Fin 2000) (k : Fin 96) : (iblk8 V c 0 t : Vec Ideal S2000x96 .f32) (ix2 i k)
    = (V c main_v51 : Vec Ideal S50000x96 .f32) (ix2 ⟨t.val * 2000 + i.val, by have := Nat.lt_of_lt_of_eq t.isLt N_8; omega⟩ k) := by
  obtain ⟨h0, h1, -⟩ := idxRows8 t
  blk_ext [iblk8, h0, h1]

theorem iblk8_1 (t : Fin cfg8.N) (i : Fin 2000) (k : Fin 96) : (iblk8 V c 1 t : Vec Ideal S2000x96 .f32) (ix2 i k)
    = (V c main_v53 : Vec Ideal S50000x96 .f32) (ix2 ⟨t.val * 2000 + i.val, by have := Nat.lt_of_lt_of_eq t.isLt N_8; omega⟩ k) := by
  obtain ⟨-, -, h0, h1, -⟩ := idxRows8 t
  blk_ext [iblk8, h0, h1]

theorem iblk8_2 (t : Fin cfg8.N) (i : Fin 2000) (k : Fin 96) : (iblk8 V c 2 t : Vec Ideal S2000x96 .f32) (ix2 i k)
    = (V c main_v55 : Vec Ideal S50000x96 .f32) (ix2 ⟨t.val * 2000 + i.val, by have := Nat.lt_of_lt_of_eq t.isLt N_8; omega⟩ k) := by
  obtain ⟨-, -, -, -, h0, h1, -⟩ := idxRows8 t
  blk_ext [iblk8, h0, h1]

theorem iblk8_3 (t : Fin cfg8.N) (i : Fin 2000) (k : Fin 96) : (iblk8 V c 3 t : Vec Ideal S2000x96 .f32) (ix2 i k)
    = (V c main_v57 : Vec Ideal S50000x96 .f32) (ix2 ⟨t.val * 2000 + i.val, by have := Nat.lt_of_lt_of_eq t.isLt N_8; omega⟩ k) := by
  obtain ⟨-, -, -, -, -, -, h0, h1, -⟩ := idxRows8 t
  blk_ext [iblk8, h0, h1]

theorem iblk8_4 (t : Fin cfg8.N) (i : Fin 2000) (k : Fin 3) : (iblk8 V c 4 t : Vec Ideal S2000x3 .f32) (ix2 i k)
    = (V c main_v49 : Vec Ideal S50000x3 .f32) (ix2 ⟨t.val * 2000 + i.val, by have := Nat.lt_of_lt_of_eq t.isLt N_8; omega⟩ k) := by
  obtain ⟨-, -, -, -, -, -, -, -, h0, h1, -⟩ := idxRows8 t
  blk_ext [iblk8, h0, h1]

theorem iblk8_5 (t : Fin cfg8.N) (k : Fin 96) (o : Fin 96) : (iblk8 V c 5 t : Vec Ideal S96x96 .f32) (ix2 k o) = (V c main_arg10 : Vec Ideal S96x96 .f32) (ix2 k o) := by
  obtain ⟨h0, h1, -⟩ := idxWhole8 t
  blk_ext [iblk8, h0, h1]

theorem iblk8_6 (t : Fin cfg8.N) (r : Fin 3) (k : Fin 96) (o : Fin 96) :
    (iblk8 V c 6 t : Vec Ideal S3x96x96 .f32) (ix3 r k o) = (V c main_arg11 : Vec Ideal S3x96x96 .f32) (ix3 r k o) := by
  obtain ⟨-, -, h0, h1, h2, -⟩ := idxWhole8 t
  blk_ext [iblk8, h0, h1, h2]

theorem iblk8_7 (t : Fin cfg8.N) (o : Fin 96) : (iblk8 V c 7 t : Vec Ideal S1x96 .f32) (ix2 0 o) = (V c main_v58 : Vec Ideal S1x96 .f32) (ix2 0 o) := by
  obtain ⟨-, -, -, -, -, h0, h1⟩ := idxWhole8 t
  blk_ext [iblk8, h0, h1]

/-- The second layer's array after the call, when the call finds the features, the relations' sums and the inverse counts given by functions of the indices. -/
theorem arr8_8 (h : Fin 50000 → Fin 96 → EReal) (S : Fin 3 → Fin 50000 → Fin 96 → EReal) (inv : Fin 3 → Fin 50000 → EReal)
    (wr : Fin 96 → Fin 96 → EReal) (w : Fin 3 → Fin 96 → Fin 96 → EReal) (b : Fin 96 → EReal)
    (eh : ∀ n k, (V c main_v51 : Vec Ideal S50000x96 .f32) (ix2 n k) = h n k)
    (e0 : ∀ n k, (V c main_v53 : Vec Ideal S50000x96 .f32) (ix2 n k) = S 0 n k)
    (e1 : ∀ n k, (V c main_v55 : Vec Ideal S50000x96 .f32) (ix2 n k) = S 1 n k)
    (e2 : ∀ n k, (V c main_v57 : Vec Ideal S50000x96 .f32) (ix2 n k) = S 2 n k)
    (ei : ∀ n r, (V c main_v49 : Vec Ideal S50000x3 .f32) (ix2 n r) = inv r n) (ewr : ∀ k o, (V c main_arg10 : Vec Ideal S96x96 .f32) (ix2 k o) = wr k o)
    (ew : ∀ r k o, (V c main_arg11 : Vec Ideal S3x96x96 .f32) (ix3 r k o) = w r k o) (eb : ∀ o, (V c main_v58 : Vec Ideal S1x96 .f32) (ix2 0 o) = b o) :
    (dat8 V c).arrAt 8 cfg8.N
      = (fun i => Model.layerOf (fun r n o => ∑ k, S r n k * inv r n * w r k o) h wr b (i 0) (i 1) : Vec Ideal S50000x96 .f32) := by
  refine (dat8 V c).arrAt_eq_of_covers 8 _ (by decide +kernel) fun t hf y => ?_
  obtain ⟨-, -, -, -, -, -, -, -, -, -, h0, h1⟩ := idxRows8 t
  blk_simp
  rw [after8_8]
  unfold outs8
  idx_vars y
  have hb : t.val < 25 := Nat.lt_of_lt_of_eq t.isLt N_8
  rw [show ((View.whole main_v59).slice (win8_8.rect t)).emb (ix2 y0 y1) = ix2 (⟨t.val * 2000 + y0.val, by omega⟩ : Fin 50000) y1 from by blk_ext [h0, h1]]
  refine (dense8_apply _ _ _ _ _ _ _ _ y0 y1).trans ?_
  simp only [iblk8_0, iblk8_1, iblk8_2, iblk8_3, iblk8_4, iblk8_5, iblk8_6, iblk8_7, eh, e0, e1, e2, ei, ewr, ew, eb]
  rfl

end Cert.KernelIdeal.Gen

end
-- ==== Proof.KernelIdeal.LayerValue.lean ====
module

public import proofs.«01_k».proof.Proof.KernelIdeal.SumsValue
public import proofs.«01_k».proof.Proof.KernelIdeal.EmbedValue
public import proofs.«01_k».proof.Proof.KernelIdeal.DenseValue

@[expose] public section

set_option maxRecDepth 16384

noncomputable section

namespace Cert.KernelIdeal.Gen

open Idealize.ShloMosaic Idealize.ShloMosaic.TcCoe Idealize.ShloMosaic.Tactic

/-! # The two layers' arrays as the model's layers -/

section
variable {F : FTy → Type} [FloatOps F]

/-- The rows of an array of sums that belong to nodes. -/
abbrev nodeRows (x : Vec F S50008x96 .f32) : Vec F S50000x96 .f32 := extractStridedSlice S50000x96 ![0, 0] x slices_S50008x96_S50000x96_0_0

theorem nodeRows_apply (x : Vec F S50008x96 .f32) (n : Fin 50000) (j : Fin 96) : nodeRows x (ix2 n j) = x (ix2 ⟨n.val, by omega⟩ j) := by
  pointwise [nodeRows]

/-- One over the counts found in column 72, at least one. -/
def inverseCol (x : Vec F S50000x96 .f32) : Vec F S50000x1 .f32 :=
  broadcastInDim S50000x1 ![0] bcast_S50000_S50000x1_0
    (Host.divf (broadcastInDim S50000 ![] bcast_S_S50000 (constant S_ .f32 0x3F800000#32))
      (maximumf (shapeCast S50000 (extractStridedSlice S50000x1 ![0, 72] x slices_S50000x96_S50000x1_0_72) shapeCasts_S50000x1_S50000)
        (broadcastInDim S50000 ![] bcast_S_S50000 (constant S_ .f32 0x3F800000#32))))

variable (V : Valuation τ sig (Elt F))

theorem read_v23 : StableHlo.after hostOps2 V (Proc.devRef .tc main_v23) = nodeRows (V (Proc.devRef .tc main_v22)) := by
  unfold_abbrev_sides; after_results
theorem read_v25 : StableHlo.after hostOps3 V (Proc.devRef .tc main_v25) = nodeRows (V (Proc.devRef .tc main_v24)) := by
  unfold_abbrev_sides; after_results
theorem read_v27 : StableHlo.after hostOps4 V (Proc.devRef .tc main_v27) = nodeRows (V (Proc.devRef .tc main_v26)) := by
  unfold_abbrev_sides; after_results
theorem read_v49 : StableHlo.after hostOps4 V (Proc.devRef .tc main_v49)
    = concatenate S50000x3 1 [⟨S50000x1, inverseCol (V (Proc.devRef .tc main_v23))⟩, ⟨S50000x1, inverseCol (V (Proc.devRef .tc main_v25))⟩,
        ⟨S50000x1, inverseCol (nodeRows (V (Proc.devRef .tc main_v26)))⟩] concatenates_S50000x1_S50000x1_S50000x1_S50000x3_d1 := by
  unfold_abbrev_sides; after_results; rfl
theorem read_v50 : StableHlo.after hostOps4 V (Proc.devRef .tc main_v50) = shapeCast S1x96 (V (Proc.devRef .tc main_arg9)) shapeCasts_S96_S1x96 := by
  unfold_abbrev_sides; after_results; rfl
theorem read_v53 : StableHlo.after hostOps6 V (Proc.devRef .tc main_v53) = nodeRows (V (Proc.devRef .tc main_v52)) := by
  unfold_abbrev_sides; after_results
theorem read_v55 : StableHlo.after hostOps7 V (Proc.devRef .tc main_v55) = nodeRows (V (Proc.devRef .tc main_v54)) := by
  unfold_abbrev_sides; after_results
theorem read_v57 : StableHlo.after hostOps8 V (Proc.devRef .tc main_v57) = nodeRows (V (Proc.devRef .tc main_v56)) := by
  unfold_abbrev_sides; after_results
theorem read_v58 : StableHlo.after hostOps8 V (Proc.devRef .tc main_v58) = shapeCast S1x96 (V (Proc.devRef .tc main_arg12)) shapeCasts_S96_S1x96 := by
  unfold_abbrev_sides; after_results; rfl
end

theorem inverseCol_apply (x : Vec Ideal S50000x96 .f32) (n : Fin 50000) : inverseCol x (ix2 n 0) = Ideal.div 1 (max (x (ix2 n 72)) 1) := by
  pointwise [inverseCol]

theorem row_apply (x : Vec Ideal S96 .f32) (o : Fin 96) : shapeCast S1x96 x shapeCasts_S96_S1x96 (ix2 0 o) = x (ix1 o) := by
  pointwise

theorem columns_apply (x y z : Vec Ideal S50000x1 .f32) (n : Fin 50000) :
    let v : Vec Ideal S50000x3 .f32 := concatenate S50000x3 1 [⟨S50000x1, x⟩, ⟨S50000x1, y⟩, ⟨S50000x1, z⟩] concatenates_S50000x1_S50000x1_S50000x1_S50000x3_d1
    v (ix2 n 0) = x (ix2 n 0) ∧ v (ix2 n 1) = y (ix2 n 0) ∧ v (ix2 n 2) = z (ix2 n 0) := by
  intro v
  refine ⟨?_, ?_, ?_⟩
  · show concatenate _ _ _ _ _ = _
    pointwise
  · show concatenate _ _ _ _ _ = _
    pointwise
  · show concatenate _ _ _ _ _ = _
    pointwise

variable (m : (ℓ : Loc nD τ sig) → Buf (Elt Ideal) ℓ) (ρ : Dev nD → PrngReg) (c : Dev nD)

/-! The arguments at launch, as functions of their indices. -/

abbrev xOf : Fin 50000 → Fin 3 → BitVec 32 := fun n i => (m ((c : Thread nD τ).loc main_arg0) : Vec Ideal S50000x3 .i32) (ix2 n i)
abbrev tabA : Fin 8 → Fin 24 → EReal := fun a b => (m ((c : Thread nD τ).loc main_arg4) : Vec Ideal S8x24 .f32) (ix2 a b)
abbrev tabB : Fin 8 → Fin 24 → EReal := fun a b => (m ((c : Thread nD τ).loc main_arg5) : Vec Ideal S8x24 .f32) (ix2 a b)
abbrev tabP : Fin 25 → Fin 24 → EReal := fun a b => (m ((c : Thread nD τ).loc main_arg6) : Vec Ideal S25x24 .f32) (ix2 a b)
abbrev root1 : Fin 72 → Fin 96 → EReal := fun k o => (m ((c : Thread nD τ).loc main_arg7) : Vec Ideal S72x96 .f32) (ix2 k o)
abbrev rel1 : Fin 3 → Fin 72 → Fin 96 → EReal := fun r k o => (m ((c : Thread nD τ).loc main_arg8) : Vec Ideal S3x72x96 .f32) (ix3 r k o)
abbrev bias1 : Fin 96 → EReal := fun o => (m ((c : Thread nD τ).loc main_arg9) : Vec Ideal S96 .f32) (ix1 o)
abbrev root2 : Fin 96 → Fin 96 → EReal := fun k o => (m ((c : Thread nD τ).loc main_arg10) : Vec Ideal S96x96 .f32) (ix2 k o)
abbrev rel2 : Fin 3 → Fin 96 → Fin 96 → EReal := fun r k o => (m ((c : Thread nD τ).loc main_arg11) : Vec Ideal S3x96x96 .f32) (ix3 r k o)
abbrev bias2 : Fin 96 → EReal := fun o => (m ((c : Thread nD τ).loc main_arg12) : Vec Ideal S96 .f32) (ix1 o)

variable (hX : ∀ n i, (xOf m c n i).toNat < 8) (hE : ∀ (i : Fin 2) (e : Fin 800000), (edOf m c i e).toNat < 50000)

abbrev feats0 : Fin 50000 → Fin 72 → EReal := Model.embedded (xOf m c) hX (tabA m c) (tabB m c) (tabP m c)
abbrev feats1 : Fin 50000 → Fin 96 → EReal :=
  Model.layerScaled (edOf m c) (tyOf m c) hE (feats0 m c hX) (root1 m c) (rel1 m c) (bias1 m c)
abbrev feats2 : Fin 50000 → Fin 96 → EReal :=
  Model.layerScaled (edOf m c) (tyOf m c) hE (feats1 m c hX hE) (root2 m c) (rel2 m c) (bias2 m c)

/-- The embedding's array when the scatter calls begin. -/
theorem embedded_at8 (n : Fin 50000) (j : Fin 96) :
    (W8 m ρ c (Proc.devRef .tc main_v21) : Vec Ideal S50000x96 .f32) (ix2 n j) = padded (feats0 m c hX) n j := by
  have e0 : V7 m ρ c main_arg0 = m ((c : Thread nD τ).loc main_arg0) := W7_args m ρ c main_arg0 (by decide)
  have e4 : V7 m ρ c main_arg4 = m ((c : Thread nD τ).loc main_arg4) := W7_args m ρ c main_arg4 (by decide)
  have e5 : V7 m ρ c main_arg5 = m ((c : Thread nD τ).loc main_arg5) := W7_args m ρ c main_arg5 (by decide)
  have e6 : V7 m ρ c main_arg6 = m ((c : Thread nD τ).loc main_arg6) := W7_args m ρ c main_arg6 (by decide)
  refine (congrFun ((W8_arr m ρ c 4).trans (arr0_4 (V7 m ρ) c (by rw [e0]; exact hX))) (ix2 n j)).trans ?_
  have k : ∀ x (hx : ∀ n i, BitVec.toNat (x n i) < 8), x = xOf m c →
      padded (Model.embedded x hx (tabA m c) (tabB m c) (tabP m c)) n j = padded (feats0 m c hX) n j := by
    rintro x hx rfl
    rfl
  rw [e4, e5, e6]
  exact k _ _ (by rw [e0])

/-! The features stay in place while the scatter calls and the slices after them run. -/

theorem v21_at10 : W10 m ρ c (Proc.devRef .tc main_v21) = W8 m ρ c (Proc.devRef .tc main_v21) :=
  (W10_of m ρ c main_v21 (by decide)).trans (W9_of m ρ c main_v21 (by decide))
theorem v21_at12 : W12 m ρ c (Proc.devRef .tc main_v21) = W8 m ρ c (Proc.devRef .tc main_v21) :=
  ((W12_of m ρ c main_v21 (by decide)).trans (W11_of m ρ c main_v21 (by decide))).trans (v21_at10 m ρ c)
theorem v21_at14 : W14 m ρ c (Proc.devRef .tc main_v21) = W8 m ρ c (Proc.devRef .tc main_v21) :=
  ((W14_of m ρ c main_v21 (by decide)).trans (W13_of m ρ c main_v21 (by decide))).trans (v21_at12 m ρ c)
theorem v23_at13 : W13 m ρ c (Proc.devRef .tc main_v23) = nodeRows (W9 m ρ c (Proc.devRef .tc main_v22)) :=
  ((W13_of m ρ c main_v23 (by decide)).trans (W12_of m ρ c main_v23 (by decide))).trans
    ((W11_of m ρ c main_v23 (by decide)).trans (read_v23 (W9 m ρ c)))
theorem v25_at13 : W13 m ρ c (Proc.devRef .tc main_v25) = nodeRows (W11 m ρ c (Proc.devRef .tc main_v24)) :=
  (W13_of m ρ c main_v25 (by decide)).trans (read_v25 (W11 m ρ c))

/-- The three relations' sums, at a node's row, when the first layer's call begins. -/
theorem sums_at13 (n : Fin 50000) (j : Fin 96) :
    (W13 m ρ c (Proc.devRef .tc main_v23) : Vec Ideal S50000x96 .f32) (ix2 n j)
        = Model.gathered (edOf m c) (tyOf m c) hE (padded (feats0 m c hX)) 0 n j
      ∧ (W13 m ρ c (Proc.devRef .tc main_v25) : Vec Ideal S50000x96 .f32) (ix2 n j)
        = Model.gathered (edOf m c) (tyOf m c) hE (padded (feats0 m c hX)) 1 n j
      ∧ (nodeRows (W13 m ρ c (Proc.devRef .tc main_v26)) : Vec Ideal S50000x96 .f32) (ix2 n j)
        = Model.gathered (edOf m c) (tyOf m c) hE (padded (feats0 m c hX)) 2 n j := by
  have e : (fun n k => (W8 m ρ c (Proc.devRef .tc main_v21) : Vec Ideal S50000x96 .f32) (ix2 n k)) = padded (feats0 m c hX) :=
    funext fun n => funext fun k => embedded_at8 m ρ c hX n k
  refine ⟨?_, ?_, ?_⟩
  · rw [v23_at13, nodeRows_apply, sum1 m ρ c hE, e]
  · rw [v25_at13, nodeRows_apply, sum2 m ρ c hE, v21_at10, e]
  · rw [nodeRows_apply, sum3 m ρ c hE, v21_at12, e]

/-- The sums over the feature columns, and the counts in column 72. -/
theorem gathered_padded (h : Fin 50000 → Fin 72 → EReal) (r : ℕ) (n : Fin 50000) :
    (∀ k : Fin 72, Model.gathered (edOf m c) (tyOf m c) hE (padded h) r n ⟨k.val, by omega⟩ = Model.gathered (edOf m c) (tyOf m c) hE h r n k)
      ∧ Model.gathered (edOf m c) (tyOf m c) hE (padded h) r n 72 = Mean.count (Model.into (edOf m c) (tyOf m c) r n.val) :=
  ⟨fun k => Finset.sum_congr rfl fun e _ => dif_pos k.isLt, Finset.sum_congr rfl fun e _ => rfl⟩

include hX hE in
/-- The inverse counts when the first layer's call begins. -/
theorem inverse_at14 (n : Fin 50000) (r : Fin 3) :
    (W14 m ρ c (Proc.devRef .tc main_v49) : Vec Ideal S50000x3 .f32) (ix2 n r) = Model.inverse (edOf m c) (tyOf m c) r.val n := by
  obtain ⟨s0, s1, s2⟩ := sums_at13 m ρ c hX hE n 72
  have g := fun r => (gathered_padded m c hE (feats0 m c hX) r n).2
  have k := columns_apply (inverseCol (W13 m ρ c (Proc.devRef .tc main_v23))) (inverseCol (W13 m ρ c (Proc.devRef .tc main_v25)))
    (inverseCol (nodeRows (W13 m ρ c (Proc.devRef .tc main_v26)))) n
  have e : W14 m ρ c (Proc.devRef .tc main_v49) = _ := read_v49 (W13 m ρ c)
  rw [e]
  match r with
  | ⟨0, _⟩ => exact k.1.trans (by rw [inverseCol_apply, s0, g]; rfl)
  | ⟨1, _⟩ => exact k.2.1.trans (by rw [inverseCol_apply, s1, g]; rfl)
  | ⟨2, _⟩ => exact k.2.2.trans (by rw [inverseCol_apply, s2, g]; rfl)

/-- The first layer's array is the first layer of the embedded features. -/
theorem layer1_at15 : W15 m ρ c (Proc.devRef .tc main_v51) = (fun i => feats1 m c hX hE (i 0) (i 1) : Vec Ideal S50000x96 .f32) := by
  refine (W15_arr m ρ c 8).trans (arr4_8 (V14 m ρ) c (feats0 m c hX) (fun r => Model.gathered (edOf m c) (tyOf m c) hE (feats0 m c hX) r.val)
    (fun r => Model.inverse (edOf m c) (tyOf m c) r.val) (root1 m c) (rel1 m c) (bias1 m c) (fun n k => ?_) (fun n k => ?_) (fun n k => ?_) (fun n k => ?_)
    (fun n r => inverse_at14 m ρ c hX hE n r) (fun k o => ?_) (fun r k o => ?_) fun o => ?_)
  · exact (congrFun (v21_at14 m ρ c) _).trans ((embedded_at8 m ρ c hX n _).trans (dif_pos k.isLt))
  · exact (congrFun (W14_of m ρ c main_v23 (by decide)) _).trans
      ((sums_at13 m ρ c hX hE n _).1.trans ((gathered_padded m c hE _ 0 n).1 k))
  · exact (congrFun (W14_of m ρ c main_v25 (by decide)) _).trans
      ((sums_at13 m ρ c hX hE n _).2.1.trans ((gathered_padded m c hE _ 1 n).1 k))
  · exact (congrFun (read_v27 (W13 m ρ c)) _).trans
      ((sums_at13 m ρ c hX hE n _).2.2.trans ((gathered_padded m c hE _ 2 n).1 k))
  · exact congrFun (W14_args m ρ c main_arg7 (by decide)) _
  · exact congrFun (W14_args m ρ c main_arg8 (by decide)) _
  · exact (congrFun (read_v50 (W13 m ρ c)) _).trans ((row_apply _ o).trans (congrFun (W13_args m ρ c main_arg9 (by decide)) _))

/-! The first layer's array and the inverse counts stay in place until the second layer's call. -/

theorem v51_at17 : W17 m ρ c (Proc.devRef .tc main_v51) = W15 m ρ c (Proc.devRef .tc main_v51) :=
  (W17_of m ρ c main_v51 (by decide)).trans (W16_of m ρ c main_v51 (by decide))
theorem v51_at19 : W19 m ρ c (Proc.devRef .tc main_v51) = W15 m ρ c (Proc.devRef .tc main_v51) :=
  ((W19_of m ρ c main_v51 (by decide)).trans (W18_of m ρ c main_v51 (by decide))).trans (v51_at17 m ρ c)
theorem v51_at21 : W21 m ρ c (Proc.devRef .tc main_v51) = W15 m ρ c (Proc.devRef .tc main_v51) :=
  ((W21_of m ρ c main_v51 (by decide)).trans (W20_of m ρ c main_v51 (by decide))).trans (v51_at19 m ρ c)
theorem v53_at21 : W21 m ρ c (Proc.devRef .tc main_v53) = nodeRows (W16 m ρ c (Proc.devRef .tc main_v52)) :=
  ((W21_of m ρ c main_v53 (by decide)).trans (W20_of m ρ c main_v53 (by decide))).trans
    (((W19_of m ρ c main_v53 (by decide)).trans (W18_of m ρ c main_v53 (by decide))).trans (read_v53 (W16 m ρ c)))
theorem v55_at21 : W21 m ρ c (Proc.devRef .tc main_v55) = nodeRows (W18 m ρ c (Proc.devRef .tc main_v54)) :=
  ((W21_of m ρ c main_v55 (by decide)).trans (W20_of m ρ c main_v55 (by decide))).trans (read_v55 (W18 m ρ c))
theorem v49_at21 : W21 m ρ c (Proc.devRef .tc main_v49) = W14 m ρ c (Proc.devRef .tc main_v49) :=
  ((W21_of m ρ c main_v49 (by decide)).trans (W20_of m ρ c main_v49 (by decide))).trans <|
    ((W19_of m ρ c main_v49 (by decide)).trans (W18_of m ρ c main_v49 (by decide))).trans <|
    ((W17_of m ρ c main_v49 (by decide)).trans (W16_of m ρ c main_v49 (by decide))).trans (W15_of m ρ c main_v49 (by decide))

/-- The second layer's array is the second layer of the first layer's features. -/
theorem layer2_at22 : W22 m ρ c (Proc.devRef .tc main_v59) = (fun i => feats2 m c hX hE (i 0) (i 1) : Vec Ideal S50000x96 .f32) := by
  have e : (fun n k => (W15 m ρ c (Proc.devRef .tc main_v51) : Vec Ideal S50000x96 .f32) (ix2 n k)) = feats1 m c hX hE := by
    rw [layer1_at15 m ρ c hX hE]
    rfl
  refine (W22_arr m ρ c 8).trans (arr8_8 (V21 m ρ) c (feats1 m c hX hE) (fun r => Model.gathered (edOf m c) (tyOf m c) hE (feats1 m c hX hE) r.val)
    (fun r => Model.inverse (edOf m c) (tyOf m c) r.val) (root2 m c) (rel2 m c) (bias2 m c) (fun n k => ?_) (fun n k => ?_) (fun n k => ?_) (fun n k => ?_)
    (fun n r => (congrFun (v49_at21 m ρ c) _).trans (inverse_at14 m ρ c hX hE n r)) (fun k o => ?_) (fun r k o => ?_) fun o => ?_)
  · exact (congrFun (v51_at21 m ρ c) _).trans (congrFun (congrFun e n) k)
  · refine (congrFun (v53_at21 m ρ c) _).trans ?_
    rw [nodeRows_apply, sum5 m ρ c hE, e]
    rfl
  · refine (congrFun (v55_at21 m ρ c) _).trans ?_
    rw [nodeRows_apply, sum6 m ρ c hE, v51_at17, e]
    rfl
  · refine (congrFun (read_v57 (W20 m ρ c)) _).trans ?_
    rw [nodeRows_apply, sum7 m ρ c hE, v51_at19, e]
    rfl
  · exact congrFun (W21_args m ρ c main_arg10 (by decide)) _
  · exact congrFun (W21_args m ρ c main_arg11 (by decide)) _
  · exact (congrFun (read_v58 (W20 m ρ c)) _).trans ((row_apply _ o).trans (congrFun (W20_args m ρ c main_arg12 (by decide)) _))

end Cert.KernelIdeal.Gen

end
-- ==== Proof.KernelIdeal.PoolValue.lean ====
module

public import proofs.«01_k».proof.Proof.KernelIdeal.LayerValue

@[expose] public section

set_option maxRecDepth 16384

noncomputable section

namespace Cert.KernelIdeal.Gen

open Idealize.ShloMosaic Idealize.ShloMosaic.TcCoe Idealize.ShloMosaic.Tactic

/-! # The pooling call's scores -/

/-- A running sum over 25 blocks of 2000 nodes ends at the sum over the nodes. -/
theorem nodes_sum {N : ℕ} (hN : N = 25) (f : Fin 50000 → EReal) (S : (n : ℕ) → n < N → EReal)
    (S0 : ∀ hn, S 0 hn = ∑ k : Fin 2000, f ⟨0 * 2000 + k.val, by omega⟩)
    (SS : ∀ n hn, S (n + 1) hn = S n (Nat.lt_of_succ_lt hn) + ∑ k : Fin 2000, f ⟨(n + 1) * 2000 + k.val, by omega⟩) (hn : 24 < N) :
    S 24 hn = ∑ n, f n := by
  subst hN
  let g : ℕ → EReal := fun e => if he : e < 50000 then f ⟨e, he⟩ else 0
  have block : ∀ n (hn : n < 25), (∑ k : Fin 2000, f ⟨n * 2000 + k.val, by omega⟩) = ∑ k ∈ Finset.range 2000, g (n * 2000 + k) := fun n hn => by
    rw [Finset.sum_range]
    refine Finset.sum_congr rfl fun k _ => ?_
    simp only [g]
    rw [dif_pos (show n * 2000 + k.val < 50000 by omega)]
  have step : ∀ n (hn : n < 25), S n hn = ∑ e ∈ Finset.range ((n + 1) * 2000), g e := by
    intro n
    induction n with
    | zero =>
      intro hn
      rw [S0, block 0 hn]
      simp only [Nat.zero_mul, Nat.zero_add, Nat.one_mul]
    | succ n ih =>
      intro hn
      rw [SS, ih, block (n + 1) hn, show (n + 1 + 1) * 2000 = (n + 1) * 2000 + 2000 by omega, Finset.sum_range_add]
  rw [step, show (24 + 1) * 2000 = 50000 from rfl, Finset.sum_range]
  exact Finset.sum_congr rfl fun n _ => dif_pos n.isLt

section
variable (V : (c : Dev nD) → (b : Ref sig .tc) → Buf (Elt Ideal) ((c : Thread nD τ).loc b)) (c : Dev nD)

theorem idx9 : ∀ t : Fin cfg9.N, win9_0.index t 0 = t.val ∧ win9_0.index t 1 = 0 ∧ win9_1.index t 0 = t.val ∧ win9_1.index t 1 = 0
    ∧ win9_2.index t 0 = 0 ∧ win9_2.index t 1 = 0 ∧ win9_3.index t 0 = 0 ∧ win9_3.index t 1 = 0 := by decide +kernel

theorem iblk9_0 (t : Fin cfg9.N) (i : Fin 2000) (k : Fin 96) : (iblk9 V c 0 t : Vec Ideal S2000x96 .f32) (ix2 i k)
    = (V c main_v59 : Vec Ideal S50000x96 .f32) (ix2 ⟨t.val * 2000 + i.val, by have := Nat.lt_of_lt_of_eq t.isLt N_9; omega⟩ k) := by
  obtain ⟨h0, h1, -⟩ := idx9 t
  blk_ext [iblk9, h0, h1]

theorem iblk9_1 (t : Fin cfg9.N) (i : Fin 2000) : (iblk9 V c 1 t : Vec Ideal S2000x1 .i32) (ix2 i 0)
    = (V c main_v60 : Vec Ideal S50000x1 .i32) (ix2 ⟨t.val * 2000 + i.val, by have := Nat.lt_of_lt_of_eq t.isLt N_9; omega⟩ 0) := by
  obtain ⟨-, -, h0, h1, -⟩ := idx9 t
  blk_ext [iblk9, h0, h1]

theorem iblk9_2 (t : Fin cfg9.N) (k : Fin 96) (q : Fin 16) : (iblk9 V c 2 t : Vec Ideal S96x16 .f32) (ix2 k q) = (V c main_arg13 : Vec Ideal S96x16 .f32) (ix2 k q) := by
  obtain ⟨-, -, -, -, h0, h1, -⟩ := idx9 t
  blk_ext [iblk9, h0, h1]

theorem iblk9_3 (t : Fin cfg9.N) (q : Fin 16) : (iblk9 V c 3 t : Vec Ideal S1x16 .f32) (ix2 0 q) = (V c main_v61 : Vec Ideal S1x16 .f32) (ix2 0 q) := by
  obtain ⟨-, -, -, -, -, -, h0, h1⟩ := idx9 t
  blk_ext [iblk9, h0, h1]

variable (bt : Fin 50000 → BitVec 32) (h : Fin 50000 → Fin 96 → EReal)
  (eb : ∀ n, (V c main_v60 : Vec Ideal S50000x1 .i32) (ix2 n 0) = bt n) (eh : ∀ n k, (V c main_v59 : Vec Ideal S50000x96 .f32) (ix2 n k) = h n k)

include eb eh in
/-- The sums after the last block: each graph's sum of its nodes' features. -/
theorem sums9_apply (g : Fin 512) (o : Fin 96) (hn : 24 < cfg9.N) : sums9 V c 24 hn (ix2 g o) = ∑ n ∈ Model.members bt g.val, h n o := by
  unfold Model.members
  rw [Finset.sum_filter]
  refine nodes_sum N_9 (fun n => if (bt n).toNat = g.val then h n o else 0) (fun n hn => sums9 V c n hn (ix2 g o)) (fun hn => ?_) (fun n hn => ?_) hn
  · have z : (k9_pay1 (F := Ideal)) (ix2 g o) = 0 := Ideal.ofBits_zero_f32
    refine (pay9_4_apply _ _ _ g o).trans ?_
    simp only [z, zero_add, iblk9_0, iblk9_1, eb, eh]
  · refine (pay9_4_apply _ _ _ g o).trans ?_
    simp only [iblk9_0, iblk9_1, eb, eh]

include eb in
/-- The counts after the last block: each graph's number of nodes. -/
theorem cnts9_apply (g : Fin 512) (j : Fin 128) (hn : 24 < cfg9.N) : cnts9 V c 24 hn (ix2 g j) = Mean.count (Model.members bt g.val) := by
  unfold Model.members Mean.count
  rw [Finset.sum_filter]
  refine nodes_sum N_9 (fun n => if (bt n).toNat = g.val then 1 else 0) (fun n hn => cnts9 V c n hn (ix2 g j)) (fun hn => ?_) (fun n hn => ?_) hn
  · have z : (k9_pay2 (F := Ideal)) (ix2 g j) = 0 := Ideal.ofBits_zero_f32
    refine (pay9_5_apply _ _ g j).trans ?_
    simp only [z, zero_add, iblk9_1, eb]
  · refine (pay9_5_apply _ _ g j).trans ?_
    simp only [iblk9_1, eb]

include eb eh in
/-- The scores' array after the call. -/
theorem arr9_6 (lw : Fin 96 → Fin 16 → EReal) (lb : Fin 16 → EReal) (ew : ∀ k q, (V c main_arg13 : Vec Ideal S96x16 .f32) (ix2 k q) = lw k q)
    (el : ∀ q, (V c main_v61 : Vec Ideal S1x16 .f32) (ix2 0 q) = lb q) :
    (dat9 V c).arrAt 6 cfg9.N = (fun i => Model.scores bt h lw lb (i 0) (i 1) : Vec Ideal S512x16 .f32) := by
  refine (dat9 V c).arrAt_eq_of_after_last 6 ⟨24, by decide +kernel⟩ (by decide +kernel) _ fun j => ?_
  rw [after9_6]
  idx_vars j
  refine (logits_apply _ _ _ _ j0 j1).trans ?_
  simp only [sums9_apply V c bt h eb eh, cnts9_apply V c bt eb, iblk9_2, iblk9_3, ew, el]
  rfl
end

section
variable {F : FTy → Type} [FloatOps F] (V : Valuation τ sig (Elt F))
theorem read_v60 : StableHlo.after hostOps9 V (Proc.devRef .tc main_v60) = shapeCast S50000x1 (V (Proc.devRef .tc main_arg3)) shapeCasts_S50000_S50000x1 := by
  unfold_abbrev_sides; after_results; rfl
theorem read_v61 : StableHlo.after hostOps9 V (Proc.devRef .tc main_v61) = shapeCast S1x16 (V (Proc.devRef .tc main_arg14)) shapeCasts_S16_S1x16 := by
  unfold_abbrev_sides; after_results; rfl
end

theorem col_apply (x : IVec S50000 32) (n : Fin 50000) : shapeCast S50000x1 x shapeCasts_S50000_S50000x1 (ix2 n 0) = x (ix1 n) := by
  pointwise
theorem row16_apply (x : Vec Ideal S16 .f32) (q : Fin 16) : shapeCast S1x16 x shapeCasts_S16_S1x16 (ix2 0 q) = x (ix1 q) := by
  pointwise

variable (m : (ℓ : Loc nD τ sig) → Buf (Elt Ideal) ℓ) (ρ : Dev nD → PrngReg) (c : Dev nD)

abbrev graphOf : Fin 50000 → BitVec 32 := fun n => (m ((c : Thread nD τ).loc main_arg3) : Vec Ideal S50000 .i32) (ix1 n)
abbrev classW : Fin 96 → Fin 16 → EReal := fun k q => (m ((c : Thread nD τ).loc main_arg13) : Vec Ideal S96x16 .f32) (ix2 k q)
abbrev classB : Fin 16 → EReal := fun q => (m ((c : Thread nD τ).loc main_arg14) : Vec Ideal S16 .f32) (ix1 q)

/-- The result: the class scores of the second layer's features. -/
theorem result_at24 (hX : ∀ n i, (xOf m c n i).toNat < 8) (hE : ∀ (i : Fin 2) (e : Fin 800000), (edOf m c i e).toNat < 50000) :
    W24 m ρ c (Proc.devRef .tc main_v62_2)
      = (fun i => Model.scores (graphOf m c) (feats2 m c hX hE) (classW m c) (classB m c) (i 0) (i 1) : Vec Ideal S512x16 .f32) := by
  refine (W24_arr m ρ c 6).trans (arr9_6 (V23 m ρ) c (graphOf m c) (feats2 m c hX hE) (fun n => ?_) (fun n k => ?_) (classW m c) (classB m c)
    (fun k q => ?_) fun q => ?_)
  · exact (congrFun (read_v60 (W22 m ρ c)) _).trans ((col_apply _ n).trans (congrFun (W22_args m ρ c main_arg3 (by decide)) _))
  · exact (congrFun ((W23_of m ρ c main_v59 (by decide)).trans (layer2_at22 m ρ c hX hE)) _)
  · exact congrFun (W23_args m ρ c main_arg13 (by decide)) _
  · exact (congrFun (read_v61 (W22 m ρ c)) _).trans ((row16_apply _ q).trans (congrFun (W22_args m ρ c main_arg14 (by decide)) _))

end Cert.KernelIdeal.Gen

end
-- ==== Proof.Segment.lean ====
module

public import Idealize.ShloMosaic.Lib.Pointwise
public import Idealize.ShloMosaic.Lib.Routing.OpsPair
public import Idealize.ShloMosaic.Lib.Routing.Ops

@[expose] public section

/-! # Adding rows into the segments their index words name

The accumulating scatter with one index word per row, read at one element: the segment's start plus the rows whose word is the segment. -/

namespace Cert.Segment

open Idealize.ShloMosaic Idealize.ShloMosaic.Routing

/-- An axis of two that is not the first is the second. -/
theorem one_of_ne (k : Fin 2) (h : k ≠ 0) : k = 1 := by omega

section Rows

variable {N C n : ℕ} (d : ScatterDims (shape2 N C) (shape2 n 1) (shape2 n C)) (huw : d.updateWindowDims = [1]) (hiw : d.insertedWindowDims = [0])
  (hsd : d.scatterDimsToOperandDims = [0]) (hivd : d.indexVectorDim = 1) (idx : IVec (shape2 n 1) 32)

include huw hiw hsd hivd

/-- Element `(e, o)` of the updates lands at `(r, q)` exactly when row `e`'s index word, read signed, is `r` and `o` is `q`. -/
theorem lands (e : Fin n) (o q : Fin C) (r : Fin N) :
    d.resultIdx? (ix2 e o) idx = some (ix2 r q) ↔ (idx (ix2 e 0)).toInt = (r.val : Int) ∧ o = q := by
  have hm : (0 : Fin 2) ∈ d.scatterDimsToOperandDims := by rw [hsd]; exact List.mem_singleton.2 rfl
  have hm1 : (1 : Fin 2) ∉ d.scatterDimsToOperandDims := one_not_mem _ hsd
  have hk0 : (0 : Fin 2) ∉ d.sKept := fun h => (of_decide_eq_true (List.mem_filter.1 h).2) (by rw [hiw]; exact List.mem_singleton.2 rfl)
  have hk1 : (1 : Fin 2) ∈ d.sKept := List.mem_filter.2 ⟨List.mem_finRange _, decide_eq_true (one_not_mem _ hiw)⟩
  have e0 : ∀ X : Fin 2, X ∈ d.uScatter → (ix2 e o X).val = e.val := fun X h => by
    have hX : X ∉ d.updateWindowDims := of_decide_eq_true (List.mem_filter.1 h).2
    rw [huw] at hX
    have : X ≠ 1 := fun h => hX (List.mem_singleton.2 h)
    obtain rfl : X = 0 := by omega
    rfl
  have e1 : ∀ X : Fin 2, X ∈ d.updateWindowDims → (ix2 e o X).val = o.val := fun X h => by
    rw [huw] at h
    obtain rfl := List.mem_singleton.1 h
    rfl
  have w0 : d.window (ix2 e o) 0 = 0 := by unfold ScatterDims.window; rw [dif_neg hk0]
  have w1 : d.window (ix2 e o) 1 = o.val := by
    unfold ScatterDims.window; rw [dif_pos hk1]; exact e1 _ (List.getElem_mem _)
  have s1 : d.start (ix2 e o) idx 1 = 0 := by unfold ScatterDims.start; rw [dif_neg hm1]
  have s0 : d.start (ix2 e o) idx 0 = (idx (ix2 e 0)).toInt := by
    unfold ScatterDims.start
    rw [dif_pos hm]
    refine congrArg (fun z => (idx z).toInt) ?_
    funext b'
    apply Fin.ext
    match b' with
    | ⟨0, _⟩ =>
      unfold ScatterDims.siIdx
      rw [dif_neg (by rw [hivd]; exact Nat.zero_ne_one)]
      unfold ScatterDims.siCoord
      simp only [Fin.val_cast]
      exact e0 _ (List.getElem_mem _)
    | ⟨1, _⟩ =>
      unfold ScatterDims.siIdx
      rw [dif_pos (by rw [hivd])]
      show List.idxOf (0 : Fin 2) d.scatterDimsToOperandDims = 0
      rw [hsd]; simp
  rw [ix2_eq_valueIdx r q, resultIdx?_ix2, s0, s1, w0, w1]
  constructor
  · rintro ⟨a, b⟩; exact ⟨by omega, Fin.ext (by omega)⟩
  · rintro ⟨a, rfl⟩; exact ⟨by omega, by omega⟩

/-- The scatter of rows at `(r, q)`: the start there plus the entries `q` of the rows whose index word is `r`. -/
theorem rows_apply (x : Vec Ideal (shape2 N C) .f32) (upd : Vec Ideal (shape2 n C) .f32) (r : Fin N) (q : Fin C) :
    (Host.scatterAdd (F := Ideal) (φ := .f32) d x idx upd) (ix2 r q)
      = x (ix2 r q) + ∑ e ∈ Finset.univ.filter (fun e : Fin n => (idx (ix2 e 0)).toInt = (r.val : Int)), upd (ix2 e q) := by
  show x (ix2 r q) + ∑ j ∈ Finset.univ.filter (fun j => d.resultIdx? j idx = some (ix2 r q)), upd j = _
  congr 1
  rw [Finset.sum_filter, sum_idx2, Finset.sum_filter]
  refine Finset.sum_congr rfl fun e _ => ?_
  simp only [lands d huw hiw hsd hivd idx e _ q r]
  by_cases h : (idx (ix2 e 0)).toInt = (r.val : Int)
  · simp [h]
  · simp [h]

end Rows

section Scalars

variable {N n : ℕ} (d : ScatterDims (shape1 N) (shape2 n 1) (shape1 n)) (hiw : d.insertedWindowDims = [0])
  (hsd : d.scatterDimsToOperandDims = [0]) (hivd : d.indexVectorDim = 1) (idx : IVec (shape2 n 1) 32)

include hiw hsd hivd

/-- Update `e` lands at `r` exactly when its index word, read signed, is `r`. -/
theorem lands1 (e : Fin n) (r : Fin N) : d.resultIdx? (ix1 e) idx = some (ix1 r) ↔ (idx (ix2 e 0)).toInt = (r.val : Int) := by
  have hm : (0 : Fin 1) ∈ d.scatterDimsToOperandDims := by rw [hsd]; exact List.mem_singleton.2 rfl
  have w0 : d.window (ix1 e) 0 = 0 := by
    unfold ScatterDims.window
    rw [dif_neg fun h => (of_decide_eq_true (List.mem_filter.1 h).2) (by rw [hiw]; exact List.mem_singleton.2 rfl)]
  have s0 : d.start (ix1 e) idx 0 = (idx (ix2 e 0)).toInt := by
    unfold ScatterDims.start
    rw [dif_pos hm]
    refine congrArg (fun z => (idx z).toInt) ?_
    funext b'
    apply Fin.ext
    match b' with
    | ⟨0, _⟩ =>
      unfold ScatterDims.siIdx
      rw [dif_neg (by rw [hivd]; exact Nat.zero_ne_one)]
      unfold ScatterDims.siCoord
      simp only [Fin.val_cast]
      exact congrArg (fun X => (ix1 e X).val) (Subsingleton.elim _ 0)
    | ⟨1, _⟩ =>
      unfold ScatterDims.siIdx
      rw [dif_pos (by rw [hivd])]
      show List.idxOf (0 : Fin 1) d.scatterDimsToOperandDims = 0
      rw [hsd]; simp
  rw [ix1_eq_valueIdx r, resultIdx?_ix1, s0, w0]
  constructor <;> intro h <;> omega

/-- The scatter of scalars at `r`: the start there plus the updates whose index word is `r`. -/
theorem scalars_apply (x : Vec Ideal (shape1 N) .f32) (upd : Vec Ideal (shape1 n) .f32) (r : Fin N) :
    (Host.scatterAdd (F := Ideal) (φ := .f32) d x idx upd) (ix1 r)
      = x (ix1 r) + ∑ e ∈ Finset.univ.filter (fun e : Fin n => (idx (ix2 e 0)).toInt = (r.val : Int)), upd (ix1 e) := by
  show x (ix1 r) + ∑ j ∈ Finset.univ.filter (fun j => d.resultIdx? j idx = some (ix1 r)), upd j = _
  congr 1
  rw [Finset.sum_filter, sum_idx1, Finset.sum_filter]
  exact Finset.sum_congr rfl fun e _ => by simp only [lands1 d hiw hsd hivd idx e r]

end Scalars

/-- A word read signed is a natural below 2³¹ exactly when read unsigned it is. -/
theorem toInt_eq_iff (w : BitVec 32) (n : ℕ) (h : n < 2 ^ 31) : w.toInt = (n : Int) ↔ w.toNat = n := by
  have := w.isLt
  rw [BitVec.toInt_eq_toNat_cond]
  split <;> omega

end Cert.Segment
-- ==== Proof.RefParts.lean ====
module

public import proofs.«01_k».proof.Proof.Gen.ReferenceIdeal.Run
public import proofs.«01_k».proof.Proof.Segment
public import proofs.«01_k».proof.Proof.Model
public import proofs.«01_k».proof.Proof.KernelIdeal.Payload

@[expose] public section

set_option maxRecDepth 16384

noncomputable section

namespace Cert.RefValue

open Cert.ReferenceIdeal Cert.ReferenceIdeal.Gen Cert.ReferenceIdeal.Value Idealize.ShloMosaic Idealize.ShloMosaic.TcCoe Idealize.ShloMosaic.Tactic

/-! # The reference's pieces read at an index -/

/-- One relation's mean: the masked messages summed into their destinations, over the mask's sums, at least one. -/
def meanOf (dst : IVec S800000 32) (msg : FVec Ideal S800000x96 .f32) (mask : FVec Ideal S800000 .f32) : FVec Ideal S50000x96 .f32 :=
  Host.divf (Host.scatterAdd scatter_S50000x96_S800000x1_S800000x96_1_0_0_1 (broadcastInDim S50000x96 ![] bcast_S_S50000x96 (constant S_ .f32 0x00000000#32))
      (broadcastInDim S800000x1 ![0] bcast_S800000_S800000x1_0 dst)
      (mulf (F := Ideal) (φ := .f32) msg (broadcastInDim S800000x96 ![0, 1] bcast_S800000x1_S800000x96_0_1 (broadcastInDim S800000x1 ![0] bcast_S800000_S800000x1_0 mask))))
    (broadcastInDim S50000x96 ![0, 1] bcast_S50000x1_S50000x96_0_1 (broadcastInDim S50000x1 ![0] bcast_S50000_S50000x1_0
      (maximumf (Host.scatterAdd scatter_S50000_S800000x1_S800000_n_0_0_1 (broadcastInDim S50000 ![] bcast_S_S50000 (constant S_ .f32 0x00000000#32))
          (broadcastInDim S800000x1 ![0] bcast_S800000_S800000x1_0 dst) mask)
        (broadcastInDim S50000 ![] bcast_S_S50000 (constant S_ .f32 0x3F800000#32)))))

theorem edgeCol_apply (dst : IVec S800000 32) (e : Fin 800000) :
    broadcastInDim S800000x1 ![0] bcast_S800000_S800000x1_0 dst (ix2 e 0) = dst (ix1 e) := by
  pointwise

theorem meanOf_apply (dst : IVec S800000 32) (msg : FVec Ideal S800000x96 .f32) (mask : FVec Ideal S800000 .f32)
    (n : Fin 50000) (o : Fin 96) :
    meanOf dst msg mask (ix2 n o)
      = Ideal.div (∑ e ∈ Finset.univ.filter (fun e => BitVec.toNat (dst (ix1 e)) = n.val), msg (ix2 e o) * mask (ix1 e))
          (max (∑ e ∈ Finset.univ.filter (fun e => BitVec.toNat (dst (ix1 e)) = n.val), mask (ix1 e)) 1) := by
  have hf : (Finset.univ.filter fun e : Fin 800000 => (broadcastInDim S800000x1 ![0] bcast_S800000_S800000x1_0 dst (ix2 e 0)).toInt = (n.val : Int))
      = Finset.univ.filter (fun e => BitVec.toNat (dst (ix1 e)) = n.val) := Finset.filter_congr fun e _ => by
    rw [edgeCol_apply]
    exact Segment.toInt_eq_iff _ _ (by omega)
  have h1 := Segment.rows_apply scatter_S50000x96_S800000x1_S800000x96_1_0_0_1 rfl rfl rfl rfl (broadcastInDim S800000x1 ![0] bcast_S800000_S800000x1_0 dst)
    (broadcastInDim S50000x96 ![] bcast_S_S50000x96 (constant (F := Ideal) S_ .f32 0x00000000#32))
    (mulf (F := Ideal) (φ := .f32) msg (broadcastInDim S800000x96 ![0, 1] bcast_S800000x1_S800000x96_0_1 (broadcastInDim S800000x1 ![0] bcast_S800000_S800000x1_0 mask))) n o
  have h2 := Segment.scalars_apply scatter_S50000_S800000x1_S800000_n_0_0_1 rfl rfl rfl (broadcastInDim S800000x1 ![0] bcast_S800000_S800000x1_0 dst)
    (broadcastInDim S50000 ![] bcast_S_S50000 (constant (F := Ideal) S_ .f32 0x00000000#32)) mask n
  rw [hf] at h1 h2
  unfold meanOf
  pointwise
  rw [h1, h2]
  pointwise

/-- A word below half the range passes the test for negative numbers unchanged. -/
theorem nodeIndex_apply (k : BitVec 32) (v : IVec S50000 32) (n : Fin 50000) (h : BitVec.toNat (v (ix1 n)) < 2 ^ 31) :
    broadcastInDim S50000x1 ![0] bcast_S50000_S50000x1_0 (select (cmpi .slt v (broadcastInDim S50000 ![] bcast_S_S50000 (constantI S_ 32 0#32)))
      (addi v (broadcastInDim S50000 ![] bcast_S_S50000 (constantI S_ 32 k))) v) (ix2 n 0) = v (ix1 n) := by
  pointwise
  exact Routing.wrap_of_lt _ _ h

theorem edgeIndex_apply (k : BitVec 32) (v : IVec S800000 32) (n : Fin 800000) (h : BitVec.toNat (v (ix1 n)) < 2 ^ 31) :
    broadcastInDim S800000x1 ![0] bcast_S800000_S800000x1_0 (select (cmpi .slt v (broadcastInDim S800000 ![] bcast_S_S800000 (constantI S_ 32 0#32)))
      (addi v (broadcastInDim S800000 ![] bcast_S_S800000 (constantI S_ 32 k))) v) (ix2 n 0) = v (ix1 n) := by
  pointwise
  exact Routing.wrap_of_lt _ _ h

/-- Three tables' columns side by side. -/
theorem columns_apply (a b p : FVec Ideal S50000x24 .f32) (n : Fin 50000) (j : Fin 72) :
    concatenate S50000x72 1 [⟨S50000x24, a⟩, ⟨S50000x24, b⟩, ⟨S50000x24, p⟩] concatenates_S50000x24_S50000x24_S50000x24_S50000x72_d1 (ix2 n j)
      = if h1 : j.val < 24 then a (ix2 n ⟨j.val, h1⟩) else if h2 : j.val < 48 then b (ix2 n ⟨j.val - 24, by omega⟩) else p (ix2 n ⟨j.val - 48, by omega⟩) := by
  by_cases h1 : j.val < 24
  · rw [dif_pos h1]
    pointwise
    rw [dif_pos h1]
  by_cases h2 : j.val < 48
  · rw [dif_neg h1, dif_pos h2]
    pointwise
    rw [dif_neg h1, dif_pos (show j.val - 24 < 24 by omega)]
  · rw [dif_neg h1, dif_neg h2]
    pointwise
    rw [dif_neg h1, dif_neg (show ¬ j.val - 24 < 24 by omega)]
    exact congrArg (fun k => p (ix2 n k)) (Fin.ext (show j.val - 24 - 24 = j.val - 48 by omega))

variable (V0 : Valuation τ sig (Elt Ideal))

theorem feature0 (n : Fin 50000) : res_main_v1 V0 (ix1 n) = (V0 (Proc.devRef .tc main_arg0) : IVec S50000x3 32) (ix2 n 0) := by
  unfold res_main_v1
  pointwise
theorem feature1 (n : Fin 50000) : res_main_v10 V0 (ix1 n) = (V0 (Proc.devRef .tc main_arg0) : IVec S50000x3 32) (ix2 n 1) := by
  unfold res_main_v10
  pointwise
theorem feature2 (n : Fin 50000) (h : BitVec.toNat ((V0 (Proc.devRef .tc main_arg0) : IVec S50000x3 32) (ix2 n 2)) < 8) :
    res_main_v21 V0 (ix1 n) = (V0 (Proc.devRef .tc main_arg0) : IVec S50000x3 32) (ix2 n 2) := by
  unfold res_main_v21
  pointwise
  exact Cert.KernelIdeal.Gen.min_small _ h
theorem ends0 (e : Fin 800000) : res_main_v31 V0 (ix1 e) = (V0 (Proc.devRef .tc main_arg1) : IVec S2x800000 32) (ix2 0 e) := by
  unfold res_main_v31
  pointwise
theorem ends1 (e : Fin 800000) : res_main_v33 V0 (ix1 e) = (V0 (Proc.devRef .tc main_arg1) : IVec S2x800000 32) (ix2 1 e) := by
  unfold res_main_v33
  pointwise

/-- Whether an edge's type is the relation, as a number. -/
theorem mask_apply (ty : IVec S800000 32) (r : BitVec 32) (e : Fin 800000) :
    (uitofp .f32 (cmpi .eq ty (broadcastInDim S800000 ![] bcast_S_S800000 (constantI S_ 32 r))) : FVec Ideal S800000 .f32) (ix1 e)
      = if ty (ix1 e) = r then 1 else 0 := by
  pointwise
  by_cases h : ty (ix1 e) = r
  · simp [FloatOps.uitofp, IntOp.cmpi, h]
  · simp [FloatOps.uitofp, IntOp.cmpi, h, beq_eq_false_iff_ne.2 h]

/-- A word is the word of its own number. -/
theorem word_self (u : BitVec 32) : BitVec.ofNat 32 u.toNat = u := by simp

/-- A column of a table at the row a word names. -/
theorem table8_apply (x : FVec Ideal S8x24 .f32) (v : IVec S50000 32) (n : Fin 50000) (j : Fin 24) (u : BitVec 32) (e : v (ix1 n) = u) (hu : u.toNat < 8) :
    Host.gather gather_S8x24_S50000x1_S50000x24_1_0_n_n_0_1_124 x (broadcastInDim S50000x1 ![0] bcast_S50000_S50000x1_0
      (select (cmpi .slt v (broadcastInDim S50000 ![] bcast_S_S50000 (constantI S_ 32 0#32)))
        (addi v (broadcastInDim S50000 ![] bcast_S_S50000 (constantI S_ 32 8#32))) v)) (ix2 n j) = x (ix2 ⟨u.toNat, hu⟩ j) := by
  subst e
  exact Routing.gather_row gather_S8x24_S50000x1_S50000x24_1_0_n_n_0_1_124 rfl rfl rfl rfl rfl x _ n j ⟨_, hu⟩
    ((nodeIndex_apply 8#32 v n (by omega)).trans ((word_self _).symm)) (by decide)

theorem table25_apply (x : FVec Ideal S25x24 .f32) (v : IVec S50000 32) (n : Fin 50000) (j : Fin 24) (u : BitVec 32) (e : v (ix1 n) = u) (hu : u.toNat < 25) :
    Host.gather gather_S25x24_S50000x1_S50000x24_1_0_n_n_0_1_124 x (broadcastInDim S50000x1 ![0] bcast_S50000_S50000x1_0
      (select (cmpi .slt v (broadcastInDim S50000 ![] bcast_S_S50000 (constantI S_ 32 0#32)))
        (addi v (broadcastInDim S50000 ![] bcast_S_S50000 (constantI S_ 32 25#32))) v)) (ix2 n j) = x (ix2 ⟨u.toNat, hu⟩ j) := by
  subst e
  exact Routing.gather_row gather_S25x24_S50000x1_S50000x24_1_0_n_n_0_1_124 rfl rfl rfl rfl rfl x _ n j ⟨_, hu⟩
    ((nodeIndex_apply 25#32 v n (by omega)).trans ((word_self _).symm)) (by decide)

/-- The rows of an array that edges' words name. -/
theorem rows72_apply (x : FVec Ideal S50000x72 .f32) (v : IVec S800000 32) (e : Fin 800000) (k : Fin 72) (u : BitVec 32) (h : v (ix1 e) = u) (hu : u.toNat < 50000) :
    Host.gather gather_S50000x72_S800000x1_S800000x72_1_0_n_n_0_1_172 x (broadcastInDim S800000x1 ![0] bcast_S800000_S800000x1_0
      (select (cmpi .slt v (broadcastInDim S800000 ![] bcast_S_S800000 (constantI S_ 32 0#32)))
        (addi v (broadcastInDim S800000 ![] bcast_S_S800000 (constantI S_ 32 50000#32))) v)) (ix2 e k) = x (ix2 ⟨u.toNat, hu⟩ k) := by
  subst h
  exact Routing.gather_row gather_S50000x72_S800000x1_S800000x72_1_0_n_n_0_1_172 rfl rfl rfl rfl rfl x _ e k ⟨_, hu⟩
    ((edgeIndex_apply 50000#32 v e (by omega)).trans ((word_self _).symm)) (by decide)

theorem rows96_apply (x : FVec Ideal S50000x96 .f32) (v : IVec S800000 32) (e : Fin 800000) (k : Fin 96) (u : BitVec 32) (h : v (ix1 e) = u) (hu : u.toNat < 50000) :
    Host.gather gather_S50000x96_S800000x1_S800000x96_1_0_n_n_0_1_196 x (broadcastInDim S800000x1 ![0] bcast_S800000_S800000x1_0
      (select (cmpi .slt v (broadcastInDim S800000 ![] bcast_S_S800000 (constantI S_ 32 0#32)))
        (addi v (broadcastInDim S800000 ![] bcast_S_S800000 (constantI S_ 32 50000#32))) v)) (ix2 e k) = x (ix2 ⟨u.toNat, hu⟩ k) := by
  subst h
  exact Routing.gather_row gather_S50000x96_S800000x1_S800000x96_1_0_n_n_0_1_196 rfl rfl rfl rfl rfl x _ e k ⟨_, hu⟩
    ((edgeIndex_apply 50000#32 v e (by omega)).trans ((word_self _).symm)) (by decide)

/-- One relation's weights, cut out of the weights of all relations. -/
theorem weights72_apply (off : Fin 3 → ℕ) (hs : S3x72x96.Slices off S1x72x96) (w : FVec Ideal S3x72x96 .f32) (r : Fin 3) (h0 : off 0 = r) (h1 : off 1 = 0)
    (h2 : off 2 = 0) (k : Fin 72) (o : Fin 96) :
    shapeCast S72x96 (extractStridedSlice S1x72x96 off w hs) shapeCasts_S1x72x96_S72x96 (ix2 k o) = w (ix3 r k o) := by
  pointwise
  congr 1
  funext d
  match d with
  | ⟨0, _⟩ => exact Fin.ext h0
  | ⟨1, _⟩ => exact Fin.ext (by show off 1 + k.val = k.val; omega)
  | ⟨2, _⟩ => exact Fin.ext (by show off 2 + o.val = o.val; omega)

theorem weights96_apply (off : Fin 3 → ℕ) (hs : S3x96x96.Slices off S1x96x96) (w : FVec Ideal S3x96x96 .f32) (r : Fin 3) (h0 : off 0 = r) (h1 : off 1 = 0)
    (h2 : off 2 = 0) (k : Fin 96) (o : Fin 96) :
    shapeCast S96x96 (extractStridedSlice S1x96x96 off w hs) shapeCasts_S1x96x96_S96x96 (ix2 k o) = w (ix3 r k o) := by
  pointwise
  congr 1
  funext d
  match d with
  | ⟨0, _⟩ => exact Fin.ext h0
  | ⟨1, _⟩ => exact Fin.ext (by show off 1 + k.val = k.val; omega)
  | ⟨2, _⟩ => exact Fin.ext (by show off 2 + o.val = o.val; omega)

/-! The products with a matrix, read at an index. -/

theorem nodeDot72_apply (x : FVec Ideal S50000x72 .f32) (w : FVec Ideal S72x96 .f32) (n : Fin 50000) (o : Fin 96) :
    Host.dotGeneral dot_S50000x72_S72x96_S50000x96_1_0_0_1_n_n none x w (ix2 n o) = ∑ k : Fin 72, x (ix2 n k) * w (ix2 k o) := by
  pointwise
theorem nodeDot96_apply (x : FVec Ideal S50000x96 .f32) (w : FVec Ideal S96x96 .f32) (n : Fin 50000) (o : Fin 96) :
    Host.dotGeneral dot_S50000x96_S96x96_S50000x96_1_0_0_1_n_n none x w (ix2 n o) = ∑ k : Fin 96, x (ix2 n k) * w (ix2 k o) := by
  pointwise
theorem edgeDot72_apply (x : FVec Ideal S800000x72 .f32) (w : FVec Ideal S72x96 .f32) (n : Fin 800000) (o : Fin 96) :
    Host.dotGeneral dot_S800000x72_S72x96_S800000x96_1_0_0_1_n_n none x w (ix2 n o) = ∑ k : Fin 72, x (ix2 n k) * w (ix2 k o) := by
  pointwise
theorem edgeDot96_apply (x : FVec Ideal S800000x96 .f32) (w : FVec Ideal S96x96 .f32) (n : Fin 800000) (o : Fin 96) :
    Host.dotGeneral dot_S800000x96_S96x96_S800000x96_1_0_0_1_n_n none x w (ix2 n o) = ∑ k : Fin 96, x (ix2 n k) * w (ix2 k o) := by
  pointwise

/-- A layer's array from its root part, its bias and its three relations' means. -/
def combine (root : FVec Ideal S50000x96 .f32) (b : FVec Ideal S96 .f32) (p0 p1 p2 : FVec Ideal S50000x96 .f32) : FVec Ideal S50000x96 .f32 :=
  maximumf (addf (addf (addf (addf root (broadcastInDim S50000x96 ![0, 1] bcast_S1x96_S50000x96_0_1 (broadcastInDim S1x96 ![1] bcast_S96_S1x96_1 b))) p0) p1) p2)
    (broadcastInDim S50000x96 ![] bcast_S_S50000x96 (constant S_ .f32 0x00000000#32))

theorem combine_apply (root : FVec Ideal S50000x96 .f32) (b : FVec Ideal S96 .f32) (p0 p1 p2 : FVec Ideal S50000x96 .f32) (n : Fin 50000) (o : Fin 96) :
    combine root b p0 p1 p2 (ix2 n o) = max (root (ix2 n o) + b (ix1 o) + p0 (ix2 n o) + p1 (ix2 n o) + p2 (ix2 n o)) 0 := by
  pointwise [combine]

/-- The mean of the messages of one relation is the model's. -/
theorem part_apply {K : ℕ} (ed : Fin 2 → Fin 800000 → BitVec 32) (ty : Fin 800000 → BitVec 32) (hE : ∀ i e, (ed i e).toNat < 50000)
    (h : Fin 50000 → Fin K → EReal) (w : Fin 3 → Fin K → Fin 96 → EReal) (r : Fin 3) (dst : IVec S800000 32) (msg : FVec Ideal S800000x96 .f32)
    (mask : FVec Ideal S800000 .f32) (hd : ∀ e, dst (ix1 e) = ed 1 e) (hm : ∀ e o, msg (ix2 e o) = ∑ k, h (Model.source ed hE e) k * w r k o)
    (hk : ∀ e, mask (ix1 e) = if ty e = BitVec.ofNat 32 r.val then 1 else 0) (n : Fin 50000) (o : Fin 96) :
    meanOf dst msg mask (ix2 n o) = Model.meanPart ed ty hE h w r n o := by
  have key : ∀ f : Fin 800000 → EReal, (∑ e ∈ Finset.univ.filter (fun e => BitVec.toNat (ed 1 e) = n.val), f e * (if ty e = BitVec.ofNat 32 r.val then 1 else 0))
      = ∑ e ∈ Model.into ed ty r.val n.val, f e := fun f => by
    unfold Model.into
    rw [Finset.sum_filter, Finset.sum_filter]
    refine Finset.sum_congr rfl fun e _ => ?_
    by_cases h1 : ty e = BitVec.ofNat 32 r.val <;> by_cases h2 : BitVec.toNat (ed 1 e) = n.val <;> simp [h1, h2]
  rw [meanOf_apply dst]
  simp only [hd, hm, hk]
  rw [key]
  have kc := key fun _ => 1
  simp only [one_mul] at kc
  rw [kc]
  rfl

end Cert.RefValue

end
-- ==== Proof.RefValue.lean ====
module

public import proofs.«01_k».proof.Proof.RefParts

@[expose] public section

set_option maxRecDepth 16384

noncomputable section

namespace Cert.RefValue

open Cert.ReferenceIdeal Cert.ReferenceIdeal.Gen Cert.ReferenceIdeal.Value Idealize.ShloMosaic Idealize.ShloMosaic.TcCoe Idealize.ShloMosaic.Tactic

/-! # The reference's result as the model's scores -/

/-- The mean of the second layer's rows over each graph. -/
def poolOf (bt : IVec S50000 32) (h : FVec Ideal S50000x96 .f32) : FVec Ideal S512x96 .f32 :=
  Host.divf (Host.scatterAdd scatter_S512x96_S50000x1_S50000x96_1_0_0_1 (broadcastInDim S512x96 ![] bcast_S_S512x96 (constant S_ .f32 0x00000000#32))
      (broadcastInDim S50000x1 ![0] bcast_S50000_S50000x1_0 bt) h)
    (broadcastInDim S512x96 ![0, 1] bcast_S512x1_S512x96_0_1 (broadcastInDim S512x1 ![0] bcast_S512_S512x1_0
      (maximumf (Host.scatterAdd scatter_S512_S50000x1_S50000_n_0_0_1 (broadcastInDim S512 ![] bcast_S_S512 (constant S_ .f32 0x00000000#32))
          (broadcastInDim S50000x1 ![0] bcast_S50000_S50000x1_0 bt) (broadcastInDim S50000 ![] bcast_S_S50000 (constant S_ .f32 0x3F800000#32)))
        (broadcastInDim S512 ![] bcast_S_S512 (constant S_ .f32 0x3F800000#32)))))

theorem nodeCol_apply (bt : IVec S50000 32) (n : Fin 50000) : broadcastInDim S50000x1 ![0] bcast_S50000_S50000x1_0 bt (ix2 n 0) = bt (ix1 n) := by
  pointwise

theorem poolOf_apply (bt : IVec S50000 32) (h : FVec Ideal S50000x96 .f32) (g : Fin 512) (o : Fin 96) :
    poolOf bt h (ix2 g o) = Ideal.div (∑ n ∈ Model.members (fun n => bt (ix1 n)) g.val, h (ix2 n o))
      (max (Mean.count (Model.members (fun n => bt (ix1 n)) g.val)) 1) := by
  have hf : (Finset.univ.filter fun n : Fin 50000 => (broadcastInDim S50000x1 ![0] bcast_S50000_S50000x1_0 bt (ix2 n 0)).toInt = (g.val : Int))
      = Model.members (fun n => bt (ix1 n)) g.val := Finset.filter_congr fun n _ => by
    rw [nodeCol_apply]
    exact Segment.toInt_eq_iff _ _ (by omega)
  have h1 := Segment.rows_apply scatter_S512x96_S50000x1_S50000x96_1_0_0_1 rfl rfl rfl rfl (broadcastInDim S50000x1 ![0] bcast_S50000_S50000x1_0 bt)
    (broadcastInDim S512x96 ![] bcast_S_S512x96 (constant (F := Ideal) S_ .f32 0x00000000#32)) h g o
  have h2 := Segment.scalars_apply scatter_S512_S50000x1_S50000_n_0_0_1 rfl rfl rfl (broadcastInDim S50000x1 ![0] bcast_S50000_S50000x1_0 bt)
    (broadcastInDim S512 ![] bcast_S_S512 (constant (F := Ideal) S_ .f32 0x00000000#32))
    (broadcastInDim S50000 ![] bcast_S_S50000 (constant (F := Ideal) S_ .f32 0x3F800000#32)) g
  rw [hf] at h1 h2
  unfold poolOf
  pointwise
  rw [h1, h2]
  unfold Mean.count
  pointwise

theorem classes_apply (x : FVec Ideal S512x96 .f32) (w : FVec Ideal S96x16 .f32) (b : FVec Ideal S16 .f32) (g : Fin 512) (q : Fin 16) :
    addf (Host.dotGeneral dot_S512x96_S96x16_S512x16_1_0_0_1_n_n none x w)
      (broadcastInDim S512x16 ![0, 1] bcast_S1x16_S512x16_0_1 (broadcastInDim S1x16 ![1] bcast_S16_S1x16_1 b)) (ix2 g q)
      = ∑ k : Fin 96, x (ix2 g k) * w (ix2 k q) + b (ix1 q) := by
  pointwise

variable (V0 : Valuation τ sig (Elt Ideal))

/-! The arguments, as functions of their indices. -/

abbrev xOf : Fin 50000 → Fin 3 → BitVec 32 := fun n i => (V0 (Proc.devRef .tc main_arg0) : IVec S50000x3 32) (ix2 n i)
abbrev edOf : Fin 2 → Fin 800000 → BitVec 32 := fun i e => (V0 (Proc.devRef .tc main_arg1) : IVec S2x800000 32) (ix2 i e)
abbrev tyOf : Fin 800000 → BitVec 32 := fun e => (V0 (Proc.devRef .tc main_arg2) : IVec S800000 32) (ix1 e)
abbrev graphOf : Fin 50000 → BitVec 32 := fun n => (V0 (Proc.devRef .tc main_arg3) : IVec S50000 32) (ix1 n)
abbrev tabA : Fin 8 → Fin 24 → EReal := fun a b => (V0 (Proc.devRef .tc main_arg4) : FVec Ideal S8x24 .f32) (ix2 a b)
abbrev tabB : Fin 8 → Fin 24 → EReal := fun a b => (V0 (Proc.devRef .tc main_arg5) : FVec Ideal S8x24 .f32) (ix2 a b)
abbrev tabP : Fin 25 → Fin 24 → EReal := fun a b => (V0 (Proc.devRef .tc main_arg6) : FVec Ideal S25x24 .f32) (ix2 a b)
abbrev root1 : Fin 72 → Fin 96 → EReal := fun k o => (V0 (Proc.devRef .tc main_arg7) : FVec Ideal S72x96 .f32) (ix2 k o)
abbrev rel1 : Fin 3 → Fin 72 → Fin 96 → EReal := fun r k o => (V0 (Proc.devRef .tc main_arg8) : FVec Ideal S3x72x96 .f32) (ix3 r k o)
abbrev bias1 : Fin 96 → EReal := fun o => (V0 (Proc.devRef .tc main_arg9) : FVec Ideal S96 .f32) (ix1 o)
abbrev root2 : Fin 96 → Fin 96 → EReal := fun k o => (V0 (Proc.devRef .tc main_arg10) : FVec Ideal S96x96 .f32) (ix2 k o)
abbrev rel2 : Fin 3 → Fin 96 → Fin 96 → EReal := fun r k o => (V0 (Proc.devRef .tc main_arg11) : FVec Ideal S3x96x96 .f32) (ix3 r k o)
abbrev bias2 : Fin 96 → EReal := fun o => (V0 (Proc.devRef .tc main_arg12) : FVec Ideal S96 .f32) (ix1 o)
abbrev classW : Fin 96 → Fin 16 → EReal := fun k q => (V0 (Proc.devRef .tc main_arg13) : FVec Ideal S96x16 .f32) (ix2 k q)
abbrev classB : Fin 16 → EReal := fun q => (V0 (Proc.devRef .tc main_arg14) : FVec Ideal S16 .f32) (ix1 q)

variable (hX : ∀ n i, (xOf V0 n i).toNat < 8) (hE : ∀ (i : Fin 2) (e : Fin 800000), (edOf V0 i e).toNat < 50000)

abbrev feats0 : Fin 50000 → Fin 72 → EReal := Model.embedded (xOf V0) hX (tabA V0) (tabB V0) (tabP V0)
abbrev feats1 : Fin 50000 → Fin 96 → EReal := Model.layer (edOf V0) (tyOf V0) hE (feats0 V0 hX) (root1 V0) (rel1 V0) (bias1 V0)
abbrev feats2 : Fin 50000 → Fin 96 → EReal := Model.layer (edOf V0) (tyOf V0) hE (feats1 V0 hX hE) (root2 V0) (rel2 V0) (bias2 V0)

/-- The embedded features. -/
theorem embedded_apply (n : Fin 50000) (j : Fin 72) : res_main_v29 V0 (ix2 n j) = feats0 V0 hX n j := by
  unfold res_main_v29
  refine (columns_apply _ _ _ n j).trans ?_
  unfold feats0 Model.embedded
  refine dite_congr rfl (fun h1 => ?_) fun _ => dite_congr rfl (fun h2 => ?_) fun _ => ?_
  · exact table8_apply _ _ n _ _ (feature0 V0 n) (hX n 0)
  · exact table8_apply _ _ n _ _ (feature1 V0 n) (hX n 1)
  · exact table25_apply _ _ n _ _ (feature2 V0 n (hX n 2)) ((hX n 2).trans (by decide))

/-- The first layer's messages for one relation: the mapped source rows. -/
def messages1 (off : Fin 3 → ℕ) (hs : S3x72x96.Slices off S1x72x96) : FVec Ideal S800000x96 .f32 :=
  Host.dotGeneral (φ₁ := .f32) (φ₂ := .f32) dot_S800000x72_S72x96_S800000x96_1_0_0_1_n_n none (res_main_v44 V0)
    (shapeCast S72x96 (extractStridedSlice S1x72x96 off (V0 (Proc.devRef .tc main_arg8) : FVec Ideal S3x72x96 .f32) hs) shapeCasts_S1x72x96_S72x96)

theorem messages1_apply (off : Fin 3 → ℕ) (hs : S3x72x96.Slices off S1x72x96) (r : Fin 3) (h0 : off 0 = r) (h1 : off 1 = 0) (h2 : off 2 = 0)
    (e : Fin 800000) (o : Fin 96) : messages1 V0 off hs (ix2 e o) = ∑ k, feats0 V0 hX (Model.source (edOf V0) hE e) k * rel1 V0 r k o := by
  unfold messages1
  rw [edgeDot72_apply]
  refine Finset.sum_congr rfl fun k _ => ?_
  rw [weights72_apply off hs _ r h0 h1 h2]
  refine congrArg (· * _) ?_
  unfold res_main_v44
  exact (rows72_apply _ _ e k _ (ends0 V0 e) (hE 0 e)).trans (embedded_apply V0 hX _ k)

/-- The first layer. -/
theorem layer1_apply (n : Fin 50000) (o : Fin 96) : res_main_v108 V0 (ix2 n o) = feats1 V0 hX hE n o := by
  have e : res_main_v108 V0 = combine
      (Host.dotGeneral (φ₁ := .f32) (φ₂ := .f32) dot_S50000x72_S72x96_S50000x96_1_0_0_1_n_n none (res_main_v29 V0) (V0 (Proc.devRef .tc main_arg7)))
      (V0 (Proc.devRef .tc main_arg9)) (meanOf (res_main_v33 V0) (messages1 V0 ![0, 0, 0] slices_S3x72x96_S1x72x96_0_0_0) (res_main_v47 V0))
      (meanOf (res_main_v33 V0) (messages1 V0 ![1, 0, 0] slices_S3x72x96_S1x72x96_1_0_0) (res_main_v68 V0))
      (meanOf (res_main_v33 V0) (messages1 V0 ![2, 0, 0] slices_S3x72x96_S1x72x96_2_0_0) (res_main_v89 V0)) := by
    unfold res_main_v108 combine meanOf messages1
    rfl
  rw [e, combine_apply, nodeDot72_apply,
    part_apply (edOf V0) (tyOf V0) hE (feats0 V0 hX) (rel1 V0) 0 _ _ (res_main_v47 V0) (ends1 V0) (messages1_apply V0 hX hE ![0, 0, 0] _ 0 rfl rfl rfl) (mask_apply _ 0#32),
    part_apply (edOf V0) (tyOf V0) hE (feats0 V0 hX) (rel1 V0) 1 _ _ (res_main_v68 V0) (ends1 V0) (messages1_apply V0 hX hE ![1, 0, 0] _ 1 rfl rfl rfl) (mask_apply _ 1#32),
    part_apply (edOf V0) (tyOf V0) hE (feats0 V0 hX) (rel1 V0) 2 _ _ (res_main_v89 V0) (ends1 V0) (messages1_apply V0 hX hE ![2, 0, 0] _ 2 rfl rfl rfl) (mask_apply _ 2#32)]
  simp only [embedded_apply V0 hX]
  rfl

/-- The second layer's messages for one relation: the mapped source rows. -/
def messages2 (off : Fin 3 → ℕ) (hs : S3x96x96.Slices off S1x96x96) : FVec Ideal S800000x96 .f32 :=
  Host.dotGeneral (φ₁ := .f32) (φ₂ := .f32) dot_S800000x96_S96x96_S800000x96_1_0_0_1_n_n none (res_main_v119 V0)
    (shapeCast S96x96 (extractStridedSlice S1x96x96 off (V0 (Proc.devRef .tc main_arg11) : FVec Ideal S3x96x96 .f32) hs) shapeCasts_S1x96x96_S96x96)

theorem messages2_apply (off : Fin 3 → ℕ) (hs : S3x96x96.Slices off S1x96x96) (r : Fin 3) (h0 : off 0 = r) (h1 : off 1 = 0) (h2 : off 2 = 0)
    (e : Fin 800000) (o : Fin 96) : messages2 V0 off hs (ix2 e o) = ∑ k, feats1 V0 hX hE (Model.source (edOf V0) hE e) k * rel2 V0 r k o := by
  unfold messages2
  rw [edgeDot96_apply]
  refine Finset.sum_congr rfl fun k _ => ?_
  rw [weights96_apply off hs _ r h0 h1 h2]
  refine congrArg (· * _) ?_
  unfold res_main_v119
  exact (rows96_apply _ _ e k _ (ends0 V0 e) (hE 0 e)).trans (layer1_apply V0 hX hE _ k)

/-- The second layer's array. -/
def second : FVec Ideal S50000x96 .f32 :=
  combine (Host.dotGeneral (φ₁ := .f32) (φ₂ := .f32) dot_S50000x96_S96x96_S50000x96_1_0_0_1_n_n none (res_main_v108 V0) (V0 (Proc.devRef .tc main_arg10)))
    (V0 (Proc.devRef .tc main_arg12)) (meanOf (res_main_v33 V0) (messages2 V0 ![0, 0, 0] slices_S3x96x96_S1x96x96_0_0_0) (res_main_v122 V0))
    (meanOf (res_main_v33 V0) (messages2 V0 ![1, 0, 0] slices_S3x96x96_S1x96x96_1_0_0) (res_main_v143 V0))
    (meanOf (res_main_v33 V0) (messages2 V0 ![2, 0, 0] slices_S3x96x96_S1x96x96_2_0_0) (res_main_v164 V0))

/-- The second layer. -/
theorem second_apply (n : Fin 50000) (o : Fin 96) : second V0 (ix2 n o) = feats2 V0 hX hE n o := by
  unfold second
  rw [combine_apply, nodeDot96_apply,
    part_apply (edOf V0) (tyOf V0) hE (feats1 V0 hX hE) (rel2 V0) 0 _ _ (res_main_v122 V0) (ends1 V0) (messages2_apply V0 hX hE ![0, 0, 0] _ 0 rfl rfl rfl) (mask_apply _ 0#32),
    part_apply (edOf V0) (tyOf V0) hE (feats1 V0 hX hE) (rel2 V0) 1 _ _ (res_main_v143 V0) (ends1 V0) (messages2_apply V0 hX hE ![1, 0, 0] _ 1 rfl rfl rfl) (mask_apply _ 1#32),
    part_apply (edOf V0) (tyOf V0) hE (feats1 V0 hX hE) (rel2 V0) 2 _ _ (res_main_v164 V0) (ends1 V0) (messages2_apply V0 hX hE ![2, 0, 0] _ 2 rfl rfl rfl) (mask_apply _ 2#32)]
  simp only [layer1_apply V0 hX hE]
  rfl

/-- The reference's result, read at a graph and a class. -/
theorem result_apply (g : Fin 512) (q : Fin 16) :
    (addf (Host.dotGeneral (φ₁ := .f32) (φ₂ := .f32) dot_S512x96_S96x16_S512x16_1_0_0_1_n_n none (res_main_v195 V0) (V0 (Proc.devRef .tc main_arg13)))
      (broadcastInDim S512x16 ![0, 1] bcast_S1x16_S512x16_0_1 (broadcastInDim S1x16 ![1] bcast_S16_S1x16_1 (V0 (Proc.devRef .tc main_arg14)))) : FVec Ideal S512x16 .f32)
        (ix2 g q)
      = Model.scores (graphOf V0) (feats2 V0 hX hE) (classW V0) (classB V0) g q := by
  have e : res_main_v195 V0 = poolOf (V0 (Proc.devRef .tc main_arg3)) (second V0) := by
    unfold res_main_v195 poolOf second combine meanOf messages2
    rfl
  rw [e, classes_apply]
  simp only [poolOf_apply (V0 (Proc.devRef .tc main_arg3)), second_apply V0 hX hE]
  rfl

end Cert.RefValue

end
-- ==== Proof.Algebraic.lean ====
module

public import proofs.«01_k».proof.Defs
public import proofs.«01_k».proof.Proof.GraphRange
public import proofs.«01_k».proof.Proof.KernelIdeal.PoolValue
public import proofs.«01_k».proof.Proof.RefValue
public import Idealize.ShloMosaic.Adequacy
public import Idealize.ShloMosaic.Init

@[expose] public section

set_option maxRecDepth 16384

noncomputable section

namespace Cert.Algebraic

open Idealize.ShloMosaic Idealize.SL.Sem Idealize.ShloMosaic.Tactic

/-! # The kernel's result is the reference's -/

/-- The shape facts the precondition of the value claim takes. -/
theorem graphFacts : Cert.Pre_graph_in_range.Facts where
  bcast_S_S2x800000 := by decide
  reducesTo_S2x800000_S_d0_1 := by decide
  h_S_ := by decide
  bcast_S_S50000x3 := by decide
  reducesTo_S50000x3_S_d0_1 := by decide
  bcast_S_S8x24 := by decide
  reducesTo_S8x24_S_d0_1 := by decide
  bcast_S_S25x24 := by decide
  reducesTo_S25x24_S_d0_1 := by decide
  bcast_S_S3x72x96 := by decide
  reducesTo_S3x72x96_S_d0_1_2 := by decide

/-- Two layers with the sums mapped give the features of two layers with the mapped rows averaged, when the embeddings and the
first layer's relation weights are finite. -/
theorem layers_agree (x : Fin 50000 → Fin 3 → BitVec 32) (hx : ∀ n i, (x n i).toNat < 8) (ed : Fin 2 → Fin 800000 → BitVec 32) (ty : Fin 800000 → BitVec 32)
    (hE : ∀ i e, (ed i e).toNat < 50000) (a b : Fin 8 → Fin 24 → EReal) (p : Fin 25 → Fin 24 → EReal)
    (ha : ∀ i j, a i j ≠ ⊤ ∧ a i j ≠ ⊥) (hb : ∀ i j, b i j ≠ ⊤ ∧ b i j ≠ ⊥) (hp : ∀ i j, p i j ≠ ⊤ ∧ p i j ≠ ⊥)
    (r1 : Fin 72 → Fin 96 → EReal) (w1 : Fin 3 → Fin 72 → Fin 96 → EReal) (b1 : Fin 96 → EReal) (hw : ∀ r k o, w1 r k o ≠ ⊤ ∧ w1 r k o ≠ ⊥)
    (r2 : Fin 96 → Fin 96 → EReal) (w2 : Fin 3 → Fin 96 → Fin 96 → EReal) (b2 : Fin 96 → EReal) :
    Model.layerScaled ed ty hE (Model.layerScaled ed ty hE (Model.embedded x hx a b p) r1 w1 b1) r2 w2 b2
      = Model.layer ed ty hE (Model.layer ed ty hE (Model.embedded x hx a b p) r1 w1 b1) r2 w2 b2 := by
  rw [Model.layerScaled_of_finite _ _ _ _ _ _ _ (Model.embedded_finite x hx a b p ha hb hp) hw,
    Model.layerScaled_of_nonneg _ _ _ _ _ _ _ (Model.layer_nonneg _ _ _ _ _ _ _)]

open Cert.KernelIdeal.Gen in
/-- The reference's scores are the kernel's when the reference's arguments are the kernel's, in range, with finite embeddings and
finite relation weights in the first layer. -/
theorem scores_agree (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (e0 : RefValue.xOf V = xOf m c) (e1 : RefValue.edOf V = edOf m c) (e2 : RefValue.tyOf V = tyOf m c) (e3 : RefValue.graphOf V = graphOf m c)
    (e4 : RefValue.tabA V = tabA m c) (e5 : RefValue.tabB V = tabB m c) (e6 : RefValue.tabP V = tabP m c)
    (e7 : RefValue.root1 V = root1 m c) (e8 : RefValue.rel1 V = rel1 m c) (e9 : RefValue.bias1 V = bias1 m c)
    (e10 : RefValue.root2 V = root2 m c) (e11 : RefValue.rel2 V = rel2 m c) (e12 : RefValue.bias2 V = bias2 m c)
    (e13 : RefValue.classW V = classW m c) (e14 : RefValue.classB V = classB m c)
    (hX : ∀ n i, (xOf m c n i).toNat < 8) (hE : ∀ (i : Fin 2) (e : Fin 800000), (edOf m c i e).toNat < 50000)
    (hX' : ∀ n i, (RefValue.xOf V n i).toNat < 8) (hE' : ∀ (i : Fin 2) (e : Fin 800000), (RefValue.edOf V i e).toNat < 50000)
    (ha : ∀ i j, tabA m c i j ≠ ⊤ ∧ tabA m c i j ≠ ⊥) (hb : ∀ i j, tabB m c i j ≠ ⊤ ∧ tabB m c i j ≠ ⊥)
    (hp : ∀ i j, tabP m c i j ≠ ⊤ ∧ tabP m c i j ≠ ⊥) (hw : ∀ r k o, rel1 m c r k o ≠ ⊤ ∧ rel1 m c r k o ≠ ⊥) :
    Model.scores (RefValue.graphOf V) (RefValue.feats2 V hX' hE') (RefValue.classW V) (RefValue.classB V)
      = Model.scores (graphOf m c) (feats2 m c hX hE) (classW m c) (classB m c) := by
  have k : ∀ x hx ed hd, x = xOf m c → ed = edOf m c →
      Model.layer ed (tyOf m c) hd (Model.layer ed (tyOf m c) hd (Model.embedded x hx (tabA m c) (tabB m c) (tabP m c)) (root1 m c) (rel1 m c) (bias1 m c))
        (root2 m c) (rel2 m c) (bias2 m c) = feats2 m c hX hE := by
    rintro x hx ed hd rfl rfl
    exact (layers_agree _ hX _ _ hE _ _ _ ha hb hp _ _ _ hw _ _ _).symm
  have e : RefValue.feats2 V hX' hE' = feats2 m c hX hE := by
    rw [← k _ hX' _ hE' e0 e1, ← e2, ← e4, ← e5, ← e6, ← e7, ← e8, ← e9, ← e10, ← e11, ← e12]
  rw [e, e3, e13, e14]

/-- From arguments in range, with finite embeddings and finite relation weights in the first layer, the kernel over the extended
reals and the reference both end with the same class scores and their arguments unchanged. -/
theorem algebraic : Cert.algebraic_KernelIdeal_ReferenceIdeal_pre_graph_in_range (hKernelIdeal := Cert.KernelIdeal.Gen.facts)
    (hReferenceIdeal := Cert.ReferenceIdeal.Gen.facts) (hPre_graph_in_range := graphFacts) := by
  haveI := graphFacts
  intro m g m' g' hpre hargs
  have hw := Cert.KernelIdeal.Gen.wordsOk m g fun c i e => (Cert.Ranges.graph (hpre c)).1 _
  refine ⟨fun c => Cert.KernelIdeal.Gen.W24 m g c (Proc.devRef .tc Cert.KernelIdeal.main_v62_2), ?_, ?_⟩
  · exact (θ_run _ _ _).mono (fun _ h c => ⟨h.1 c _ (Cert.KernelIdeal.Gen.mem_uc Cert.KernelIdeal.main_v62_2 (by decide)),
      (h.1 c _ (Cert.KernelIdeal.Gen.mem_uc Cert.KernelIdeal.main_arg0 (by decide))).trans (Cert.KernelIdeal.Gen.W24_main_arg0 m g c),
      (h.1 c _ (Cert.KernelIdeal.Gen.mem_uc Cert.KernelIdeal.main_arg1 (by decide))).trans (Cert.KernelIdeal.Gen.W24_main_arg1 m g c),
      (h.1 c _ (Cert.KernelIdeal.Gen.mem_uc Cert.KernelIdeal.main_arg2 (by decide))).trans (Cert.KernelIdeal.Gen.W24_main_arg2 m g c),
      (h.1 c _ (Cert.KernelIdeal.Gen.mem_uc Cert.KernelIdeal.main_arg3 (by decide))).trans (Cert.KernelIdeal.Gen.W24_main_arg3 m g c),
      (h.1 c _ (Cert.KernelIdeal.Gen.mem_uc Cert.KernelIdeal.main_arg4 (by decide))).trans (Cert.KernelIdeal.Gen.W24_main_arg4 m g c),
      (h.1 c _ (Cert.KernelIdeal.Gen.mem_uc Cert.KernelIdeal.main_arg5 (by decide))).trans (Cert.KernelIdeal.Gen.W24_main_arg5 m g c),
      (h.1 c _ (Cert.KernelIdeal.Gen.mem_uc Cert.KernelIdeal.main_arg6 (by decide))).trans (Cert.KernelIdeal.Gen.W24_main_arg6 m g c),
      (h.1 c _ (Cert.KernelIdeal.Gen.mem_uc Cert.KernelIdeal.main_arg7 (by decide))).trans (Cert.KernelIdeal.Gen.W24_main_arg7 m g c),
      (h.1 c _ (Cert.KernelIdeal.Gen.mem_uc Cert.KernelIdeal.main_arg8 (by decide))).trans (Cert.KernelIdeal.Gen.W24_main_arg8 m g c),
      (h.1 c _ (Cert.KernelIdeal.Gen.mem_uc Cert.KernelIdeal.main_arg9 (by decide))).trans (Cert.KernelIdeal.Gen.W24_main_arg9 m g c),
      (h.1 c _ (Cert.KernelIdeal.Gen.mem_uc Cert.KernelIdeal.main_arg10 (by decide))).trans (Cert.KernelIdeal.Gen.W24_main_arg10 m g c),
      (h.1 c _ (Cert.KernelIdeal.Gen.mem_uc Cert.KernelIdeal.main_arg11 (by decide))).trans (Cert.KernelIdeal.Gen.W24_main_arg11 m g c),
      (h.1 c _ (Cert.KernelIdeal.Gen.mem_uc Cert.KernelIdeal.main_arg12 (by decide))).trans (Cert.KernelIdeal.Gen.W24_main_arg12 m g c),
      (h.1 c _ (Cert.KernelIdeal.Gen.mem_uc Cert.KernelIdeal.main_arg13 (by decide))).trans (Cert.KernelIdeal.Gen.W24_main_arg13 m g c),
      (h.1 c _ (Cert.KernelIdeal.Gen.mem_uc Cert.KernelIdeal.main_arg14 (by decide))).trans (Cert.KernelIdeal.Gen.W24_main_arg14 m g c)⟩)
      (Cert.KernelIdeal.Gen.run m g hw)
  · refine (θ_run _ _ _).mono (fun r h c => ⟨(h c).1.trans ?_, (h c).2⟩) (Cert.ReferenceIdeal.Value.run m' g')
    obtain ⟨e0, e1, e2, e3, e4, e5, e6, e7, e8, e9, e10, e11, e12, e13, e14⟩ := hargs c
    obtain ⟨r1, r0, r4, r5, r6, r8⟩ := Cert.Ranges.graph (hpre c)
    have x0 : RefValue.xOf (StableHlo.launchContents m' c) = Cert.KernelIdeal.Gen.xOf m c := funext fun n => funext fun i => congrFun e0 (ix2 n i)
    have x1 : RefValue.edOf (StableHlo.launchContents m' c) = Cert.KernelIdeal.Gen.edOf m c := funext fun i => funext fun e => congrFun e1 (ix2 i e)
    have x3 : RefValue.graphOf (StableHlo.launchContents m' c) = Cert.KernelIdeal.Gen.graphOf m c := funext fun n => congrFun e3 (ix1 n)
    have hX : ∀ n i, (Cert.KernelIdeal.Gen.xOf m c n i).toNat < 8 := fun n i => r0 _
    have hE : ∀ (i : Fin 2) (e : Fin 800000), (Cert.KernelIdeal.Gen.edOf m c i e).toNat < 50000 := fun i e => r1 _
    have hX' : ∀ n i, (RefValue.xOf (StableHlo.launchContents m' c) n i).toNat < 8 := fun n i => by rw [x0]; exact hX n i
    have hE' : ∀ (i : Fin 2) (e : Fin 800000), (RefValue.edOf (StableHlo.launchContents m' c) i e).toNat < 50000 := fun i e => by rw [x1]; exact hE i e
    show _ = Cert.KernelIdeal.Gen.W24 m g c (Proc.devRef .tc Cert.KernelIdeal.main_v62_2)
    rw [Cert.KernelIdeal.Gen.result_at24 m g c hX hE]
    refine funext fun (i : Cert.ReferenceIdeal.S512x16.Idx) => ?_
    idx_vars i
    refine (RefValue.result_apply (StableHlo.launchContents m' c) hX' hE' _ _).trans (congrFun (congrFun (scores_agree m c (StableHlo.launchContents m' c)
      x0 x1 (funext fun e => congrFun e2 (ix1 e)) x3 (funext fun i => funext fun j => congrFun e4 (ix2 i j))
      (funext fun i => funext fun j => congrFun e5 (ix2 i j)) (funext fun i => funext fun j => congrFun e6 (ix2 i j))
      (funext fun i => funext fun j => congrFun e7 (ix2 i j)) (funext fun r => funext fun i => funext fun j => congrFun e8 (ix3 r i j))
      (funext fun j => congrFun e9 (ix1 j)) (funext fun i => funext fun j => congrFun e10 (ix2 i j))
      (funext fun r => funext fun i => funext fun j => congrFun e11 (ix3 r i j)) (funext fun j => congrFun e12 (ix1 j))
      (funext fun i => funext fun j => congrFun e13 (ix2 i j)) (funext fun j => congrFun e14 (ix1 j))
      hX hE hX' hE' (fun i j => r4 _) (fun i j => r5 _) (fun i j => r6 _) fun r k o => r8 _) _) _)

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_edges_in_range
public import proofs.«01_k».proof.Proof.Kernel.HostRead
public import proofs.«01_k».proof.Proof.KernelIdeal.HostRead
public import proofs.«01_k».proof.Proof.Ranges
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel ends with its arguments unchanged and its semaphores at zero. -/
theorem frame_kernel : Cert.quiescent_Kernel (hKernel := Cert.Kernel.Gen.facts) (hPre_edges_in_range := Cert.Pre_edges_in_range.Gen.facts) :=
  fun m g h => Cert.Kernel.Gen.frame m g (Cert.Kernel.Gen.wordsOk m g fun c i e => Cert.Ranges.edges (h c) _)

/-- So does the kernel over the extended reals. -/
theorem frame_ideal : Cert.quiescent_KernelIdeal (hKernelIdeal := Cert.KernelIdeal.Gen.facts) (hPre_edges_in_range := Cert.Pre_edges_in_range.Gen.facts) :=
  fun m g h => Cert.KernelIdeal.Gen.frame m g (Cert.KernelIdeal.Gen.wordsOk m g fun c i e => Cert.Ranges.edges (h c) _)

/-- So does the reference over the extended reals. -/
theorem frame_reference : Cert.quiescent_ReferenceIdeal (hReferenceIdeal := Cert.ReferenceIdeal.Gen.facts) :=
  fun m g _ => (θ_run _ _ _).mono (fun r h => ⟨fun c => (h c).2, Idealize.ShloMosaic.sem_eq_zero_of_no_sems (by decide) r.2⟩)
    (Cert.ReferenceIdeal.Value.run m g)

/-- The kernel over the extended reals also ends so under the precondition of the value claim, which bounds the edge ends too. -/
theorem frame_ideal_graph : Cert.quiescent_KernelIdeal_pre_graph_in_range (hKernelIdeal := Cert.KernelIdeal.Gen.facts)
    (hPre_graph_in_range := Cert.Algebraic.graphFacts) :=
  haveI := Cert.Algebraic.graphFacts
  fun m g h => Cert.KernelIdeal.Gen.frame m g (Cert.KernelIdeal.Gen.wordsOk m g fun c i e => (Cert.Ranges.graph (h c)).1 _)

/-- And so does the reference, which needs no precondition. -/
theorem frame_reference_graph : Cert.quiescent_ReferenceIdeal_pre_graph_in_range (hReferenceIdeal := Cert.ReferenceIdeal.Gen.facts)
    (hPre_graph_in_range := Cert.Algebraic.graphFacts) :=
  fun m g _ => frame_reference m g trivial

/-- Every claim made of the kernel. -/
theorem claim : Cert.Claim := ⟨Cert.Kernel.Gen.facts, Cert.KernelIdeal.Gen.facts, Cert.ReferenceIdeal.Gen.facts, Cert.Pre_edges_in_range.Gen.facts,
  Cert.Algebraic.graphFacts, frame_kernel, frame_ideal, frame_ideal_graph, frame_reference, frame_reference_graph, trivial, Cert.Algebraic.algebraic⟩

end Cert.Proof

end
